-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v11)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v11) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v69) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)) →
    ∃ (v0 : (c : Dev Cert.KernelDownIdeal.nD) → Buf (Elt Ideal) ((c.tc : Thread Cert.KernelDownIdeal.nD Cert.KernelDownIdeal.τ).loc Cert.KernelDownIdeal.main_v6)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v6) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v41) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v3)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v3) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v42) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v3_0)) (v1 : (c : Dev Cert.KernelGateIdeal.nD) → Buf (Elt Ideal) ((c.tc : Thread Cert.KernelGateIdeal.nD Cert.KernelGateIdeal.τ).loc Cert.KernelGateIdeal.main_v3_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v3_0) = v0 c
          ∧ r.2.mem ((c.tc : Thread Cert.KernelGateIdeal.nD Cert.KernelGateIdeal.τ).loc Cert.KernelGateIdeal.main_v3_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v123) = v0 c
          ∧ r.2.mem ((c.tc : Thread Cert.ReferenceGateIdeal.nD Cert.ReferenceGateIdeal.τ).loc Cert.ReferenceGateIdeal.main_v125) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v40) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v5)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v5) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v41) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v8)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v8) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v121) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelAct : Cert.KernelAct.Facts) (hKernelActIdeal : Cert.KernelActIdeal.Facts) (hReferenceActIdeal : Cert.ReferenceActIdeal.Facts) (hKernelGate : Cert.KernelGate.Facts) (hKernelGateIdeal : Cert.KernelGateIdeal.Facts) (hReferenceGateIdeal : Cert.ReferenceGateIdeal.Facts) (hKernelOut : Cert.KernelOut.Facts) (hKernelOutIdeal : Cert.KernelOutIdeal.Facts) (hReferenceOutIdeal : Cert.ReferenceOutIdeal.Facts) (hKernelMerge : Cert.KernelMerge.Facts) (hKernelMergeIdeal : Cert.KernelMergeIdeal.Facts) (hReferenceMergeIdeal : Cert.ReferenceMergeIdeal.Facts) (hKernelIn : Cert.KernelIn.Facts) (hKernelInIdeal : Cert.KernelInIdeal.Facts) (hReferenceInIdeal : Cert.ReferenceInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelAct_KernelActIdeal
    ∧ algebraic_KernelActIdeal_ReferenceActIdeal (hKernelActIdeal := hKernelActIdeal) (hReferenceActIdeal := hReferenceActIdeal)
    ∧ preserves_KernelGate_KernelGateIdeal
    ∧ algebraic_KernelGateIdeal_ReferenceGateIdeal (hKernelGateIdeal := hKernelGateIdeal) (hReferenceGateIdeal := hReferenceGateIdeal)
    ∧ preserves_KernelOut_KernelOutIdeal
    ∧ algebraic_KernelOutIdeal_ReferenceOutIdeal (hKernelOutIdeal := hKernelOutIdeal) (hReferenceOutIdeal := hReferenceOutIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelIn_KernelInIdeal
    ∧ algebraic_KernelInIdeal_ReferenceInIdeal (hKernelInIdeal := hKernelInIdeal) (hReferenceInIdeal := hReferenceInIdeal)
-- ==== Pre_finite.lean ====
abbrev S8x2048x5120 : Shape := ⟨3, ![8, 2048, 5120]⟩
abbrev S8x256x5120 : Shape := ⟨3, ![8, 256, 5120]⟩
abbrev S4x64 : Shape := ⟨2, ![4, 64]⟩
abbrev S128 : Shape := ⟨1, ![128]⟩
abbrev S_ : Shape := ⟨0, ![]⟩

class Facts : Prop where
  bcast_S_S8x2048x5120 : S_.BroadcastsInDim S8x2048x5120 (![] : Fin 0 → Fin S8x2048x5120.rank)
  reducesTo_S8x2048x5120_S_d0_1_2 : S8x2048x5120.ReducesTo [0, 1, 2] S_
  h_S_ : 0 < S_.numel
  bcast_S_S8x256x5120 : S_.BroadcastsInDim S8x256x5120 (![] : Fin 0 → Fin S8x256x5120.rank)
  reducesTo_S8x256x5120_S_d0_1_2 : S8x256x5120.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x2048x5120 .f32) (main_arg1 : FVec F S8x256x5120 .f32) (main_arg2 : FVec F S4x64 .f32) (main_arg3 : FVec F S128 .f32) : IVec S_ 1 :=
  let main_v0 : FVec F S8x2048x5120 .f32 := Host.absf main_arg0
  let main_cst : FVec F S_ .f32 := constant S_ .f32 0x7F800000#32
  let main_v1 : FVec F S8x2048x5120 .f32 := broadcastInDim S8x2048x5120 ![] bcast_S_S8x2048x5120 main_cst
  let main_v2 : IVec S8x2048x5120 1 := cmpf .olt main_v0 main_v1
  let main_c : IVec S_ 1 := constantI S_ 1 1#1
  let main_v3 : IVec S_ 1 := (fun x v => Host.reduce IntOp.andi x v reducesTo_S8x2048x5120_S_d0_1_2 h_S_) main_v2 main_c
  let main_v4 : FVec F S8x256x5120 .f32 := Host.absf main_arg1
  let main_cst_0 : FVec F S_ .f32 := constant S_ .f32 0x7F800000#32
  let main_v5 : FVec F S8x256x5120 .f32 := broadcastInDim S8x256x5120 ![] bcast_S_S8x256x5120 main_cst_0
  let main_v6 : IVec S8x256x5120 1 := cmpf .olt main_v4 main_v5
  let main_c_1 : IVec S_ 1 := constantI S_ 1 1#1
  let main_v7 : IVec S_ 1 := (fun x v => Host.reduce IntOp.andi x v reducesTo_S8x256x5120_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S8x2048x5120 : Shape := ⟨3, ![8, 2048, 5120]⟩
abbrev S8x256x5120 : Shape := ⟨3, ![8, 256, 5120]⟩
abbrev S4x64 : Shape := ⟨2, ![4, 64]⟩
abbrev S128 : Shape := ⟨1, ![128]⟩
abbrev S1x128 : Shape := ⟨2, ![1, 128]⟩
abbrev S8x2048x1536 : Shape := ⟨3, ![8, 2048, 1536]⟩
abbrev S8x256x1536 : Shape := ⟨3, ![8, 256, 1536]⟩
abbrev S1x2048x128 : Shape := ⟨3, ![1, 2048, 128]⟩
abbrev S1x256x128 : Shape := ⟨3, ![1, 256, 128]⟩
abbrev S1x64 : Shape := ⟨2, ![1, 64]⟩
abbrev S1 : Shape := ⟨1, ![1]⟩
abbrev S1x1 : Shape := ⟨2, ![1, 1]⟩
abbrev S128x128 : Shape := ⟨2, ![128, 128]⟩
abbrev S256x128 : Shape := ⟨2, ![256, 128]⟩
abbrev S1x1x1 : Shape := ⟨3, ![1, 1, 1]⟩
abbrev S2048x128 : Shape := ⟨2, ![2048, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x5120, .f32⟩
  | .hbm, ⟨1, _⟩ => ⟨S8x256x5120, .f32⟩
  | .hbm, ⟨2, _⟩ => ⟨S4x64, .f32⟩
  | .hbm, ⟨3, _⟩ => ⟨S128, .f32⟩
  | .hbm, ⟨4, _⟩ => ⟨S8x2048x5120, .bf16⟩
  | .hbm, ⟨5, _⟩ => ⟨S8x256x5120, .bf16⟩
  | .hbm, ⟨6, _⟩ => ⟨S1x128, .f32⟩
  | .hbm, ⟨7, _⟩ => ⟨S8x2048x1536, .bf16⟩
  | .hbm, ⟨8, _⟩ => ⟨S8x256x1536, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S4x64, .f32⟩
  | .local _ .vmem, ⟨13, _⟩ => ⟨S1x128, .f32⟩
  | .local _ .vmem, ⟨14, _⟩ => ⟨S1x2048x128, .bf16⟩
  | .local _ .vmem, ⟨15, _⟩ => ⟨S1x2048x128, .bf16⟩
  | .local _ .vmem, ⟨16, _⟩ => ⟨S1x256x128, .bf16⟩
  | .local _ .vmem, ⟨17, _⟩ => ⟨S1x256x128, .bf16⟩
  | _, _ => ⟨S8x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 12], ![false, false]⟩

def k0_mult1 : BitVec 32 :=
  let c0_i32_60 : BitVec 32 := 0#32
  let c512_i32 : BitVec 32 := 512#32
  let v124 : BitVec 32 := Scalar.muli c0_i32_60 c512_i32
  v124
def k0_off1 (c0_i32_60 : BitVec 32) : Fin 3 → Nat :=
  let c0_61 : Index := 0#32
  let c512_i32 : BitVec 32 := 512#32
  let v124 : BitVec 32 := Scalar.muli c0_i32_60 c512_i32
  let v125 : BitVec 32 := v124
  let v126 : Index := Scalar.indexCast v125
  let c0_62 : Index := 0#32
  ![0, v126.toNat, 0]
def k0_mult2 : BitVec 32 :=
  let c1_i32 : BitVec 32 := 1#32
  let c512_i32_111 : BitVec 32 := 512#32
  let v213 : BitVec 32 := Scalar.muli c1_i32 c512_i32_111
  v213
def k0_mult3 : BitVec 32 :=
  let c2_i32 : BitVec 32 := 2#32
  let c512_i32_162 : BitVec 32 := 512#32
  let v302 : BitVec 32 := Scalar.muli c2_i32 c512_i32_162
  v302
def k0_mult4 : BitVec 32 :=
  let c3_i32 : BitVec 32 := 3#32
  let c512_i32_213 : BitVec 32 := 512#32
  let v391 : BitVec 32 := Scalar.muli c3_i32 c512_i32_213
  v391
@[reducible] def k0_t1_loop : Scf.Loop 32 :=
  let c0_i32_62 : BitVec 32 := 0#32
  let c4_i32 : BitVec 32 := 4#32
  let v132 : BitVec 32 := Scalar.addi c0_i32_62 c4_i32
  let c1_i32 : BitVec 32 := 1#32
  ⟨c0_i32_62, v132, c1_i32⟩
def k0_mult5 (k0_t1 : Fin k0_t1_loop.trips) : BitVec 32 :=
  let c0_i32_62 : BitVec 32 := 0#32
  let c1_i32 : BitVec 32 := 1#32
  let arg12 : BitVec 32 := Scf.iv c0_i32_62 c1_i32 k0_t1
  let c512_i32 : BitVec 32 := 512#32
  let v133 : BitVec 32 := Scalar.muli arg12 c512_i32
  v133
def k0_off2 (k0_t1 : Fin k0_t1_loop.trips) : Fin 3 → Nat :=
  let c0_64 : Index := 0#32
  let c0_i32_62 : BitVec 32 := 0#32
  let c1_i32 : BitVec 32 := 1#32
  let arg12 : BitVec 32 := Scf.iv c0_i32_62 c1_i32 k0_t1
  let c512_i32 : BitVec 32 := 512#32
  let v133 : BitVec 32 := Scalar.muli arg12 c512_i32
  let v134 : BitVec 32 := v133
  let v135 : Index := Scalar.indexCast v134
  let c0_65 : Index := 0#32
  ![0, v135.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S8x2048x5120 : Shape := ⟨3, ![8, 2048, 5120]⟩
abbrev S8x256x5120 : Shape := ⟨3, ![8, 256, 5120]⟩
abbrev S4x64 : Shape := ⟨2, ![4, 64]⟩
abbrev S128 : Shape := ⟨1, ![128]⟩
abbrev S8x2048x1536 : Shape := ⟨3, ![8, 2048, 1536]⟩
abbrev S8x256x1536 : Shape := ⟨3, ![8, 256, 1536]⟩
abbrev S1x64 : Shape := ⟨2, ![1, 64]⟩
abbrev S64 : Shape := ⟨1, ![64]⟩
abbrev S_ : Shape := ⟨0, ![]⟩
abbrev S8x2048x12x128 : Shape := ⟨4, ![8, 2048, 12, 128]⟩
abbrev S8x12x2048x128 : Shape := ⟨4, ![8, 12, 2048, 128]⟩
abbrev S8x12x2048x64 : Shape := ⟨4, ![8, 12, 2048, 64]⟩
abbrev S8x256x12x128 : Shape := ⟨4, ![8, 256, 12, 128]⟩
abbrev S8x12x256x128 : Shape := ⟨4, ![8, 12, 256, 128]⟩
abbrev S8x12x256x64 : Shape := ⟨4, ![8, 12, 256, 64]⟩
abbrev S8x12x2304x64 : Shape := ⟨4, ![8, 12, 2304, 64]⟩
abbrev S8x12x2304x128 : Shape := ⟨4, ![8, 12, 2304, 128]⟩
abbrev S8x12x2048x2304 : Shape := ⟨4, ![8, 12, 2048, 2304]⟩
abbrev S8x12x2048 : Shape := ⟨3, ![8, 12, 2048]⟩
abbrev S8x12x2048x1 : Shape := ⟨4, ![8, 12, 2048, 1]⟩
abbrev S1x1x1x128 : Shape := ⟨4, ![1, 1, 1, 128]⟩
abbrev S8x12x256x256 : Shape := ⟨4, ![8, 12, 256, 256]⟩
abbrev S8x12x256 : Shape := ⟨3, ![8, 12, 256]⟩
abbrev S8x12x256x1 : Shape := ⟨4, ![8, 12, 256, 1]⟩

abbrev nBuf : Space → Nat
  | .hbm => 176
  | .vmem => 0
  | .smem => 0
  | _ => 0

abbrev hbmTy0_0 (i : Nat) : BufTy := match i % 128 with
  | 0 => ⟨S8x2048x5120, .f32⟩
  | 1 => ⟨S8x256x5120, .f32⟩
  | 2 => ⟨S4x64, .f32⟩
  | 3 => ⟨S128, .f32⟩
  | 4 => ⟨S8x2048x1536, .f32⟩
  | 5 => ⟨S8x2048x1536, .f32⟩
  | 6 => ⟨S8x2048x1536, .f32⟩
  | 7 => ⟨S8x256x1536, .f32⟩
  | 8 => ⟨S8x256x1536, .f32⟩
  | 9 => ⟨S8x256x1536, .f32⟩
  | 10 => ⟨S1x64, .f32⟩
  | 11 => ⟨S64, .f32⟩
  | 12 => ⟨S1x64, .f32⟩
  | 13 => ⟨S64, .f32⟩
  | 14 => ⟨S64, .f32⟩
  | 15 => ⟨S_, .f32⟩
  | 16 => ⟨S_, .f32⟩
  | 17 => ⟨S_, .f32⟩
  | 18 => ⟨S1x64, .f32⟩
  | 19 => ⟨S64, .f32⟩
  | 20 => ⟨S1x64, .f32⟩
  | 21 => ⟨S64, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S8x2048x12x128, .f32⟩
  | 30 => ⟨S8x12x2048x128, .f32⟩
  | 31 => ⟨S8x12x2048x64, .f32⟩
  | 32 => ⟨S8x12x2048x64, .f32⟩
  | 33 => ⟨S8x2048x12x128, .f32⟩
  | 34 => ⟨S8x12x2048x128, .f32⟩
  | 35 => ⟨S8x12x2048x64, .f32⟩
  | 36 => ⟨S8x12x2048x64, .f32⟩
  | 37 => ⟨S8x256x12x128, .f32⟩
  | 38 => ⟨S8x12x256x128, .f32⟩
  | 39 => ⟨S8x12x256x64, .f32⟩
  | 40 => ⟨S8x12x256x64, .f32⟩
  | 41 => ⟨S8x256x12x128, .f32⟩
  | 42 => ⟨S8x12x256x128, .f32⟩
  | 43 => ⟨S8x12x256x64, .f32⟩
  | 44 => ⟨S8x12x256x64, .f32⟩
  | 45 => ⟨S8x2048x12x128, .f32⟩
  | 46 => ⟨S8x12x2048x128, .f32⟩
  | 47 => ⟨S8x256x12x128, .f32⟩
  | 48 => ⟨S8x12x256x128, .f32⟩
  | 49 => ⟨S8x12x2304x64, .f32⟩
  | 50 => ⟨S8x12x2304x64, .f32⟩
  | 51 => ⟨S8x12x2304x128, .f32⟩
  | 52 => ⟨S8x12x2048x2304, .f32⟩
  | 53 => ⟨S_, .f32⟩
  | 54 => ⟨S8x12x2048x2304, .f32⟩
  | 55 => ⟨S8x12x2048x2304, .f32⟩
  | 56 => ⟨S8x12x2048x2304, .f32⟩
  | 57 => ⟨S_, .f32⟩
  | 58 => ⟨S8x12x2048x2304, .f32⟩
  | 59 => ⟨S8x12x2048x2304, .f32⟩
  | 60 => ⟨S_, .f32⟩
  | 61 => ⟨S8x12x2048, .f32⟩
  | 62 => ⟨S_, .f32⟩
  | 63 => ⟨S8x12x2048, .f32⟩
  | 64 => ⟨S8x12x2048, .f32⟩
  | 65 => ⟨S8x12x2048x1, .f32⟩
  | 66 => ⟨S8x12x2048x2304, .f32⟩
  | 67 => ⟨S8x12x2048x2304, .f32⟩
  | 68 => ⟨S8x12x2048x2304, .f32⟩
  | 69 => ⟨S_, .f32⟩
  | 70 => ⟨S8x12x2048, .f32⟩
  | 71 => ⟨S8x12x2048x1, .f32⟩
  | 72 => ⟨S8x12x2048x2304, .f32⟩
  | 73 => ⟨S8x12x2048x2304, .f32⟩
  | 74 => ⟨S_, .f32⟩
  | 75 => ⟨S8x12x2048, .f32⟩
  | 76 => ⟨S_, .f32⟩
  | 77 => ⟨S8x12x2048, .f32⟩
  | 78 => ⟨S8x12x2048, .f32⟩
  | 79 => ⟨S8x12x2048x1, .f32⟩
  | 80 => ⟨S8x12x2048x2304, .f32⟩
  | 81 => ⟨S8x12x2048x2304, .f32⟩
  | 82 => ⟨S8x12x2048x2304, .f32⟩
  | 83 => ⟨S_, .f32⟩
  | 84 => ⟨S8x12x2048, .f32⟩
  | 85 => ⟨S8x12x2048x1, .f32⟩
  | 86 => ⟨S8x12x2048x2304, .f32⟩
  | 87 => ⟨S8x12x2048x2304, .f32⟩
  | 88 => ⟨S8x12x2048x2304, .f32⟩
  | 89 => ⟨S8x12x2048x2304, .f32⟩
  | 90 => ⟨S8x12x2048x2304, .f32⟩
  | 91 => ⟨S8x12x2048x128, .f32⟩
  | 92 => ⟨S8x12x2048x128, .f32⟩
  | 93 => ⟨S_, .f32⟩
  | 94 => ⟨S8x12x2048, .f32⟩
  | 95 => ⟨S8x12x2048x1, .f32⟩
  | 96 => ⟨S_, .f32⟩
  | 97 => ⟨S8x12x2048x1, .f32⟩
  | 98 => ⟨S8x12x2048x1, .f32⟩
  | 99 => ⟨S_, .f32⟩
  | 100 => ⟨S8x12x2048x1, .f32⟩
  | 101 => ⟨S8x12x2048x1, .f32⟩
  | 102 => ⟨S8x12x2048x1, .f32⟩
  | 103 => ⟨S8x12x2048x128, .f32⟩
  | 104 => ⟨S8x12x2048x128, .f32⟩
  | 105 => ⟨S1x1x1x128, .f32⟩
  | 106 => ⟨S8x12x2048x128, .f32⟩
  | 107 => ⟨S8x12x2048x128, .f32⟩
  | 108 => ⟨S_, .f32⟩
  | 109 => ⟨S8x12x2048x128, .f32⟩
  | 110 => ⟨S8x12x2048x128, .f32⟩
  | 111 => ⟨S8x2048x12x128, .f32⟩
  | 112 => ⟨S8x2048x1536, .f32⟩
  | 113 => ⟨S8x2048x1536, .bf16⟩
  | 114 => ⟨S8x12x256x256, .f32⟩
  | 115 => ⟨S_, .f32⟩
  | 116 => ⟨S8x12x256x256, .f32⟩
  | 117 => ⟨S8x12x256x256, .f32⟩
  | 118 => ⟨S8x12x256x256, .f32⟩
  | 119 => ⟨S_, .f32⟩
  | 120 => ⟨S8x12x256x256, .f32⟩
  | 121 => ⟨S8x12x256x256, .f32⟩
  | 122 => ⟨S_, .f32⟩
  | 123 => ⟨S8x12x256, .f32⟩
  | 124 => ⟨S_, .f32⟩
  | 125 => ⟨S8x12x256, .f32⟩
  | 126 => ⟨S8x12x256, .f32⟩
  | 127 => ⟨S8x12x256x1, .f32⟩
  | _ => ⟨S8x2048x5120, .f32⟩

abbrev hbmTy0_1 (i : Nat) : BufTy := match i % 128 with
  | 0 => ⟨S8x12x256x256, .f32⟩
  | 1 => ⟨S8x12x256x256, .f32⟩
  | 2 => ⟨S8x12x256x256, .f32⟩
  | 3 => ⟨S_, .f32⟩
  | 4 => ⟨S8x12x256, .f32⟩
  | 5 => ⟨S8x12x256x1, .f32⟩
  | 6 => ⟨S8x12x256x256, .f32⟩
  | 7 => ⟨S8x12x256x256, .f32⟩
  | 8 => ⟨S_, .f32⟩
  | 9 => ⟨S8x12x256, .f32⟩
  | 10 => ⟨S_, .f32⟩
  | 11 => ⟨S8x12x256, .f32⟩
  | 12 => ⟨S8x12x256, .f32⟩
  | 13 => ⟨S8x12x256x1, .f32⟩
  | 14 => ⟨S8x12x256x256, .f32⟩
  | 15 => ⟨S8x12x256x256, .f32⟩
  | 16 => ⟨S8x12x256x256, .f32⟩
  | 17 => ⟨S_, .f32⟩
  | 18 => ⟨S8x12x256, .f32⟩
  | 19 => ⟨S8x12x256x1, .f32⟩
  | 20 => ⟨S8x12x256x256, .f32⟩
  | 21 => ⟨S8x12x256x256, .f32⟩
  | 22 => ⟨S8x12x256x256, .f32⟩
  | 23 => ⟨S8x12x256x256, .f32⟩
  | 24 => ⟨S8x12x256x256, .f32⟩
  | 25 => ⟨S8x12x256x128, .f32⟩
  | 26 => ⟨S8x12x256x128, .f32⟩
  | 27 => ⟨S_, .f32⟩
  | 28 => ⟨S8x12x256, .f32⟩
  | 29 => ⟨S8x12x256x1, .f32⟩
  | 30 => ⟨S_, .f32⟩
  | 31 => ⟨S8x12x256x1, .f32⟩
  | 32 => ⟨S8x12x256x1, .f32⟩
  | 33 => ⟨S_, .f32⟩
  | 34 => ⟨S8x12x256x1, .f32⟩
  | 35 => ⟨S8x12x256x1, .f32⟩
  | 36 => ⟨S8x12x256x1, .f32⟩
  | 37 => ⟨S8x12x256x128, .f32⟩
  | 38 => ⟨S8x12x256x128, .f32⟩
  | 39 => ⟨S1x1x1x128, .f32⟩
  | 40 => ⟨S8x12x256x128, .f32⟩
  | 41 => ⟨S8x12x256x128, .f32⟩
  | 42 => ⟨S_, .f32⟩
  | 43 => ⟨S8x12x256x128, .f32⟩
  | 44 => ⟨S8x12x256x128, .f32⟩
  | 45 => ⟨S8x256x12x128, .f32⟩
  | 46 => ⟨S8x256x1536, .f32⟩
  | 47 => ⟨S8x256x1536, .bf16⟩
  | _ => ⟨S8x2048x5120, .f32⟩

abbrev hbmTy (i : Nat) : BufTy := match i / 128 with
  | 0 => hbmTy0_0 i
  | 1 => hbmTy0_1 i
  | _ => ⟨S8x2048x5120, .f32⟩

abbrev bufTy : (tb : Table) → Fin (tcTables nBuf tb) → BufTy
  | .hbm, ⟨i, _⟩ => hbmTy i
  | _, _ => ⟨S8x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_cst_5 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_10 : Ref sig .tc := ⟨.hbm, 93, rfl⟩
abbrev main_v78 : Ref sig .tc := ⟨.hbm, 94, rfl⟩
abbrev main_v79 : Ref sig .tc := ⟨.hbm, 95, rfl⟩
abbrev main_cst_11 : Ref sig .tc := ⟨.hbm, 96, rfl⟩
abbrev main_v80 : Ref sig .tc := ⟨.hbm, 97, rfl⟩
abbrev main_v81 : Ref sig .tc := ⟨.hbm, 98, rfl⟩
abbrev main_cst_12 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_13 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_14 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_15 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_18 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_19 : Ref sig .tc := ⟨.hbm, 136, rfl⟩
abbrev main_v112 : Ref sig .tc := ⟨.hbm, 137, rfl⟩
abbrev main_cst_20 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_21 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_22 : Ref sig .tc := ⟨.hbm, 155, rfl⟩
abbrev main_v128 : Ref sig .tc := ⟨.hbm, 156, rfl⟩
abbrev main_v129 : Ref sig .tc := ⟨.hbm, 157, rfl⟩
abbrev main_cst_23 : Ref sig .tc := ⟨.hbm, 158, rfl⟩
abbrev main_v130 : Ref sig .tc := ⟨.hbm, 159, rfl⟩
abbrev main_v131 : Ref sig .tc := ⟨.hbm, 160, rfl⟩
abbrev main_cst_24 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_25 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩

abbrev nD : Nat := 1
abbrev τ : Topo := Topo.v7x

variable {F : FTy → Type} [FloatOps F]
-- ==== KernelUp.lean ====
abbrev S8x2048x2048 : Shape := ⟨3, ![8, 2048, 2048]⟩
abbrev S16x12288 : Shape := ⟨2, ![16, 12288]⟩
abbrev S2048x11008 : Shape := ⟨2, ![2048, 11008]⟩
abbrev S3x5504 : Shape := ⟨2, ![3, 5504]⟩
abbrev S5504 : Shape := ⟨1, ![5504]⟩
abbrev S2048x5504 : Shape := ⟨2, ![2048, 5504]⟩
abbrev S_ : Shape := ⟨0, ![]⟩
abbrev S2048x5632 : Shape := ⟨2, ![2048, 5632]⟩
abbrev S3x5632 : Shape := ⟨2, ![3, 5632]⟩
abbrev S5632 : Shape := ⟨1, ![5632]⟩
abbrev S1x5632 : Shape := ⟨2, ![1, 5632]⟩
abbrev S16384x2048 : Shape := ⟨2, ![16384, 2048]⟩
abbrev S16x1x12288 : Shape := ⟨3, ![16, 1, 12288]⟩
abbrev S16384x5632 : Shape := ⟨2, ![16384, 5632]⟩
abbrev S1024x2048 : Shape := ⟨2, ![1024, 2048]⟩
abbrev S8x2048 : Shape := ⟨2, ![8, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S16x2048 : Shape := ⟨2, ![16, 2048]⟩
abbrev S1x2048 : Shape := ⟨2, ![1, 2048]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S1024x256 : Shape := ⟨2, ![1024, 256]⟩
abbrev S2048x256 : Shape := ⟨2, ![2048, 256]⟩
abbrev S16x256 : Shape := ⟨2, ![16, 256]⟩
abbrev S1x256 : Shape := ⟨2, ![1, 256]⟩
abbrev S3x256 : Shape := ⟨2, ![3, 256]⟩

abbrev nBuf : Space → Nat
  | .hbm => 25
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S2048x5504, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x5504, .f32⟩
  | .hbm, ⟨11, _⟩ => ⟨S2048x5504, .bf16⟩
  | .hbm, ⟨12, _⟩ => ⟨S_, .i32⟩
  | .hbm, ⟨13, _⟩ => ⟨S_, .bf16⟩
  | .hbm, ⟨14, _⟩ => ⟨S2048x5632, .bf16⟩
  | .hbm, ⟨15, _⟩ => ⟨S_, .i32⟩
  | .hbm, ⟨16, _⟩ => ⟨S_, .f32⟩
  | .hbm, ⟨17, _⟩ => ⟨S3x5632, .f32⟩
  | .hbm, ⟨18, _⟩ => ⟨S_, .i32⟩
  | .hbm, ⟨19, _⟩ => ⟨S_, .f32⟩
  | .hbm, ⟨20, _⟩ => ⟨S5632, .f32⟩
  | .hbm, ⟨21, _⟩ => ⟨S1x5632, .f32⟩
  | .hbm, ⟨22, _⟩ => ⟨S16384x2048, .f32⟩
  | .hbm, ⟨23, _⟩ => ⟨S16x1x12288, .f32⟩
  | .hbm, ⟨24, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1024x512, .bf16⟩
  | .local _ .vmem, ⟨19, _⟩ => ⟨S1024x512, .bf16⟩
  | .local _ .vmem, ⟨20, _⟩ => ⟨S1024x2048, .bf16⟩
  | .local _ .vmem, ⟨21, _⟩ => ⟨S16x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceUpIdeal.lean ====
abbrev S8x2048x2048 : Shape := ⟨3, ![8, 2048, 2048]⟩
abbrev S16x12288 : Shape := ⟨2, ![16, 12288]⟩
abbrev S2048x11008 : Shape := ⟨2, ![2048, 11008]⟩
abbrev S3x5504 : Shape := ⟨2, ![3, 5504]⟩
abbrev S5504 : Shape := ⟨1, ![5504]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S8x2048x11008 : Shape := ⟨3, ![8, 2048, 11008]⟩
abbrev S8x2048x5504 : Shape := ⟨3, ![8, 2048, 5504]⟩
abbrev S8x2050x5504 : Shape := ⟨3, ![8, 2050, 5504]⟩
abbrev S1x5504 : Shape := ⟨2, ![1, 5504]⟩
abbrev S1x1x5504 : Shape := ⟨3, ![1, 1, 5504]⟩
abbrev S16384x5504 : Shape := ⟨2, ![16384, 5504]⟩
abbrev S16384x5632 : Shape := ⟨2, ![16384, 5632]⟩

abbrev nBuf : Space → Nat
  | .hbm => 87
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x11008, .f32⟩
  | .hbm, ⟨3, _⟩ => ⟨S3x5504, .f32⟩
  | .hbm, ⟨4, _⟩ => ⟨S5504, .f32⟩
  | .hbm, ⟨5, _⟩ => ⟨S8x12288, .f32⟩
  | .hbm, ⟨6, _⟩ => ⟨S8x1x12288, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x1x2048, .f32⟩
  | .hbm, ⟨38, _⟩ => ⟨S8x1x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x11008, .f32⟩
  | .hbm, ⟨44, _⟩ => ⟨S8x2048x5504, .f32⟩
  | .hbm, ⟨45, _⟩ => ⟨S8x2048x5504, .f32⟩
  | .hbm, ⟨46, _⟩ => ⟨S_, .i32⟩
  | .hbm, ⟨47, _⟩ => ⟨S_, .f32⟩
  | .hbm, ⟨48, _⟩ => ⟨S8x2050x5504, .f32⟩
  | .hbm, ⟨49, _⟩ => ⟨S8x2048x5504, .f32⟩
  | .hbm, ⟨50, _⟩ => ⟨S1x5504, .f32⟩
  | .hbm, ⟨51, _⟩ => ⟨S5504, .f32⟩
  | .hbm, ⟨52, _⟩ => ⟨S1x1x5504, .f32⟩
  | .hbm, ⟨53, _⟩ => ⟨S8x2048x5504, .f32⟩
  | .hbm, ⟨54, _⟩ => ⟨S8x2048x5504, .f32⟩
  | .hbm, ⟨55, _⟩ => ⟨S1x1x5504, .f32⟩
  | .hbm, ⟨56, _⟩ => ⟨S8x2048x5504, .f32⟩
  | .hbm, ⟨57, _⟩ => ⟨S8x2048x5504, .f32⟩
  | .hbm, ⟨58, _⟩ => ⟨S8x2048x5504, .f32⟩
  | .hbm, ⟨59, _⟩ => ⟨S1x5504, .f32⟩
  | .hbm, ⟨60, _⟩ => ⟨S5504, .f32⟩
  | .hbm, ⟨61, _⟩ => ⟨S1x1x5504, .f32⟩
  | .hbm, ⟨62, _⟩ => ⟨S8x2048x5504, .f32⟩
  | .hbm, ⟨63, _⟩ => ⟨S8x2048x5504, .f32⟩
  | .hbm, ⟨64, _⟩ => ⟨S8x2048x5504, .f32⟩
  | .hbm, ⟨65, _⟩ => ⟨S8x2048x5504, .f32⟩
  | .hbm, ⟨66, _⟩ => ⟨S1x5504, .f32⟩
  | .hbm, ⟨67, _⟩ => ⟨S5504, .f32⟩
  | .hbm, ⟨68, _⟩ => ⟨S1x1x5504, .f32⟩
  | .hbm, ⟨69, _⟩ => ⟨S8x2048x5504, .f32⟩
  | .hbm, ⟨70, _⟩ => ⟨S8x2048x5504, .f32⟩
  | .hbm, ⟨71, _⟩ => ⟨S8x2048x5504, .f32⟩
  | .hbm, ⟨72, _⟩ => ⟨S_, .f32⟩
  | .hbm, ⟨73, _⟩ => ⟨S8x2048x5504, .f32⟩
  | .hbm, ⟨74, _⟩ => ⟨S8x2048x5504, .f32⟩
  | .hbm, ⟨75, _⟩ => ⟨S8x2048x5504, .f32⟩
  | .hbm, ⟨76, _⟩ => ⟨S_, .f32⟩
  | .hbm, ⟨77, _⟩ => ⟨S8x2048x5504, .f32⟩
  | .hbm, ⟨78, _⟩ => ⟨S8x2048x5504, .f32⟩
  | .hbm, ⟨79, _⟩ => ⟨S8x2048x5504, .f32⟩
  | .hbm, ⟨80, _⟩ => ⟨S8x2048x5504, .f32⟩
  | .hbm, ⟨81, _⟩ => ⟨S8x2048x5504, .f32⟩
  | .hbm, ⟨82, _⟩ => ⟨S16384x5504, .f32⟩
  | .hbm, ⟨83, _⟩ => ⟨S_, .i32⟩
  | .hbm, ⟨84, _⟩ => ⟨S_, .f32⟩
  | .hbm, ⟨85, _⟩ => ⟨S16384x5632, .f32⟩
  | .hbm, ⟨86, _⟩ => ⟨S16384x5632, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_c_7 : Ref sig .tc := ⟨.hbm, 83, rfl⟩
abbrev main_call1_v0 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== KernelDown.lean ====
abbrev S16384x5632 : Shape := ⟨2, ![16384, 5632]⟩
abbrev S8x2048x2048 : Shape := ⟨3, ![8, 2048, 2048]⟩
abbrev S16x12288 : Shape := ⟨2, ![16, 12288]⟩
abbrev S5504x2048 : Shape := ⟨2, ![5504, 2048]⟩
abbrev S2048 : Shape := ⟨1, ![2048]⟩
abbrev S_ : Shape := ⟨0, ![]⟩
abbrev S5632x2048 : Shape := ⟨2, ![5632, 2048]⟩
abbrev S16384x2048 : Shape := ⟨2, ![16384, 2048]⟩
abbrev S16x1x12288 : Shape := ⟨3, ![16, 1, 12288]⟩
abbrev S1x2048 : Shape := ⟨2, ![1, 2048]⟩
abbrev S1024x1408 : Shape := ⟨2, ![1024, 1408]⟩
abbrev S1408x2048 : Shape := ⟨2, ![1408, 2048]⟩
abbrev S1024x2048 : Shape := ⟨2, ![1024, 2048]⟩
abbrev S1x1x2048 : Shape := ⟨3, ![1, 1, 2048]⟩
abbrev S1408x512 : Shape := ⟨2, ![1408, 512]⟩
abbrev S1024x512 : Shape := ⟨2, ![1024, 512]⟩
abbrev S512x1408 : Shape := ⟨2, ![512, 1408]⟩
abbrev S512x512 : Shape := ⟨2, ![512, 512]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x5632, .bf16⟩
  | .hbm, ⟨1, _⟩ => ⟨S8x2048x2048, .f32⟩
  | .hbm, ⟨2, _⟩ => ⟨S16x12288, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S5504x2048, .bf16⟩
  | .hbm, ⟨7, _⟩ => ⟨S_, .i32⟩
  | .hbm, ⟨8, _⟩ => ⟨S_, .bf16⟩
  | .hbm, ⟨9, _⟩ => ⟨S5632x2048, .bf16⟩
  | .hbm, ⟨10, _⟩ => ⟨S16384x2048, .f32⟩
  | .hbm, ⟨11, _⟩ => ⟨S16x1x12288, .f32⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceDownIdeal.lean ====
abbrev S16384x5632 : Shape := ⟨2, ![16384, 5632]⟩
abbrev S8x2048x2048 : Shape := ⟨3, ![8, 2048, 2048]⟩
abbrev S16x12288 : Shape := ⟨2, ![16, 12288]⟩
abbrev S5504x2048 : Shape := ⟨2, ![5504, 2048]⟩
abbrev S2048 : Shape := ⟨1, ![2048]⟩
abbrev S8x12288 : Shape := ⟨2, ![8, 12288]⟩
abbrev S8x1x12288 : Shape := ⟨3, ![8, 1, 12288]⟩
abbrev S8x1x2048 : Shape := ⟨3, ![8, 1, 2048]⟩
abbrev S16384x5504 : Shape := ⟨2, ![16384, 5504]⟩
abbrev S8x2048x5504 : Shape := ⟨3, ![8, 2048, 5504]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S8x2048x2048, .f32⟩
  | .hbm, ⟨2, _⟩ => ⟨S16x12288, .f32⟩
  | .hbm, ⟨3, _⟩ => ⟨S5504x2048, .f32⟩
  | .hbm, ⟨4, _⟩ => ⟨S2048, .f32⟩
  | .hbm, ⟨5, _⟩ => ⟨S2048, .f32⟩
  | .hbm, ⟨6, _⟩ => ⟨S8x12288, .f32⟩
  | .hbm, ⟨7, _⟩ => ⟨S8x1x12288, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S16384x5504, .bf16⟩
  | .hbm, ⟨15, _⟩ => ⟨S16384x5504, .f32⟩
  | .hbm, ⟨16, _⟩ => ⟨S8x2048x5504, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S1x1x2048, .f32⟩
  | .hbm, ⟨51, _⟩ => ⟨S8x2048x2048, .f32⟩
  | .hbm, ⟨52, _⟩ => ⟨S8x2048x2048, .f32⟩
  | .hbm, ⟨53, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== KernelAct.lean ====
abbrev S8x2048x2048 : Shape := ⟨3, ![8, 2048, 2048]⟩
abbrev S16x12288 : Shape := ⟨2, ![16, 12288]⟩
abbrev S2048x10240 : Shape := ⟨2, ![2048, 10240]⟩
abbrev S16384x2048 : Shape := ⟨2, ![16384, 2048]⟩
abbrev S16x1x12288 : Shape := ⟨3, ![16, 1, 12288]⟩
abbrev S16384x6144 : Shape := ⟨2, ![16384, 6144]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S2048x256 : Shape := ⟨2, ![2048, 256]⟩
abbrev S1024x256 : Shape := ⟨2, ![1024, 256]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x10240, .f32⟩
  | .hbm, ⟨3, _⟩ => ⟨S16384x2048, .f32⟩
  | .hbm, ⟨4, _⟩ => ⟨S16x1x12288, .f32⟩
  | .hbm, ⟨5, _⟩ => ⟨S2048x10240, .bf16⟩
  | .hbm, ⟨6, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c2_i32 : BitVec 32 := 2#32
  let v3 : BitVec 1 := Scalar.cmpi .sge arg1 c2_i32
  let c4_i32 : BitVec 32 := 4#32
  let v4 : BitVec 1 := Scalar.cmpi .slt arg1 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c2_i32 : BitVec 32 := 2#32
  let v3 : BitVec 1 := Scalar.cmpi .sge arg1 c2_i32
  let c4_i32 : BitVec 32 := 4#32
  let v4 : BitVec 1 := Scalar.cmpi .slt arg1 c4_i32
  let v5 : BitVec 1 := Scalar.andi v3 v4
  let v_true : BitVec 1 := 1#1
  let v8 : BitVec 1 := Scalar.xori v5 v_true
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c4_i32 : BitVec 32 := 4#32
  let v1 : BitVec 32 := Scalar.addi arg1 c4_i32
  let v2 : BitVec 32 := Scalar.select v0 arg1 v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceActIdeal.lean ====
abbrev S8x2048x2048 : Shape := ⟨3, ![8, 2048, 2048]⟩
abbrev S16x12288 : Shape := ⟨2, ![16, 12288]⟩
abbrev S2048x10240 : Shape := ⟨2, ![2048, 10240]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S8x2048x10240 : Shape := ⟨3, ![8, 2048, 10240]⟩
abbrev S8x2048x6144 : Shape := ⟨3, ![8, 2048, 6144]⟩
abbrev S16384x6144 : Shape := ⟨2, ![16384, 6144]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x10240, .f32⟩
  | .hbm, ⟨3, _⟩ => ⟨S8x12288, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x10240, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x6144, .f32⟩
  | .hbm, ⟨66, _⟩ => ⟨S16384x6144, .f32⟩
  | .hbm, ⟨67, _⟩ => ⟨S16384x6144, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== KernelGate.lean ====
abbrev S8x2048x2048 : Shape := ⟨3, ![8, 2048, 2048]⟩
abbrev S16x12288 : Shape := ⟨2, ![16, 12288]⟩
abbrev S2048x10240 : Shape := ⟨2, ![2048, 10240]⟩
abbrev S2x2x2048 : Shape := ⟨3, ![2, 2, 2048]⟩
abbrev S16384x2048 : Shape := ⟨2, ![16384, 2048]⟩
abbrev S16x1x12288 : Shape := ⟨3, ![16, 1, 12288]⟩
abbrev S16384x4096 : Shape := ⟨2, ![16384, 4096]⟩
abbrev S1024x2048 : Shape := ⟨2, ![1024, 2048]⟩
abbrev S1x1x2048 : Shape := ⟨3, ![1, 1, 2048]⟩
abbrev S2048x1024 : Shape := ⟨2, ![2048, 1024]⟩
abbrev S1x2x1024 : Shape := ⟨3, ![1, 2, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S1x2x256 : Shape := ⟨3, ![1, 2, 256]⟩
abbrev S2x256 : Shape := ⟨2, ![2, 256]⟩
abbrev S256 : Shape := ⟨1, ![256]⟩
abbrev S1x256 : Shape := ⟨2, ![1, 256]⟩
abbrev S2048x256 : Shape := ⟨2, ![2048, 256]⟩
abbrev S1024x256 : Shape := ⟨2, ![1024, 256]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x10240, .f32⟩
  | .hbm, ⟨3, _⟩ => ⟨S2x2x2048, .f32⟩
  | .hbm, ⟨4, _⟩ => ⟨S16384x2048, .f32⟩
  | .hbm, ⟨5, _⟩ => ⟨S16x1x12288, .f32⟩
  | .hbm, ⟨6, _⟩ => ⟨S2048x10240, .bf16⟩
  | .hbm, ⟨7, _⟩ => ⟨S16384x4096, .bf16⟩
  | .hbm, ⟨8, _⟩ => ⟨S16384x4096, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x2x1024, .f32⟩
  | .local _ .vmem, ⟨9, _⟩ => ⟨S1x2x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceGateIdeal.lean ====
abbrev S8x2048x2048 : Shape := ⟨3, ![8, 2048, 2048]⟩
abbrev S16x12288 : Shape := ⟨2, ![16, 12288]⟩
abbrev S2048x10240 : Shape := ⟨2, ![2048, 10240]⟩
abbrev S2x2x2048 : Shape := ⟨3, ![2, 2, 2048]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S8x2048x10240 : Shape := ⟨3, ![8, 2048, 10240]⟩
abbrev S2x2048 : Shape := ⟨2, ![2, 2048]⟩
abbrev S2x1x2048 : Shape := ⟨3, ![2, 1, 2048]⟩
abbrev S1x2048 : Shape := ⟨2, ![1, 2048]⟩
abbrev S2048 : Shape := ⟨1, ![2048]⟩
abbrev S1x1x2048 : Shape := ⟨3, ![1, 1, 2048]⟩
abbrev S8x2048x4096 : Shape := ⟨3, ![8, 2048, 4096]⟩
abbrev S16384x4096 : Shape := ⟨2, ![16384, 4096]⟩

abbrev nBuf : Space → Nat
  | .hbm => 153
  | .vmem => 0
  | .smem => 0
  | _ => 0

abbrev hbmTy0_0 (i : Nat) : BufTy := match i % 128 with
  | 0 => ⟨S8x2048x2048, .f32⟩
  | 1 => ⟨S16x12288, .f32⟩
  | 2 => ⟨S2048x10240, .f32⟩
  | 3 => ⟨S2x2x2048, .f32⟩
  | 4 => ⟨S8x12288, .f32⟩
  | 5 => ⟨S8x1x12288, .f32⟩
  | 6 => ⟨S8x1x2048, .f32⟩
  | 7 => ⟨S8x1x2048, .f32⟩
  | 8 => ⟨S8x1x2048, .f32⟩
  | 9 => ⟨S8x1x2048, .f32⟩
  | 10 => ⟨S8x1x2048, .f32⟩
  | 11 => ⟨S8x1x2048, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S8x2048x2048, .f32⟩
  | 19 => ⟨S8x2048x2048, .f32⟩
  | 20 => ⟨S8x2048x2048, .f32⟩
  | 21 => ⟨S_, .f32⟩
  | 22 => ⟨S8x2048, .f32⟩
  | 23 => ⟨S8x2048x1, .f32⟩
  | 24 => ⟨S_, .f32⟩
  | 25 => ⟨S8x2048x1, .f32⟩
  | 26 => ⟨S8x2048x1, .f32⟩
  | 27 => ⟨S8x2048x2048, .f32⟩
  | 28 => ⟨S8x2048x2048, .f32⟩
  | 29 => ⟨S_, .f32⟩
  | 30 => ⟨S8x2048x1, .f32⟩
  | 31 => ⟨S8x2048x1, .f32⟩
  | 32 => ⟨S8x2048x1, .f32⟩
  | 33 => ⟨S8x2048x2048, .f32⟩
  | 34 => ⟨S8x2048x2048, .f32⟩
  | 35 => ⟨S_, .f32⟩
  | 36 => ⟨S8x1x2048, .f32⟩
  | 37 => ⟨S8x1x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x10240, .f32⟩
  | 43 => ⟨S8x2048x2048, .f32⟩
  | 44 => ⟨S8x2048x2048, .f32⟩
  | 45 => ⟨S8x2048x2048, .f32⟩
  | 46 => ⟨S8x2048x2048, .f32⟩
  | 47 => ⟨S8x2048x2048, .f32⟩
  | 48 => ⟨S_, .f32⟩
  | 49 => ⟨S2x2048, .f32⟩
  | 50 => ⟨S_, .f32⟩
  | 51 => ⟨S2x2048, .f32⟩
  | 52 => ⟨S2x2048, .f32⟩
  | 53 => ⟨S2x1x2048, .f32⟩
  | 54 => ⟨S2x2x2048, .f32⟩
  | 55 => ⟨S2x2x2048, .f32⟩
  | 56 => ⟨S2x2x2048, .f32⟩
  | 57 => ⟨S_, .f32⟩
  | 58 => ⟨S2x2048, .f32⟩
  | 59 => ⟨S2x1x2048, .f32⟩
  | 60 => ⟨S2x2x2048, .f32⟩
  | 61 => ⟨S2x2x2048, .f32⟩
  | 62 => ⟨S_, .f32⟩
  | 63 => ⟨S_, .f32⟩
  | 64 => ⟨S2x2x2048, .f32⟩
  | 65 => ⟨S2x1x2048, .f32⟩
  | 66 => ⟨S2x2x2048, .f32⟩
  | 67 => ⟨S2x2x2048, .f32⟩
  | 68 => ⟨S2x1x2048, .f32⟩
  | 69 => ⟨S2x2048, .f32⟩
  | 70 => ⟨S1x2048, .f32⟩
  | 71 => ⟨S2048, .f32⟩
  | 72 => ⟨S1x2048, .f32⟩
  | 73 => ⟨S2048, .f32⟩
  | 74 => ⟨S_, .f32⟩
  | 75 => ⟨S2048, .f32⟩
  | 76 => ⟨S2048, .f32⟩
  | 77 => ⟨S8x2048x2048, .f32⟩
  | 78 => ⟨S8x2048x2048, .f32⟩
  | 79 => ⟨S_, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .f32⟩
  | 85 => ⟨S1x1x2048, .f32⟩
  | 86 => ⟨S8x2048x2048, .f32⟩
  | 87 => ⟨S8x2048x2048, .f32⟩
  | 88 => ⟨S1x1x2048, .f32⟩
  | 89 => ⟨S8x2048x2048, .f32⟩
  | 90 => ⟨S8x2048x2048, .f32⟩
  | 91 => ⟨S8x2048x2048, .f32⟩
  | 92 => ⟨S1x2048, .f32⟩
  | 93 => ⟨S2048, .f32⟩
  | 94 => ⟨S_, .f32⟩
  | 95 => ⟨S2048, .f32⟩
  | 96 => ⟨S2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S_, .f32⟩
  | 104 => ⟨S8x2048x2048, .f32⟩
  | 105 => ⟨S8x2048x2048, .f32⟩
  | 106 => ⟨S1x1x2048, .f32⟩
  | 107 => ⟨S8x2048x2048, .f32⟩
  | 108 => ⟨S8x2048x2048, .f32⟩
  | 109 => ⟨S1x2048, .f32⟩
  | 110 => ⟨S2048, .f32⟩
  | 111 => ⟨S1x2048, .f32⟩
  | 112 => ⟨S2048, .f32⟩
  | 113 => ⟨S_, .f32⟩
  | 114 => ⟨S2048, .f32⟩
  | 115 => ⟨S2048, .f32⟩
  | 116 => ⟨S8x2048x2048, .f32⟩
  | 117 => ⟨S8x2048x2048, .f32⟩
  | 118 => ⟨S_, .f32⟩
  | 119 => ⟨S8x2048x2048, .f32⟩
  | 120 => ⟨S8x2048x2048, .f32⟩
  | 121 => ⟨S_, .f32⟩
  | 122 => ⟨S8x2048x2048, .f32⟩
  | 123 => ⟨S8x2048x2048, .f32⟩
  | 124 => ⟨S1x1x2048, .f32⟩
  | 125 => ⟨S8x2048x2048, .f32⟩
  | 126 => ⟨S8x2048x2048, .f32⟩
  | 127 => ⟨S1x1x2048, .f32⟩
  | _ => ⟨S8x2048x2048, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S1x2048, .f32⟩
  | 4 => ⟨S2048, .f32⟩
  | 5 => ⟨S_, .f32⟩
  | 6 => ⟨S2048, .f32⟩
  | 7 => ⟨S2048, .f32⟩
  | 8 => ⟨S8x2048x2048, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S_, .f32⟩
  | 15 => ⟨S8x2048x2048, .f32⟩
  | 16 => ⟨S8x2048x2048, .f32⟩
  | 17 => ⟨S1x1x2048, .f32⟩
  | 18 => ⟨S8x2048x2048, .f32⟩
  | 19 => ⟨S8x2048x2048, .f32⟩
  | 20 => ⟨S8x2048x4096, .f32⟩
  | 21 => ⟨S16384x4096, .f32⟩
  | 22 => ⟨S16384x4096, .bf16⟩
  | 23 => ⟨S8x2048x4096, .f32⟩
  | 24 => ⟨S16384x4096, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_call0_cst : Ref sig .tc := ⟨.hbm, 62, rfl⟩
abbrev main_call0_call0_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_cst_13 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_14 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_18 : Ref sig .tc := ⟨.hbm, 139, rfl⟩
abbrev main_v114 : Ref sig .tc := ⟨.hbm, 140, rfl⟩
abbrev main_v115 : Ref sig .tc := ⟨.hbm, 141, rfl⟩
abbrev main_cst_19 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩

abbrev nD : Nat := 1
abbrev τ : Topo := Topo.v7x

variable {F : FTy → Type} [FloatOps F]
-- ==== KernelOut.lean ====
abbrev S16384x2048 : Shape := ⟨2, ![16384, 2048]⟩
abbrev S8x2048x2048 : Shape := ⟨3, ![8, 2048, 2048]⟩
abbrev S16x12288 : Shape := ⟨2, ![16, 12288]⟩
abbrev S2048x2048 : Shape := ⟨2, ![2048, 2048]⟩
abbrev S2048 : Shape := ⟨1, ![2048]⟩
abbrev S16x1x12288 : Shape := ⟨3, ![16, 1, 12288]⟩
abbrev S1x2048 : Shape := ⟨2, ![1, 2048]⟩
abbrev S512x2048 : Shape := ⟨2, ![512, 2048]⟩
abbrev S1x1x2048 : Shape := ⟨3, ![1, 1, 2048]⟩
abbrev S256x2048 : Shape := ⟨2, ![256, 2048]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S16x12288, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S16384x2048, .f32⟩
  | .hbm, ⟨8, _⟩ => ⟨S16x1x12288, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceOutIdeal.lean ====
abbrev S16384x2048 : Shape := ⟨2, ![16384, 2048]⟩
abbrev S8x2048x2048 : Shape := ⟨3, ![8, 2048, 2048]⟩
abbrev S16x12288 : Shape := ⟨2, ![16, 12288]⟩
abbrev S2048x2048 : Shape := ⟨2, ![2048, 2048]⟩
abbrev S2048 : Shape := ⟨1, ![2048]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x2048x2048, .f32⟩
  | .hbm, ⟨2, _⟩ => ⟨S16x12288, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x12288, .f32⟩
  | .hbm, ⟨7, _⟩ => ⟨S8x1x12288, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S16384x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== KernelMerge.lean ====
abbrev S16384x1536 : Shape := ⟨2, ![16384, 1536]⟩
abbrev S16384x512 : Shape := ⟨2, ![16384, 512]⟩
abbrev S8x2048x2048 : Shape := ⟨3, ![8, 2048, 2048]⟩
abbrev S16x12288 : Shape := ⟨2, ![16, 12288]⟩
abbrev S2048x2048 : Shape := ⟨2, ![2048, 2048]⟩
abbrev S2048 : Shape := ⟨1, ![2048]⟩
abbrev S16384x2048 : Shape := ⟨2, ![16384, 2048]⟩
abbrev S16x1x12288 : Shape := ⟨3, ![16, 1, 12288]⟩
abbrev S1x2048 : Shape := ⟨2, ![1, 2048]⟩
abbrev S512x1536 : Shape := ⟨2, ![512, 1536]⟩
abbrev S512x512 : Shape := ⟨2, ![512, 512]⟩
abbrev S1536x2048 : Shape := ⟨2, ![1536, 2048]⟩
abbrev S512x2048 : Shape := ⟨2, ![512, 2048]⟩
abbrev S1x1x2048 : Shape := ⟨3, ![1, 1, 2048]⟩
abbrev S256x1536 : Shape := ⟨2, ![256, 1536]⟩
abbrev S1536x512 : Shape := ⟨2, ![1536, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S8x2048x2048, .f32⟩
  | .hbm, ⟨3, _⟩ => ⟨S16x12288, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S16384x2048, .f32⟩
  | .hbm, ⟨9, _⟩ => ⟨S16x1x12288, .f32⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceMergeIdeal.lean ====
abbrev S16384x1536 : Shape := ⟨2, ![16384, 1536]⟩
abbrev S16384x512 : Shape := ⟨2, ![16384, 512]⟩
abbrev S8x2048x2048 : Shape := ⟨3, ![8, 2048, 2048]⟩
abbrev S16x12288 : Shape := ⟨2, ![16, 12288]⟩
abbrev S2048x2048 : Shape := ⟨2, ![2048, 2048]⟩
abbrev S2048 : Shape := ⟨1, ![2048]⟩
abbrev S8x12288 : Shape := ⟨2, ![8, 12288]⟩
abbrev S8x1x12288 : Shape := ⟨3, ![8, 1, 12288]⟩
abbrev S8x1x2048 : Shape := ⟨3, ![8, 1, 2048]⟩
abbrev S16384x2048 : Shape := ⟨2, ![16384, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x512, .bf16⟩
  | .hbm, ⟨2, _⟩ => ⟨S8x2048x2048, .f32⟩
  | .hbm, ⟨3, _⟩ => ⟨S16x12288, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S8x12288, .f32⟩
  | .hbm, ⟨8, _⟩ => ⟨S8x1x12288, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S16384x2048, .bf16⟩
  | .hbm, ⟨16, _⟩ => ⟨S16384x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S1x1x2048, .f32⟩
  | .hbm, ⟨49, _⟩ => ⟨S8x2048x2048, .f32⟩
  | .hbm, ⟨50, _⟩ => ⟨S8x2048x2048, .f32⟩
  | .hbm, ⟨51, _⟩ => ⟨S1x1x2048, .f32⟩
  | .hbm, ⟨52, _⟩ => ⟨S8x2048x2048, .f32⟩
  | .hbm, ⟨53, _⟩ => ⟨S8x2048x2048, .f32⟩
  | .hbm, ⟨54, _⟩ => ⟨S16384x2048, .f32⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== KernelIn.lean ====
abbrev S8x2048x2048 : Shape := ⟨3, ![8, 2048, 2048]⟩
abbrev S16x12288 : Shape := ⟨2, ![16, 12288]⟩
abbrev S2048x5120 : Shape := ⟨2, ![2048, 5120]⟩
abbrev S2048x16 : Shape := ⟨2, ![2048, 16]⟩
abbrev S2048x128 : Shape := ⟨2, ![2048, 128]⟩
abbrev S_ : Shape := ⟨0, ![]⟩
abbrev S1x5120 : Shape := ⟨2, ![1, 5120]⟩
abbrev S16384x2048 : Shape := ⟨2, ![16384, 2048]⟩
abbrev S16x1x12288 : Shape := ⟨3, ![16, 1, 12288]⟩
abbrev S16384x5120 : Shape := ⟨2, ![16384, 5120]⟩
abbrev S1024x2048 : Shape := ⟨2, ![1024, 2048]⟩
abbrev S1x1x2048 : Shape := ⟨3, ![1, 1, 2048]⟩
abbrev S2048x1024 : Shape := ⟨2, ![2048, 1024]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 17
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S16x12288, .f32⟩
  | .hbm, ⟨2, _⟩ => ⟨S2048x5120, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x128, .f32⟩
  | .hbm, ⟨8, _⟩ => ⟨S2048x16, .f32⟩
  | .hbm, ⟨9, _⟩ => ⟨S2048x16, .f32⟩
  | .hbm, ⟨10, _⟩ => ⟨S2048x128, .f32⟩
  | .hbm, ⟨11, _⟩ => ⟨S_, .f32⟩
  | .hbm, ⟨12, _⟩ => ⟨S1x5120, .f32⟩
  | .hbm, ⟨13, _⟩ => ⟨S16384x2048, .f32⟩
  | .hbm, ⟨14, _⟩ => ⟨S16x1x12288, .f32⟩
  | .hbm, ⟨15, _⟩ => ⟨S2048x5120, .bf16⟩
  | .hbm, ⟨16, _⟩ => ⟨S16384x5120, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInIdeal.lean ====
abbrev S8x2048x2048 : Shape := ⟨3, ![8, 2048, 2048]⟩
abbrev S16x12288 : Shape := ⟨2, ![16, 12288]⟩
abbrev S2048x5120 : Shape := ⟨2, ![2048, 5120]⟩
abbrev S2048x16 : Shape := ⟨2, ![2048, 16]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S8x2048x5120 : Shape := ⟨3, ![8, 2048, 5120]⟩
abbrev S8x2048x1536 : Shape := ⟨3, ![8, 2048, 1536]⟩
abbrev S8x2048x512 : Shape := ⟨3, ![8, 2048, 512]⟩
abbrev S2048x1x16 : Shape := ⟨3, ![2048, 1, 16]⟩
abbrev S8x2048x24x64 : Shape := ⟨4, ![8, 2048, 24, 64]⟩
abbrev S8x2048x24x32 : Shape := ⟨4, ![8, 2048, 24, 32]⟩
abbrev S8x2048x24x16 : Shape := ⟨4, ![8, 2048, 24, 16]⟩
abbrev S1x2048x1x16 : Shape := ⟨4, ![1, 2048, 1, 16]⟩
abbrev S16384x5120 : Shape := ⟨2, ![16384, 5120]⟩

abbrev nBuf : Space → Nat
  | .hbm => 135
  | .vmem => 0
  | .smem => 0
  | _ => 0

abbrev hbmTy0_0 (i : Nat) : BufTy := match i % 128 with
  | 0 => ⟨S8x2048x2048, .f32⟩
  | 1 => ⟨S16x12288, .f32⟩
  | 2 => ⟨S2048x5120, .f32⟩
  | 3 => ⟨S2048x16, .f32⟩
  | 4 => ⟨S2048x16, .f32⟩
  | 5 => ⟨S2048x16, .f32⟩
  | 6 => ⟨S2048x16, .f32⟩
  | 7 => ⟨S8x12288, .f32⟩
  | 8 => ⟨S8x1x12288, .f32⟩
  | 9 => ⟨S8x1x2048, .f32⟩
  | 10 => ⟨S8x1x2048, .f32⟩
  | 11 => ⟨S8x1x2048, .f32⟩
  | 12 => ⟨S8x1x2048, .f32⟩
  | 13 => ⟨S8x1x2048, .f32⟩
  | 14 => ⟨S8x1x2048, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S8x2048x2048, .f32⟩
  | 22 => ⟨S8x2048x2048, .f32⟩
  | 23 => ⟨S8x2048x2048, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S8x2048x2048, .f32⟩
  | 31 => ⟨S8x2048x2048, .f32⟩
  | 32 => ⟨S_, .f32⟩
  | 33 => ⟨S8x2048x1, .f32⟩
  | 34 => ⟨S8x2048x1, .f32⟩
  | 35 => ⟨S8x2048x1, .f32⟩
  | 36 => ⟨S8x2048x2048, .f32⟩
  | 37 => ⟨S8x2048x2048, .f32⟩
  | 38 => ⟨S_, .f32⟩
  | 39 => ⟨S8x1x2048, .f32⟩
  | 40 => ⟨S8x1x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S8x2048x5120, .f32⟩
  | 46 => ⟨S8x2048x1536, .f32⟩
  | 47 => ⟨S8x2048x1536, .f32⟩
  | 48 => ⟨S8x2048x1536, .f32⟩
  | 49 => ⟨S8x2048x512, .f32⟩
  | 50 => ⟨S2048x1x16, .f32⟩
  | 51 => ⟨S2048x1x16, .f32⟩
  | 52 => ⟨S2048x1x16, .f32⟩
  | 53 => ⟨S2048x1x16, .f32⟩
  | 54 => ⟨S8x2048x24x64, .f32⟩
  | 55 => ⟨S8x2048x24x32, .f32⟩
  | 56 => ⟨S8x2048x24x16, .f32⟩
  | 57 => ⟨S8x2048x24x16, .f32⟩
  | 58 => ⟨S1x2048x1x16, .f32⟩
  | 59 => ⟨S8x2048x24x16, .f32⟩
  | 60 => ⟨S8x2048x24x16, .f32⟩
  | 61 => ⟨S1x2048x1x16, .f32⟩
  | 62 => ⟨S8x2048x24x16, .f32⟩
  | 63 => ⟨S8x2048x24x16, .f32⟩
  | 64 => ⟨S8x2048x24x16, .f32⟩
  | 65 => ⟨S1x2048x1x16, .f32⟩
  | 66 => ⟨S8x2048x24x16, .f32⟩
  | 67 => ⟨S8x2048x24x16, .f32⟩
  | 68 => ⟨S1x2048x1x16, .f32⟩
  | 69 => ⟨S8x2048x24x16, .f32⟩
  | 70 => ⟨S8x2048x24x16, .f32⟩
  | 71 => ⟨S8x2048x24x16, .f32⟩
  | 72 => ⟨S8x2048x24x32, .f32⟩
  | 73 => ⟨S8x2048x24x32, .f32⟩
  | 74 => ⟨S8x2048x24x16, .f32⟩
  | 75 => ⟨S8x2048x24x16, .f32⟩
  | 76 => ⟨S1x2048x1x16, .f32⟩
  | 77 => ⟨S8x2048x24x16, .f32⟩
  | 78 => ⟨S8x2048x24x16, .f32⟩
  | 79 => ⟨S1x2048x1x16, .f32⟩
  | 80 => ⟨S8x2048x24x16, .f32⟩
  | 81 => ⟨S8x2048x24x16, .f32⟩
  | 82 => ⟨S8x2048x24x16, .f32⟩
  | 83 => ⟨S1x2048x1x16, .f32⟩
  | 84 => ⟨S8x2048x24x16, .f32⟩
  | 85 => ⟨S8x2048x24x16, .f32⟩
  | 86 => ⟨S1x2048x1x16, .f32⟩
  | 87 => ⟨S8x2048x24x16, .f32⟩
  | 88 => ⟨S8x2048x24x16, .f32⟩
  | 89 => ⟨S8x2048x24x16, .f32⟩
  | 90 => ⟨S8x2048x24x32, .f32⟩
  | 91 => ⟨S8x2048x24x64, .f32⟩
  | 92 => ⟨S8x2048x1536, .f32⟩
  | 93 => ⟨S8x2048x24x64, .f32⟩
  | 94 => ⟨S8x2048x24x32, .f32⟩
  | 95 => ⟨S8x2048x24x16, .f32⟩
  | 96 => ⟨S8x2048x24x16, .f32⟩
  | 97 => ⟨S1x2048x1x16, .f32⟩
  | 98 => ⟨S8x2048x24x16, .f32⟩
  | 99 => ⟨S8x2048x24x16, .f32⟩
  | 100 => ⟨S1x2048x1x16, .f32⟩
  | 101 => ⟨S8x2048x24x16, .f32⟩
  | 102 => ⟨S8x2048x24x16, .f32⟩
  | 103 => ⟨S8x2048x24x16, .f32⟩
  | 104 => ⟨S1x2048x1x16, .f32⟩
  | 105 => ⟨S8x2048x24x16, .f32⟩
  | 106 => ⟨S8x2048x24x16, .f32⟩
  | 107 => ⟨S1x2048x1x16, .f32⟩
  | 108 => ⟨S8x2048x24x16, .f32⟩
  | 109 => ⟨S8x2048x24x16, .f32⟩
  | 110 => ⟨S8x2048x24x16, .f32⟩
  | 111 => ⟨S8x2048x24x32, .f32⟩
  | 112 => ⟨S8x2048x24x32, .f32⟩
  | 113 => ⟨S8x2048x24x16, .f32⟩
  | 114 => ⟨S8x2048x24x16, .f32⟩
  | 115 => ⟨S1x2048x1x16, .f32⟩
  | 116 => ⟨S8x2048x24x16, .f32⟩
  | 117 => ⟨S8x2048x24x16, .f32⟩
  | 118 => ⟨S1x2048x1x16, .f32⟩
  | 119 => ⟨S8x2048x24x16, .f32⟩
  | 120 => ⟨S8x2048x24x16, .f32⟩
  | 121 => ⟨S8x2048x24x16, .f32⟩
  | 122 => ⟨S1x2048x1x16, .f32⟩
  | 123 => ⟨S8x2048x24x16, .f32⟩
  | 124 => ⟨S8x2048x24x16, .f32⟩
  | 125 => ⟨S1x2048x1x16, .f32⟩
  | 126 => ⟨S8x2048x24x16, .f32⟩
  | 127 => ⟨S8x2048x24x16, .f32⟩
  | _ => ⟨S8x2048x2048, .f32⟩

abbrev hbmTy0_1 (i : Nat) : BufTy := match i % 128 with
  | 0 => ⟨S8x2048x24x16, .f32⟩
  | 1 => ⟨S8x2048x24x32, .f32⟩
  | 2 => ⟨S8x2048x24x64, .f32⟩
  | 3 => ⟨S8x2048x1536, .f32⟩
  | 4 => ⟨S8x2048x5120, .f32⟩
  | 5 => ⟨S16384x5120, .f32⟩
  | 6 => ⟨S16384x5120, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩

abbrev nD : Nat := 1
abbrev τ : Topo := Topo.v7x

variable {F : FTy → Type} [FloatOps F]
-- ==== Proof.AttnVocab.lean ====
/- The values that the attention body computes, named: the scaled queries and their two halves, the scores of a query
   tile against a block of keys, the rows' denominators and numerators, the difference of the two maps, normalised. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## 512 query rows -/

/-- The query tile times the score scale. -/
def qs512 (x : Vec F S1x512x128 .bf16) : FVec F S512x128 .bf16 :=
  truncf .bf16 (mulf (extf .f32 (shapeCast S512x128 x shapeCasts_S1x512x128_S512x128 : FVec F S512x128 .bf16) bitsLt_bf16_f32)
    (broadcast S512x128 (Named.named κ "qk_scale" 0x3E38AA3B#32 : F .f32))) bitsLt_bf16_f32

/-- The lanes of the first map. -/
def mask512 : IVec S512x128 1 := cmpi .slt (iota .tc S512x128 32 [1] iota_S512x128_d1_w32) (broadcast S512x128 64#32)

/-- The zero tile. -/
def z512 : FVec F S512x128 .bf16 := broadcast S512x128 (Scalar.ofBits .bf16 0x0000#16)

/-- The first map's half of the query tile, the other lanes zero. -/
def qa512 (x : Vec F S1x512x128 .bf16) : FVec F S512x128 .bf16 := select mask512 (qs512 x) (z512 (F := F))

/-- The second map's half. -/
def qb512 (x : Vec F S1x512x128 .bf16) : FVec F S512x128 .bf16 := select mask512 (z512 (F := F)) (qs512 x)

/-- The last part: the difference of the two maps, its root mean square divided out, times the weights. -/
def fin512 (lam : FVec F S1x1 .f32) (d1 : FVec F S512x1 .f32) (n1 : FVec F S512x128 .f32) (d2 : FVec F S512x1 .f32)
    (n2 : FVec F S512x128 .f32) (w : Vec F S1x128 .f32) : FVec F S1x512x128 .bf16 :=
  have one : FVec F S512x1 .f32 := broadcast S512x1 (Scalar.ofBits .f32 0x3F800000#32)
  have a1 : FVec F S512x128 .f32 := mulf n1 (broadcastTo S512x128 (divf one d1) broadcasts_S512x1_S512x128)
  have a2 : FVec F S512x128 .f32 := mulf n2 (broadcastTo S512x128 (divf (broadcastTo S512x1 lam broadcasts_S1x1_S512x1) d2) broadcasts_S512x1_S512x128)
  have acc : FVec F S512x128 .f32 := subf a1 a2
  have ss : FVec F S512 .f32 := multiReduction .add [1] S512 (mulf acc acc) 0x00000000#32 reduces_S512x128_S512 (.inl rfl) rfl
  have ms : FVec F S512x1 .f32 := divf (shapeCast S512x1 ss shapeCasts_S512_S512x1) (broadcast S512x1 (Scalar.ofBits .f32 0x43000000#32))
  have r : FVec F S512x1 .f32 := rsqrt (addf ms (broadcast S512x1 (Scalar.ofBits .f32 0x3727C5AC#32)))
  have y : FVec F S512x128 .f32 := mulf (mulf acc (broadcastTo S512x128 r broadcasts_S512x1_S512x128))
    (broadcastTo S512x128 (shapeCast S1x128 w shapeCasts_S1x128_S1x128) broadcasts_S1x128_S512x128)
  have y8 : FVec F S512x128 .f32 := mulf y (broadcast S512x128 (Scalar.ofBits .f32 0x3F4CCCCD#32))
  shapeCast S1x512x128 (truncf .bf16 y8 bitsLt_bf16_f32 : FVec F S512x128 .bf16) shapeCasts_S512x128_S1x512x128

/-! ## 256 query rows -/

/-- The query tile times the score scale. -/
def qs256 (x : Vec F S1x256x128 .bf16) : FVec F S256x128 .bf16 :=
  truncf .bf16 (mulf (extf .f32 (shapeCast S256x128 x shapeCasts_S1x256x128_S256x128 : FVec F S256x128 .bf16) bitsLt_bf16_f32)
    (broadcast S256x128 (Named.named κ "qk_scale" 0x3E38AA3B#32 : F .f32))) bitsLt_bf16_f32

/-- The lanes of the first map. -/
def mask256 : IVec S256x128 1 := cmpi .slt (iota .tc S256x128 32 [1] iota_S256x128_d1_w32) (broadcast S256x128 64#32)

/-- The zero tile. -/
def z256 : FVec F S256x128 .bf16 := broadcast S256x128 (Scalar.ofBits .bf16 0x0000#16)

/-- The first map's half of the query tile, the other lanes zero. -/
def qa256 (x : Vec F S1x256x128 .bf16) : FVec F S256x128 .bf16 := select mask256 (qs256 x) (z256 (F := F))

/-- The second map's half. -/
def qb256 (x : Vec F S1x256x128 .bf16) : FVec F S256x128 .bf16 := select mask256 (z256 (F := F)) (qs256 x)

/-- The last part: the difference of the two maps, its root mean square divided out, times the weights. -/
def fin256 (lam : FVec F S1x1 .f32) (d1 : FVec F S256x1 .f32) (n1 : FVec F S256x128 .f32) (d2 : FVec F S256x1 .f32)
    (n2 : FVec F S256x128 .f32) (w : Vec F S1x128 .f32) : FVec F S1x256x128 .bf16 :=
  have one : FVec F S256x1 .f32 := broadcast S256x1 (Scalar.ofBits .f32 0x3F800000#32)
  have a1 : FVec F S256x128 .f32 := mulf n1 (broadcastTo S256x128 (divf one d1) broadcasts_S256x1_S256x128)
  have a2 : FVec F S256x128 .f32 := mulf n2 (broadcastTo S256x128 (divf (broadcastTo S256x1 lam broadcasts_S1x1_S256x1) d2) broadcasts_S256x1_S256x128)
  have acc : FVec F S256x128 .f32 := subf a1 a2
  have ss : FVec F S256 .f32 := multiReduction .add [1] S256 (mulf acc acc) 0x00000000#32 reduces_S256x128_S256 (.inl rfl) rfl
  have ms : FVec F S256x1 .f32 := divf (shapeCast S256x1 ss shapeCasts_S256_S256x1) (broadcast S256x1 (Scalar.ofBits .f32 0x43000000#32))
  have r : FVec F S256x1 .f32 := rsqrt (addf ms (broadcast S256x1 (Scalar.ofBits .f32 0x3727C5AC#32)))
  have y : FVec F S256x128 .f32 := mulf (mulf acc (broadcastTo S256x128 r broadcasts_S256x1_S256x128))
    (broadcastTo S256x128 (shapeCast S1x128 w shapeCasts_S1x128_S1x128) broadcasts_S1x128_S256x128)
  have y8 : FVec F S256x128 .f32 := mulf y (broadcast S256x128 (Scalar.ofBits .f32 0x3F4CCCCD#32))
  shapeCast S1x256x128 (truncf .bf16 y8 bitsLt_bf16_f32 : FVec F S256x128 .bf16) shapeCasts_S256x128_S1x256x128

/-! ## 512 query rows against 256 keys -/

/-- The scores. -/
def sc512_256 (q : FVec F S512x128 .bf16) (k : Vec F S1x256x128 .bf16) : FVec F S512x256 .f32 :=
  matmul dot_S512x128_S256x128_S512x256_1_1_0_0_n_n none q (shapeCast S256x128 k shapeCasts_S1x256x128_S256x128 : FVec F S256x128 .bf16)
    (constant S512x256 .f32 0x00000000#32)

/-- A row's largest score. -/
def mx512_256 (s : FVec F S512x256 .f32) : FVec F S512x1 .f32 :=
  shapeCast S512x1 (multiReduction .maximumf [1] S512 s 0xFF800000#32 reduces_S512x256_S512 (.inl rfl) rfl) shapeCasts_S512_S512x1

/-- The powers of two of the scores less a shift of the row. -/
def sh512_256 (s : FVec F S512x256 .f32) (mx : FVec F S512x1 .f32) : FVec F S512x256 .f32 :=
  exp2 (subf s (broadcastTo S512x256 mx broadcasts_S512x1_S512x256))

/-- A row's sum. -/
def den512_256 (e : FVec F S512x256 .f32) : FVec F S512x1 .f32 :=
  shapeCast S512x1 (multiReduction .add [1] S512 e 0x00000000#32 reduces_S512x256_S512 (.inl rfl) rfl) shapeCasts_S512_S512x1

/-- The weighted sum of the values. -/
def num512_256 (e : FVec F S512x256 .f32) (v : Vec F S1x256x128 .bf16) : FVec F S512x128 .f32 :=
  matmul dot_S512x256_S256x128_S512x128_1_0_0_1_n_n none (truncf .bf16 e bitsLt_bf16_f32)
    (shapeCast S256x128 v shapeCasts_S1x256x128_S256x128 : FVec F S256x128 .bf16) (constant S512x128 .f32 0x00000000#32)

/-! ## 512 query rows against 2048 keys -/

/-- The scores. -/
def sc512_2048 (q : FVec F S512x128 .bf16) (k : Vec F S1x2048x128 .bf16) : FVec F S512x2048 .f32 :=
  matmul dot_S512x128_S2048x128_S512x2048_1_1_0_0_n_n none q (shapeCast S2048x128 k shapeCasts_S1x2048x128_S2048x128 : FVec F S2048x128 .bf16)
    (constant S512x2048 .f32 0x00000000#32)

/-- A row's largest score. -/
def mx512_2048 (s : FVec F S512x2048 .f32) : FVec F S512x1 .f32 :=
  shapeCast S512x1 (multiReduction .maximumf [1] S512 s 0xFF800000#32 reduces_S512x2048_S512 (.inl rfl) rfl) shapeCasts_S512_S512x1

/-- The powers of two of the scores less a shift of the row. -/
def sh512_2048 (s : FVec F S512x2048 .f32) (mx : FVec F S512x1 .f32) : FVec F S512x2048 .f32 :=
  exp2 (subf s (broadcastTo S512x2048 mx broadcasts_S512x1_S512x2048))

/-- A row's sum. -/
def den512_2048 (e : FVec F S512x2048 .f32) : FVec F S512x1 .f32 :=
  shapeCast S512x1 (multiReduction .add [1] S512 e 0x00000000#32 reduces_S512x2048_S512 (.inl rfl) rfl) shapeCasts_S512_S512x1

/-- The weighted sum of the values. -/
def num512_2048 (e : FVec F S512x2048 .f32) (v : Vec F S1x2048x128 .bf16) : FVec F S512x128 .f32 :=
  matmul dot_S512x2048_S2048x128_S512x128_1_0_0_1_n_n none (truncf .bf16 e bitsLt_bf16_f32)
    (shapeCast S2048x128 v shapeCasts_S1x2048x128_S2048x128 : FVec F S2048x128 .bf16) (constant S512x128 .f32 0x00000000#32)

/-! ## 256 query rows against 256 keys -/

/-- The scores. -/
def sc256_256 (q : FVec F S256x128 .bf16) (k : Vec F S1x256x128 .bf16) : FVec F S256x256 .f32 :=
  matmul dot_S256x128_S256x128_S256x256_1_1_0_0_n_n none q (shapeCast S256x128 k shapeCasts_S1x256x128_S256x128 : FVec F S256x128 .bf16)
    (constant S256x256 .f32 0x00000000#32)

/-- A row's largest score. -/
def mx256_256 (s : FVec F S256x256 .f32) : FVec F S256x1 .f32 :=
  shapeCast S256x1 (multiReduction .maximumf [1] S256 s 0xFF800000#32 reduces_S256x256_S256 (.inl rfl) rfl) shapeCasts_S256_S256x1

/-- The powers of two of the scores less a shift of the row. -/
def sh256_256 (s : FVec F S256x256 .f32) (mx : FVec F S256x1 .f32) : FVec F S256x256 .f32 :=
  exp2 (subf s (broadcastTo S256x256 mx broadcasts_S256x1_S256x256))

/-- A row's sum. -/
def den256_256 (e : FVec F S256x256 .f32) : FVec F S256x1 .f32 :=
  shapeCast S256x1 (multiReduction .add [1] S256 e 0x00000000#32 reduces_S256x256_S256 (.inl rfl) rfl) shapeCasts_S256_S256x1

/-- The weighted sum of the values. -/
def num256_256 (e : FVec F S256x256 .f32) (v : Vec F S1x256x128 .bf16) : FVec F S256x128 .f32 :=
  matmul dot_S256x256_S256x128_S256x128_1_0_0_1_n_n none (truncf .bf16 e bitsLt_bf16_f32)
    (shapeCast S256x128 v shapeCasts_S1x256x128_S256x128 : FVec F S256x128 .bf16) (constant S256x128 .f32 0x00000000#32)

/-! ## The four tiles -/

/-- A latent query tile's result, the scores taken as they are. -/
def latS (lam : FVec F S1x1 .f32) (x : Vec F S1x512x128 .bf16) (kc : Vec F S1x256x128 .bf16) (kl : Vec F S1x2048x128 .bf16)
    (vc : Vec F S1x256x128 .bf16) (vl : Vec F S1x2048x128 .bf16) (w : Vec F S1x128 .f32) : FVec F S1x512x128 .bf16 :=
  have ac := exp2 (sc512_256 (qa512 x) kc)
  have al := exp2 (sc512_2048 (qa512 x) kl)
  have bc := exp2 (sc512_256 (qb512 x) kc)
  have bl := exp2 (sc512_2048 (qb512 x) kl)
  fin512 lam (addf (den512_256 ac) (den512_2048 al)) (addf (num512_256 ac vc) (num512_2048 al vl))
    (addf (den512_256 bc) (den512_2048 bl)) (addf (num512_256 bc vc) (num512_2048 bl vl)) w

/-- A latent query tile's result, each row's scores shifted by their largest. -/
def latR (lam : FVec F S1x1 .f32) (x : Vec F S1x512x128 .bf16) (kc : Vec F S1x256x128 .bf16) (kl : Vec F S1x2048x128 .bf16)
    (vc : Vec F S1x256x128 .bf16) (vl : Vec F S1x2048x128 .bf16) (w : Vec F S1x128 .f32) : FVec F S1x512x128 .bf16 :=
  have ma := maximumf (mx512_256 (sc512_256 (qa512 x) kc)) (mx512_2048 (sc512_2048 (qa512 x) kl))
  have mb := maximumf (mx512_256 (sc512_256 (qb512 x) kc)) (mx512_2048 (sc512_2048 (qb512 x) kl))
  have ac := sh512_256 (sc512_256 (qa512 x) kc) ma
  have al := sh512_2048 (sc512_2048 (qa512 x) kl) ma
  have bc := sh512_256 (sc512_256 (qb512 x) kc) mb
  have bl := sh512_2048 (sc512_2048 (qb512 x) kl) mb
  fin512 lam (addf (den512_256 ac) (den512_2048 al)) (addf (num512_256 ac vc) (num512_2048 al vl))
    (addf (den512_256 bc) (den512_2048 bl)) (addf (num512_256 bc vc) (num512_2048 bl vl)) w

/-- The context queries' result, the scores taken as they are. -/
def ctxS (lam : FVec F S1x1 .f32) (x : Vec F S1x256x128 .bf16) (kc : Vec F S1x256x128 .bf16)
    (vc : Vec F S1x256x128 .bf16) (w : Vec F S1x128 .f32) : FVec F S1x256x128 .bf16 :=
  have a := exp2 (sc256_256 (qa256 x) kc)
  have b := exp2 (sc256_256 (qb256 x) kc)
  fin256 lam (den256_256 a) (num256_256 a vc) (den256_256 b) (num256_256 b vc) w

/-- The context queries' result, each row's scores shifted by their largest. -/
def ctxR (lam : FVec F S1x1 .f32) (x : Vec F S1x256x128 .bf16) (kc : Vec F S1x256x128 .bf16)
    (vc : Vec F S1x256x128 .bf16) (w : Vec F S1x128 .f32) : FVec F S1x256x128 .bf16 :=
  have a := sh256_256 (sc256_256 (qa256 x) kc) (mx256_256 (sc256_256 (qa256 x) kc))
  have b := sh256_256 (sc256_256 (qb256 x) kc) (mx256_256 (sc256_256 (qb256 x) kc))
  fin256 lam (den256_256 a) (num256_256 a vc) (den256_256 b) (num256_256 b vc) w

/-! ## What the body leaves in the two result blocks -/

/-- The 512 query rows from row `512 k` on. -/
abbrev rT (k : Fin 4) : Rect S1x2048x128 :=
  Rect.unit (s := S1x2048x128) ![0, 512 * k.val, 0] S1x512x128.size (by have := k.isLt; intro a; fin_cases a <;> simp [S1x512x128, S1x2048x128] <;> omega)

abbrev rL : Rect S1x2048x128 := Rect.unit (s := S1x2048x128) ![0, 0, 0] S1x2048x128.size inb_S1x2048x128_S1x2048x128_0_0_0
abbrev rC : Rect S1x256x128 := Rect.unit (s := S1x256x128) ![0, 0, 0] S1x256x128.size inb_S1x256x128_S1x256x128_0_0_0
abbrev rV : Rect S4x64 := Rect.unit (s := S4x64) ![0, 0] S4x64.size inb_S4x64_S4x64_0_0
abbrev rW : Rect S1x128 := Rect.unit (s := S1x128) ![0, 0] S1x128.size inb_S1x128_S1x128_0_0

/-- The difference's factor. -/
abbrev lamOf (l : Vec F S4x64 .f32) : FVec F S1x1 .f32 := k0_pay104 (View.ld l rV)

/-- The body's branch: whether no score can be large. -/
def small (q : Vec F S1x2048x128 .bf16) (qc kc : Vec F S1x256x128 .bf16) (kl : Vec F S1x2048x128 .bf16) : BitVec 1 :=
  Scalar.cmpi .ne (Scalar.extui (Scalar.cmpf .ole (k0_pay1 (k0_pay105 (F := F)) (k0_pay106 (View.ld kc rC) (View.ld kl rL))
    (k0_pay107 (View.ld qc rC)) (k0_pay108 (F := F)) (View.ld q rL)) (Scalar.ofBits .f32 0x455C8000#32)) : BitVec 32) 0#32

/-- The latent result block. -/
def outLat (q : Vec F S1x2048x128 .bf16) (qc kc : Vec F S1x256x128 .bf16) (kl : Vec F S1x2048x128 .bf16)
    (vc : Vec F S1x256x128 .bf16) (vl : Vec F S1x2048x128 .bf16) (l : Vec F S4x64 .f32) (w : Vec F S1x128 .f32) :
    Vec F S1x2048x128 .bf16 :=
  have piece (k : Fin 4) : View.Piece (Elt F) S1x2048x128 .bf16 := ⟨rT k,
    if small q qc kc kl = 1#1
    then latS (lamOf l) (View.ld q (rT k)) (View.ld kc rC) (View.ld kl rL) (View.ld vc rC) (View.ld vl rL) (View.ld w rW)
    else latR (lamOf l) (View.ld q (rT k)) (View.ld kc rC) (View.ld kl rL) (View.ld vc rC) (View.ld vl rL) (View.ld w rW)⟩
  View.canon [piece 3, piece 2, piece 1, piece 0]

/-- The context result block. -/
def outCtx (q : Vec F S1x2048x128 .bf16) (qc kc : Vec F S1x256x128 .bf16) (kl : Vec F S1x2048x128 .bf16)
    (vc : Vec F S1x256x128 .bf16) (l : Vec F S4x64 .f32) (w : Vec F S1x128 .f32) : Vec F S1x256x128 .bf16 :=
  View.canon [⟨rC,
    if small q qc kc kl = 1#1
    then ctxS (lamOf l) (View.ld qc rC) (View.ld kc rC) (View.ld vc rC) (View.ld w rW)
    else ctxR (lamOf l) (View.ld qc rC) (View.ld kc rC) (View.ld vc rC) (View.ld w rW)⟩]

end Cert.Proof.Attn

end
-- ==== Proof.AttnBody.lean ====
/- What the attention body leaves in its two result blocks, whichever branch it takes, and the body's triple. -/
module

public import proofs.«01_k».proof.Proof.AttnVocab
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The loop's stores -/

theorem off2_eq : ∀ k : Fin k0_t1_loop.trips, k0_off2 k = ![0, 512 * k.val, 0] := by decide

/-- One trip stores the tile of its 512 rows. -/
theorem trip_piece (c : Dev nD) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x2048x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x256x128 .bf16) (harg11 : arg11.IsWhole) (f2 : BufTy.Contents (Elt F) arg2.view.ty) (f4 : BufTy.Contents (Elt F) arg4.view.ty) (f5 : BufTy.Contents (Elt F) arg5.view.ty) (f6 : BufTy.Contents (Elt F) arg6.view.ty) (f7 : BufTy.Contents (Elt F) arg7.view.ty) (f9 : BufTy.Contents (Elt F) arg9.view.ty)
    (v15 : FVec F S1x1 .f32) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 v15 f2 f4 f5 f6 f7 f9 k
      = [⟨Rect.unit (s := S1x2048x128) (k0_off2 k) S1x512x128.size (k0_off2_inb k),
          latR v15 (View.ld (arg2.view.read (Elt F) f2) (Rect.unit (s := S1x2048x128) (k0_off2 k) S1x512x128.size (k0_off2_inb k))) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
  unfold tripL_k0_t1 trip_k0_t1
  rfl

theorem trip_tile (c : Dev nD) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x2048x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x256x128 .bf16) (harg11 : arg11.IsWhole) (f2 : BufTy.Contents (Elt F) arg2.view.ty) (f4 : BufTy.Contents (Elt F) arg4.view.ty) (f5 : BufTy.Contents (Elt F) arg5.view.ty) (f6 : BufTy.Contents (Elt F) arg6.view.ty) (f7 : BufTy.Contents (Elt F) arg7.view.ty) (f9 : BufTy.Contents (Elt F) arg9.view.ty)
    (v15 : FVec F S1x1 .f32) (k : Fin 4) :
    tripL_k0_t1 (F := F) Variants.none c none i arg2 harg2 arg3 harg3 arg4 harg4 arg5 harg5 arg6 harg6 arg7 harg7 arg8 harg8 arg9 harg9 arg10 harg10 arg11 harg11 v15 f2 f4 f5 f6 f7 f9 ⟨k.val, k.isLt⟩
      = [⟨rT k, latR v15 (View.ld (arg2.view.read (Elt F) f2) (rT k)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
  rw [trip_piece]
  have key : ∀ (o : Fin 3 → Nat) (ho : ∀ a, o a + S1x512x128.size a ≤ S1x2048x128.size a), o = ![0, 512 * k.val, 0] →
      ([⟨Rect.unit (s := S1x2048x128) o S1x512x128.size ho,
        latR v15 (View.ld (arg2.view.read (Elt F) f2) (Rect.unit (s := S1x2048x128) o S1x512x128.size ho)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] : List (View.Piece (Elt F) S1x2048x128 .bf16))
      = [⟨rT k, latR v15 (View.ld (arg2.view.read (Elt F) f2) (rT k)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
    rintro o ho rfl; rfl
  exact key _ _ (off2_eq ⟨k.val, k.isLt⟩)

/-- The loop stores the four tiles. -/
theorem loop_pieces (c : Dev nD) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x2048x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x256x128 .bf16) (harg11 : arg11.IsWhole) (f2 : BufTy.Contents (Elt F) arg2.view.ty) (f4 : BufTy.Contents (Elt F) arg4.view.ty) (f5 : BufTy.Contents (Elt F) arg5.view.ty) (f6 : BufTy.Contents (Elt F) arg6.view.ty) (f7 : BufTy.Contents (Elt F) arg7.view.ty) (f9 : BufTy.Contents (Elt F) arg9.view.ty)
    (v15 : FVec F S1x1 .f32) :
    pb_k0_t1 (F := F) Variants.none c none i arg2 harg2 arg3 harg3 arg4 harg4 arg5 harg5 arg6 harg6 arg7 harg7 arg8 harg8 arg9 harg9 arg10 harg10 arg11 harg11 v15 f2 f4 f5 f6 f7 f9 (Scf.trips k0_t1_loop.lb k0_t1_loop.ub k0_t1_loop.st)
      = [⟨rT 3, latR v15 (View.ld (arg2.view.read (Elt F) f2) (rT 3)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 2, latR v15 (View.ld (arg2.view.read (Elt F) f2) (rT 2)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 1, latR v15 (View.ld (arg2.view.read (Elt F) f2) (rT 1)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 0, latR v15 (View.ld (arg2.view.read (Elt F) f2) (rT 0)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
  rw [show Scf.trips k0_t1_loop.lb k0_t1_loop.ub k0_t1_loop.st = (3 : Fin 4).val + 1 by decide]
  show _ = [(⟨rT 3, _⟩ : View.Piece (Elt F) S1x2048x128 .bf16)] ++ ([⟨rT 2, _⟩] ++ ([⟨rT 1, _⟩] ++ ([⟨rT 0, _⟩] ++ [])))
  refine (pb_k0_t1_succ Variants.none c none i arg2 harg2 arg3 harg3 arg4 harg4 arg5 harg5 arg6 harg6 arg7 harg7 arg8 harg8 arg9 harg9 arg10 harg10 arg11 harg11 v15 f2 f4 f5 f6 f7 f9 ⟨3, by decide⟩).trans (congrArg₂ (· ++ ·) (trip_tile c i arg2 harg2 arg3 harg3 arg4 harg4 arg5 harg5 arg6 harg6 arg7 harg7 arg8 harg8 arg9 harg9 arg10 harg10 arg11 harg11 f2 f4 f5 f6 f7 f9 v15 3) ?_)
  refine (pb_k0_t1_succ Variants.none c none i arg2 harg2 arg3 harg3 arg4 harg4 arg5 harg5 arg6 harg6 arg7 harg7 arg8 harg8 arg9 harg9 arg10 harg10 arg11 harg11 v15 f2 f4 f5 f6 f7 f9 ⟨2, by decide⟩).trans (congrArg₂ (· ++ ·) (trip_tile c i arg2 harg2 arg3 harg3 arg4 harg4 arg5 harg5 arg6 harg6 arg7 harg7 arg8 harg8 arg9 harg9 arg10 harg10 arg11 harg11 f2 f4 f5 f6 f7 f9 v15 2) ?_)
  refine (pb_k0_t1_succ Variants.none c none i arg2 harg2 arg3 harg3 arg4 harg4 arg5 harg5 arg6 harg6 arg7 harg7 arg8 harg8 arg9 harg9 arg10 harg10 arg11 harg11 v15 f2 f4 f5 f6 f7 f9 ⟨1, by decide⟩).trans (congrArg₂ (· ++ ·) (trip_tile c i arg2 harg2 arg3 harg3 arg4 harg4 arg5 harg5 arg6 harg6 arg7 harg7 arg8 harg8 arg9 harg9 arg10 harg10 arg11 harg11 f2 f4 f5 f6 f7 f9 v15 1) ?_)
  refine (pb_k0_t1_succ Variants.none c none i arg2 harg2 arg3 harg3 arg4 harg4 arg5 harg5 arg6 harg6 arg7 harg7 arg8 harg8 arg9 harg9 arg10 harg10 arg11 harg11 v15 f2 f4 f5 f6 f7 f9 ⟨0, by decide⟩).trans (congrArg₂ (· ++ ·) (trip_tile c i arg2 harg2 arg3 harg3 arg4 harg4 arg5 harg5 arg6 harg6 arg7 harg7 arg8 harg8 arg9 harg9 arg10 harg10 arg11 harg11 f2 f4 f5 f6 f7 f9 v15 0) ?_)
  rfl

/-! ## The blocks are covered -/

theorem cover_lat (p3 p2 p1 p0 : Vec F S1x512x128 .bf16) (y : S1x2048x128.Idx) :
    ∃ pc ∈ ([⟨rT 3, p3⟩, ⟨rT 2, p2⟩, ⟨rT 1, p1⟩, ⟨rT 0, p0⟩] : List (View.Piece (Elt F) S1x2048x128 .bf16)), y ∈ pc.1.set :=
  View.cover_of_tiled [⟨rT 3, p3⟩, ⟨rT 2, p2⟩, ⟨rT 1, p1⟩, ⟨rT 0, p0⟩] S1x512x128.size (by rfl) y

theorem cover_ctx (p0 : Vec F S1x256x128 .bf16) (y : S1x256x128.Idx) :
    ∃ pc ∈ ([⟨rC, p0⟩] : List (View.Piece (Elt F) S1x256x128 .bf16)), y ∈ pc.1.set :=
  View.cover_of_tiled [⟨rC, p0⟩] S1x256x128.size (by rfl) y

/-! ## The body's triple -/

theorem sound_kernel (c : Dev nD) (E : Set ℕ) (i : grid0.Coords) (arg2 : Memref sig .tc .vmem S1x2048x128 .bf16) (harg2 : arg2.IsWhole) (arg3 : Memref sig .tc .vmem S1x256x128 .bf16) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S1x2048x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S1x256x128 .bf16) (harg11 : arg11.IsWhole)
    (x2 : Vec F S1x2048x128 .bf16) (x3 : Vec F S1x256x128 .bf16) (x4 : Vec F S1x256x128 .bf16) (x5 : Vec F S1x2048x128 .bf16) (x6 : Vec F S1x256x128 .bf16) (x7 : Vec F S1x2048x128 .bf16) (x8 : Vec F S4x64 .f32) (x9 : Vec F S1x128 .f32) (K : PUnit → sProp 𝕄) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d) ∗ (∃ d, owns (c : Thread nD τ) arg11 fullShare d)
      ∗ (iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
        ∗ owns (c : Thread nD τ) arg10 fullShare (outLat x2 x3 x4 x5 x6 x7 x8 x9) ∗ owns (c : Thread nD τ) arg11 fullShare (outCtx x2 x3 x4 x5 x6 x8 x9)) -∗ K ⟨⟩))
    ⊢ wp frame (wpE (defs₀ (F := F)) Variants.none (c : Thread nD τ) none) E (cc0_diff_attention i arg2 harg2 arg3 harg3 arg4 harg4 arg5 harg5 arg6 harg6 arg7 harg7 arg8 harg8 arg9 harg9 arg10 harg10 arg11 harg11) K := by
  simp only [cc0_diff_attention_eq_skeleton]; unfold cc0_diff_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf2 hf3 hf4 hf5 hf6 hf7 hf8 hf9
  by_cases hC : small (arg2.view.read (Elt F) f2) (arg3.view.read (Elt F) f3) (arg4.view.read (Elt F) f4) (arg5.view.read (Elt F) f5) = 1#1
  · have hL : outLat (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) = View.canon [⟨rT 3, latS (lamOf (arg8.view.read (Elt F) f8)) (View.ld (arg2.view.read (Elt F) f2) (rT 3)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 2, latS (lamOf (arg8.view.read (Elt F) f8)) (View.ld (arg2.view.read (Elt F) f2) (rT 2)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 1, latS (lamOf (arg8.view.read (Elt F) f8)) (View.ld (arg2.view.read (Elt F) f2) (rT 1)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 0, latS (lamOf (arg8.view.read (Elt F) f8)) (View.ld (arg2.view.read (Elt F) f2) (rT 0)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
      unfold outLat; simp only [if_pos hC]
    have hX : outCtx (arg2.view.read (Elt F) f2) (arg3.view.read (Elt F) f3) (arg4.view.read (Elt F) f4) (arg5.view.read (Elt F) f5) (arg6.view.read (Elt F) f6) (arg8.view.read (Elt F) f8) (arg9.view.read (Elt F) f9) = View.canon [⟨rC, ctxS (lamOf (arg8.view.read (Elt F) f8)) (View.ld (arg3.view.read (Elt F) f3) rC) (View.ld (arg4.view.read (Elt F) f4) rC) (View.ld (arg6.view.read (Elt F) f6) rC) (View.ld (arg9.view.read (Elt F) f9) rW)⟩] := by
      unfold outCtx; simp only [if_pos hC]
    rw [hL, hX]
    unfold small at hC
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      exact View.read_writes_eq_canon _ _ _ (cover_lat _ _ _ _)
    iexists _; isplitr
    swap; · iexact H11
    ipureintro
    exact View.read_writes_eq_canon _ _ _ (cover_ctx _)
  · have hL : outLat (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) = View.canon [⟨rT 3, latR (lamOf (arg8.view.read (Elt F) f8)) (View.ld (arg2.view.read (Elt F) f2) (rT 3)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 2, latR (lamOf (arg8.view.read (Elt F) f8)) (View.ld (arg2.view.read (Elt F) f2) (rT 2)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 1, latR (lamOf (arg8.view.read (Elt F) f8)) (View.ld (arg2.view.read (Elt F) f2) (rT 1)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩, ⟨rT 0, latR (lamOf (arg8.view.read (Elt F) f8)) (View.ld (arg2.view.read (Elt F) f2) (rT 0)) (View.ld (arg4.view.read (Elt F) f4) rC) (View.ld (arg5.view.read (Elt F) f5) rL) (View.ld (arg6.view.read (Elt F) f6) rC) (View.ld (arg7.view.read (Elt F) f7) rL) (View.ld (arg9.view.read (Elt F) f9) rW)⟩] := by
      unfold outLat; simp only [if_neg hC]
    have hX : outCtx (arg2.view.read (Elt F) f2) (arg3.view.read (Elt F) f3) (arg4.view.read (Elt F) f4) (arg5.view.read (Elt F) f5) (arg6.view.read (Elt F) f6) (arg8.view.read (Elt F) f8) (arg9.view.read (Elt F) f9) = View.canon [⟨rC, ctxR (lamOf (arg8.view.read (Elt F) f8)) (View.ld (arg3.view.read (Elt F) f3) rC) (View.ld (arg4.view.read (Elt F) f4) rC) (View.ld (arg6.view.read (Elt F) f6) rC) (View.ld (arg9.view.read (Elt F) f9) rW)⟩] := by
      unfold outCtx; simp only [if_neg hC]
    rw [hL, hX]
    unfold small at hC
    sl_exec
    rw [loop_pieces c i arg2 harg2 arg3 harg3 arg4 harg4 arg5 harg5 arg6 harg6 arg7 harg7 arg8 harg8 arg9 harg9 arg10 harg10 arg11 harg11 f2 f4 f5 f6 f7 f9]
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists _; isplitr
      swap; · iexact H10
      ipureintro
      exact View.read_writes_eq_canon _ _ _ (cover_lat _ _ _ _)
    iexists _; isplitr
    swap; · iexact H11
    ipureintro
    exact View.read_writes_eq_canon _ _ _ (cover_ctx _)

end Cert.Proof.Attn

end
-- ==== Proof.AttnRun.lean ====
/- The attention call's run: what each grid point leaves, the launch, the frame. -/
module

public import proofs.«01_k».proof.Proof.AttnBody
public import Idealize.ShloMosaic.Lib.Claim
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outLat (iblk m c 0 t) (iblk m c 1 t) (iblk m c 2 t) (iblk m c 3 t) (iblk m c 4 t) (iblk m c 5 t) (iblk m c 6 t) (iblk m c 7 t)
    | ⟨9, _⟩ => outCtx (iblk m c 0 t) (iblk m c 1 t) (iblk m c 2 t) (iblk m c 3 t) (iblk m c 4 t) (iblk m c 6 t) (iblk m c 7 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outLat (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outCtx (iblk m c 0 t) (iblk m c 1 t) (iblk m c 2 t) (iblk m c 3 t) (iblk m c 4 t) (iblk m c 6 t) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation, at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.AttnFrames.lean ====
/- The frames of the attention's three programs, the precondition's stated facts and the named scale's rule. -/
module

public import proofs.«01_k».proof.Defs
public import proofs.«01_k».proof.Proof.AttnRun
public import proofs.«01_k».proof.Proof.Gen.Kernel
public import proofs.«01_k».proof.Proof.Gen.Kernel.Launch
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Proof.Attn

open Idealize.ShloMosaic Idealize.SL.Sem

/-- The facts that the precondition states. -/
theorem preFacts : Cert.Pre_finite.Facts where
  bcast_S_S8x2048x5120 := by decide
  reducesTo_S8x2048x5120_S_d0_1_2 := by decide
  h_S_ := by decide
  bcast_S_S8x256x5120 := by decide
  reducesTo_S8x256x5120_S_d0_1_2 := by decide
  bcast_S_S4x64 := by decide
  reducesTo_S4x64_S_d0_1 := by decide

/-- At words a named constant is its word. -/
@[reducible] def wordNamed : Named Bits where
  named _ _ {φ} w := FloatOps.ofBits (F := Bits) φ w

theorem defs₀_eq : @Kernel.defs₀ Bits _ _ = @KernelIdeal.defs₀ Bits _ wordNamed _ := by
  unfold Kernel.defs₀ KernelIdeal.defs₀
  refine congrArg Defs.onTc ?_
  funext x y
  match x, y with
  | 0, (t, s) => rfl
theorem defs_eq : @Kernel.defs Bits _ _ = @KernelIdeal.defs Bits _ wordNamed _ :=
  congrArg (Pipeline.defs (Kernel.pcfgs (F := Bits))) defs₀_eq

/-- The kernel's frame: its text at words is the idealised kernel's. -/
theorem frame_kernel : Cert.quiescent_Kernel := by
  intro m ρ _
  rw [defs_eq]
  exact @frame Bits _ wordNamed m ρ

theorem frame_ideal : Cert.quiescent_KernelIdeal :=
  fun m ρ _ => frame (F := Ideal) m ρ

theorem frame_ideal_pre : Cert.quiescent_KernelIdeal_pre_finite (hPre_finite := preFacts) :=
  fun m ρ _ => frame (F := Ideal) m ρ

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_pre : Cert.quiescent_ReferenceIdeal_pre_finite (hPre_finite := preFacts) := fun m ρ _ =>
  frame_ref m ρ trivial

theorem preserves : Cert.preserves_Kernel_KernelIdeal :=
  IdealRules.named_const.statement Cert.KernelIdeal.κ "qk_scale" .f32 0x3E38AA3B#32 _ rfl

end Cert.Proof.Attn

end
-- ==== Proof.AttnReal.lean ====
/- The attention's arithmetic over the reals: the weighted mean of the values under the exponentials of the scores, the same
   under any shift of the scores, and the extended reals' sums, quotients and largest elements that come to it. -/
module

public import Idealize.ShloMosaic.PureOps.Ideal
public import Idealize.ShloMosaic.Lib.Pointwise
public import Idealize.ShloMosaic.Lib.Pipeline.ValueKit

@[expose] public section

set_option maxRecDepth 16384

noncomputable section

namespace Cert.Proof.Attn

open Idealize.ShloMosaic

/-- The mean of `v` under the weights `exp s`. -/
def avg {ι : Type} [Fintype ι] (s v : ι → ℝ) : ℝ := (∑ i, Real.exp (s i) * v i) / ∑ i, Real.exp (s i)

/-- The same over two families of keys. -/
def avg2 {n m : ℕ} (s : Fin n → ℝ) (s' : Fin m → ℝ) (v : Fin n → ℝ) (v' : Fin m → ℝ) : ℝ :=
  (∑ i, Real.exp (s i) * v i + ∑ i, Real.exp (s' i) * v' i) / (∑ i, Real.exp (s i) + ∑ i, Real.exp (s' i))

theorem sum_shift {ι : Type} [Fintype ι] (s : ι → ℝ) (c : ℝ) :
    ∑ i, Real.exp (s i - c) = Real.exp (-c) * ∑ i, Real.exp (s i) := by
  rw [Finset.mul_sum]
  exact Finset.sum_congr rfl fun i _ => by rw [← Real.exp_add]; ring_nf

theorem sum_shift_mul {ι : Type} [Fintype ι] (s v : ι → ℝ) (c : ℝ) :
    ∑ i, Real.exp (s i - c) * v i = Real.exp (-c) * ∑ i, Real.exp (s i) * v i := by
  rw [Finset.mul_sum]
  exact Finset.sum_congr rfl fun i _ => by rw [← mul_assoc, ← Real.exp_add]; ring_nf

theorem avg_shift {ι : Type} [Fintype ι] (s v : ι → ℝ) (c : ℝ) :
    (∑ i, Real.exp (s i - c) * v i) / (∑ i, Real.exp (s i - c)) = avg s v := by
  rw [sum_shift, sum_shift_mul, mul_div_mul_left _ _ (Real.exp_ne_zero _)]; rfl

theorem avg2_shift {n m : ℕ} (s : Fin n → ℝ) (s' : Fin m → ℝ) (v : Fin n → ℝ) (v' : Fin m → ℝ) (c : ℝ) :
    (∑ i, Real.exp (s i - c) * v i + ∑ i, Real.exp (s' i - c) * v' i) /
      (∑ i, Real.exp (s i - c) + ∑ i, Real.exp (s' i - c)) = avg2 s s' v v' := by
  rw [sum_shift, sum_shift, sum_shift_mul, sum_shift_mul, ← mul_add, ← mul_add, mul_div_mul_left _ _ (Real.exp_ne_zero _)]; rfl

/-- A sum over the joined keys, the first family's before the second's. -/
theorem sum_cat {M : Type} [AddCommMonoid M] (f : Fin 2304 → M) :
    ∑ k, f k = ∑ j : Fin 256, f ⟨j.val, by omega⟩ + ∑ j : Fin 2048, f ⟨256 + j.val, by omega⟩ :=
  Fin.sum_univ_add (a := 256) (b := 2048) f

/-- The joined family. -/
def cat (f : Fin 256 → ℝ) (g : Fin 2048 → ℝ) (k : Fin 2304) : ℝ :=
  if h : k.val < 256 then f ⟨k.val, h⟩ else g ⟨k.val - 256, by omega⟩

theorem cat_left (f : Fin 256 → ℝ) (g : Fin 2048 → ℝ) (j : Fin 256) : cat f g ⟨j.val, by omega⟩ = f j := by
  simp [cat]

theorem cat_right (f : Fin 256 → ℝ) (g : Fin 2048 → ℝ) (j : Fin 2048) : cat f g ⟨256 + j.val, by omega⟩ = g j := by
  simp [cat]

theorem avg_cat (s : Fin 256 → ℝ) (s' : Fin 2048 → ℝ) (v : Fin 256 → ℝ) (v' : Fin 2048 → ℝ) :
    avg (cat s s') (cat v v') = avg2 s s' v v' := by
  unfold avg avg2
  rw [sum_cat, sum_cat]
  simp only [cat_left, cat_right]

/-! ## The two maps' scores -/

/-- The first map's score. -/
def dotA (q k : Fin 128 → ℝ) : ℝ := (∑ d : Fin 64, q ⟨d.val, by omega⟩ * k ⟨d.val, by omega⟩) * (1 / 8)

/-- The second map's score. -/
def dotB (q k : Fin 128 → ℝ) : ℝ := (∑ d : Fin 64, q ⟨64 + d.val, by omega⟩ * k ⟨64 + d.val, by omega⟩) * (1 / 8)

theorem sum_halves {M : Type} [AddCommMonoid M] (f : Fin 128 → M) :
    ∑ k, f k = ∑ j : Fin 64, f ⟨j.val, by omega⟩ + ∑ j : Fin 64, f ⟨64 + j.val, by omega⟩ :=
  Fin.sum_univ_add (a := 64) (b := 64) f

/-- A sum of reals, in the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem scoreA (q k : Fin 128 → ℝ) :
    ∑ d : Fin 128, (if d.val < 64 then (q d : EReal) * (((1/8) * (Real.log 2)⁻¹ : ℝ) : EReal) else 0) * (k d : EReal)
      = ((dotA q k * (Real.log 2)⁻¹ : ℝ) : EReal) := by
  have e : ∀ d : Fin 128, (if d.val < 64 then (q d : EReal) * (((1/8) * (Real.log 2)⁻¹ : ℝ) : EReal) else 0) * (k d : EReal)
      = (((if d.val < 64 then q d * ((1/8) * (Real.log 2)⁻¹) else 0) * k d : ℝ) : EReal) := fun d => by
    split <;> simp
  rw [Finset.sum_congr rfl fun d _ => e d, coe_sum, sum_halves]
  congr 1
  simp only [dotA, Fin.is_lt, if_true, Finset.sum_mul]
  rw [Finset.sum_eq_zero (s := Finset.univ) (f := fun j : Fin 64 => (if 64 + j.val < 64 then _ else (0 : ℝ)) * _)
    (fun j _ => by rw [if_neg (by omega), zero_mul]), add_zero]
  exact Finset.sum_congr rfl fun d _ => by ring

theorem scoreB (q k : Fin 128 → ℝ) :
    ∑ d : Fin 128, (if d.val < 64 then 0 else (q d : EReal) * (((1/8) * (Real.log 2)⁻¹ : ℝ) : EReal)) * (k d : EReal)
      = ((dotB q k * (Real.log 2)⁻¹ : ℝ) : EReal) := by
  have e : ∀ d : Fin 128, (if d.val < 64 then 0 else (q d : EReal) * (((1/8) * (Real.log 2)⁻¹ : ℝ) : EReal)) * (k d : EReal)
      = (((if d.val < 64 then 0 else q d * ((1/8) * (Real.log 2)⁻¹)) * k d : ℝ) : EReal) := fun d => by
    split <;> simp
  rw [Finset.sum_congr rfl fun d _ => e d, coe_sum, sum_halves]
  congr 1
  simp only [dotB, Fin.is_lt, if_true, zero_mul, Finset.sum_const_zero, zero_add, Finset.sum_mul]
  exact Finset.sum_congr rfl fun d _ => by rw [if_neg (by omega)]; ring

/-- Two to a score over `log 2`, shifted by `x`. -/
theorem exp2_score (s x : ℝ) :
    Ideal.exp2 (((s * (Real.log 2)⁻¹ : ℝ) : EReal) - (x : EReal)) = ((Real.exp (s - x * Real.log 2) : ℝ) : EReal) := by
  rw [← EReal.coe_sub, Ideal.exp2_coe]
  congr 1
  show (2 : ℝ) ^ (s * (Real.log 2)⁻¹ - x) = _
  rw [Real.rpow_def_of_pos (by norm_num)]
  congr 1
  have : Real.log 2 ≠ 0 := (Real.log_pos (by norm_num)).ne'
  field_simp

theorem exp2_score0 (s : ℝ) :
    Ideal.exp2 ((s * (Real.log 2)⁻¹ : ℝ) : EReal) = ((Real.exp (s - 0) : ℝ) : EReal) := by
  have := exp2_score s 0
  simpa using this

theorem exp_score (s x : ℝ) : Ideal.exp ((s : EReal) - (x : EReal)) = ((Real.exp (s - x) : ℝ) : EReal) := by
  rw [← EReal.coe_sub, Ideal.exp_coe]

theorem div_real (x y : ℝ) (h : y ≠ 0) : Ideal.div (x : EReal) (y : EReal) = ((x / y : ℝ) : EReal) := by
  rw [Ideal.div_coe h, ← EReal.coe_mul, mul_one_div]

theorem mul_div_real (n l y : ℝ) (h : y ≠ 0) :
    (n : EReal) * Ideal.div (l : EReal) (y : EReal) = ((l * (n / y) : ℝ) : EReal) := by
  rw [div_real _ _ h, ← EReal.coe_mul]; congr 1; ring

theorem sum_exp_pos {ι : Type} [Fintype ι] [Nonempty ι] (s : ι → ℝ) : 0 < ∑ i, Real.exp (s i) :=
  Finset.sum_pos (fun i _ => Real.exp_pos _) Finset.univ_nonempty

theorem coe_max (a b : ℝ) : max (a : EReal) (b : EReal) = ((max a b : ℝ) : EReal) :=
  ((EReal.coe_strictMono.monotone.map_max) : ((max a b : ℝ) : EReal) = _).symm

/-- The largest of finitely many reals, at least one of them, is a real. -/
theorem fold_max_real {ι : Type} (t : Finset ι) (ht : t.Nonempty) (f : ι → ℝ) :
    ∃ M : ℝ, Finset.fold max (⊥ : EReal) (fun x => (f x : EReal)) t = (M : EReal) := by
  classical
  induction ht using Finset.Nonempty.cons_induction with
  | singleton a => exact ⟨f a, by simp⟩
  | cons a s ha hs ih =>
    obtain ⟨M, hM⟩ := ih
    exact ⟨max (f a) M, by rw [Finset.fold_cons, hM, coe_max]⟩

theorem negInf : Ideal.ofBits .f32 0xFF800000#32 = ⊥ := by simp [Ideal.ofBits, Ideal.ieee]

theorem fold_negInf {ι : Type} [Fintype ι] [Nonempty ι] (f : ι → ℝ) :
    ∃ M : ℝ, Finset.fold max (Ideal.ofBits .f32 0xFF800000#32) (fun x => (f x : EReal)) Finset.univ = (M : EReal) := by
  rw [negInf]; exact fold_max_real _ Finset.univ_nonempty f

/-! ## The difference of the two maps -/

theorem sumK {ι : Type} [Fintype ι] (s v : ι → ℝ) :
    ∑ j, ((Real.exp (s j) : ℝ) : EReal) * (v j : EReal) = ((∑ j, Real.exp (s j) * v j : ℝ) : EReal) := by
  rw [← coe_sum]; exact Finset.sum_congr rfl fun j _ => (EReal.coe_mul _ _).symm

/-- The kernel's difference over two families of keys, the scores shifted by `x` and `y`. -/
theorem diff2 {n m : ℕ} [NeZero n] (a b v : Fin n → ℝ) (a' b' v' : Fin m → ℝ) (x y l : ℝ) :
    (∑ j, ((Real.exp (a j - x) : ℝ) : EReal) * (v j : EReal) + ∑ j, ((Real.exp (a' j - x) : ℝ) : EReal) * (v' j : EReal))
        * Ideal.div 1 (∑ j, ((Real.exp (a j - x) : ℝ) : EReal) + ∑ j, ((Real.exp (a' j - x) : ℝ) : EReal))
      - (∑ j, ((Real.exp (b j - y) : ℝ) : EReal) * (v j : EReal) + ∑ j, ((Real.exp (b' j - y) : ℝ) : EReal) * (v' j : EReal))
        * Ideal.div (l : EReal) (∑ j, ((Real.exp (b j - y) : ℝ) : EReal) + ∑ j, ((Real.exp (b' j - y) : ℝ) : EReal))
      = ((avg2 a a' v v' - l * avg2 b b' v v' : ℝ) : EReal) := by
  have p : ∀ (s : Fin n → ℝ) (s' : Fin m → ℝ), ∑ j, Real.exp (s j) + ∑ j, Real.exp (s' j) ≠ 0 := fun s s' =>
    (add_pos_of_pos_of_nonneg (sum_exp_pos s) (Finset.sum_nonneg fun i _ => (Real.exp_pos _).le)).ne'
  rw [sumK (fun j => a j - x), sumK (fun j => a' j - x), sumK (fun j => b j - y), sumK (fun j => b' j - y)]
  simp only [coe_sum, ← EReal.coe_add]
  rw [← EReal.coe_one, mul_div_real _ _ _ (p (fun j => a j - x) (fun j => a' j - x)),
    mul_div_real _ _ _ (p (fun j => b j - y) (fun j => b' j - y)), ← EReal.coe_sub, one_mul, avg2_shift, avg2_shift]

/-- The kernel's difference over one family of keys. -/
theorem diff1 {n : ℕ} [NeZero n] (a b v : Fin n → ℝ) (x y l : ℝ) :
    (∑ j, ((Real.exp (a j - x) : ℝ) : EReal) * (v j : EReal)) * Ideal.div 1 (∑ j, ((Real.exp (a j - x) : ℝ) : EReal))
      - (∑ j, ((Real.exp (b j - y) : ℝ) : EReal) * (v j : EReal)) * Ideal.div (l : EReal) (∑ j, ((Real.exp (b j - y) : ℝ) : EReal))
      = ((avg a v - l * avg b v : ℝ) : EReal) := by
  rw [sumK (fun j => a j - x), sumK (fun j => b j - y)]
  simp only [coe_sum]
  rw [← EReal.coe_one, mul_div_real _ _ _ (sum_exp_pos (fun j => a j - x)).ne',
    mul_div_real _ _ _ (sum_exp_pos (fun j => b j - y)).ne', ← EReal.coe_sub, one_mul, avg_shift, avg_shift]

/-- The reference's: the weights first, their difference times the values. -/
theorem diffRef {n : ℕ} [NeZero n] (a b v : Fin n → ℝ) (x y l : ℝ) :
    ∑ k, (Ideal.div ((Real.exp (a k - x) : ℝ) : EReal) (∑ j, ((Real.exp (a j - x) : ℝ) : EReal))
        - (l : EReal) * Ideal.div ((Real.exp (b k - y) : ℝ) : EReal) (∑ j, ((Real.exp (b j - y) : ℝ) : EReal))) * (v k : EReal)
      = ((avg a v - l * avg b v : ℝ) : EReal) := by
  simp only [coe_sum, div_real _ _ (sum_exp_pos (fun j => a j - x)).ne', div_real _ _ (sum_exp_pos (fun j => b j - y)).ne',
    ← EReal.coe_mul, ← EReal.coe_sub]
  congr 1
  rw [← avg_shift a v x, ← avg_shift b v y, Finset.sum_div, Finset.sum_div, Finset.mul_sum, ← Finset.sum_sub_distrib]
  exact Finset.sum_congr rfl fun k _ => by ring

/-- The last part: the root mean square divided out, times the weights and the constant factor. -/
def fin (a w : Fin 128 → EReal) (d : Fin 128) : EReal :=
  a d * Ideal.rsqrt (Ideal.div (∑ x, a x * a x) (Ideal.ofBits .f32 0x43000000#32) + Ideal.ofBits .f32 0x3727C5AC#32) * w d
    * Ideal.ofBits .f32 0x3F4CCCCD#32

end Cert.Proof.Attn

end
-- ==== Proof.AttnPoint.lean ====
/- The attention's vocabulary read at an index, over the extended reals. -/
module

public import proofs.«01_k».proof.Proof.AttnVocab
public import proofs.«01_k».proof.Proof.AttnReal
public import Idealize.ShloMosaic.Lib.Pointwise
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem

/-- The lanes below 64, as the mask's words say it. -/
theorem mask_word (d : Fin 128) : IntOp.cmpi .slt (BitVec.ofNat 32 d.val) 64#32 = if d.val < 64 then 1#1 else 0#1 := by
  revert d; decide +kernel

theorem named_scale : (Named.named κ "qk_scale" 0x3E38AA3B#32 : Ideal .f32) = (((1/8) * (Real.log 2)⁻¹ : ℝ) : EReal) := rfl

theorem qa512_apply (x : Vec Ideal S1x512x128 .bf16) (i : Fin 512) (d : Fin 128) :
    qa512 (F := Ideal) x (ix2 i d) = if d.val < 64 then x (ix3 0 i d) * (((1/8) * (Real.log 2)⁻¹ : ℝ) : EReal) else 0 := by
  pointwise [qa512, qs512, mask512, z512]
  rw [mask_word, named_scale]
  split <;> simp [Scalar.select]

theorem qb512_apply (x : Vec Ideal S1x512x128 .bf16) (i : Fin 512) (d : Fin 128) :
    qb512 (F := Ideal) x (ix2 i d) = if d.val < 64 then 0 else x (ix3 0 i d) * (((1/8) * (Real.log 2)⁻¹ : ℝ) : EReal) := by
  pointwise [qb512, qs512, mask512, z512]
  rw [mask_word, named_scale]
  split <;> simp [Scalar.select]

theorem fin512_apply (lam : FVec Ideal S1x1 .f32) (d1 : FVec Ideal S512x1 .f32) (n1 : FVec Ideal S512x128 .f32) (d2 : FVec Ideal S512x1 .f32)
    (n2 : FVec Ideal S512x128 .f32) (w : Vec Ideal S1x128 .f32) (i : Fin 512) (d : Fin 128) :
    fin512 lam d1 n1 d2 n2 w (ix3 0 i d) = fin (fun x => n1 (ix2 i x) * Ideal.div 1 (d1 (ix2 i 0))
      - n2 (ix2 i x) * Ideal.div (lam (ix2 0 0)) (d2 (ix2 i 0))) (fun x => w (ix2 0 x)) d := by
  unfold fin
  pointwise [fin512]

theorem qa256_apply (x : Vec Ideal S1x256x128 .bf16) (i : Fin 256) (d : Fin 128) :
    qa256 (F := Ideal) x (ix2 i d) = if d.val < 64 then x (ix3 0 i d) * (((1/8) * (Real.log 2)⁻¹ : ℝ) : EReal) else 0 := by
  pointwise [qa256, qs256, mask256, z256]
  rw [mask_word, named_scale]
  split <;> simp [Scalar.select]

theorem qb256_apply (x : Vec Ideal S1x256x128 .bf16) (i : Fin 256) (d : Fin 128) :
    qb256 (F := Ideal) x (ix2 i d) = if d.val < 64 then 0 else x (ix3 0 i d) * (((1/8) * (Real.log 2)⁻¹ : ℝ) : EReal) := by
  pointwise [qb256, qs256, mask256, z256]
  rw [mask_word, named_scale]
  split <;> simp [Scalar.select]

theorem fin256_apply (lam : FVec Ideal S1x1 .f32) (d1 : FVec Ideal S256x1 .f32) (n1 : FVec Ideal S256x128 .f32) (d2 : FVec Ideal S256x1 .f32)
    (n2 : FVec Ideal S256x128 .f32) (w : Vec Ideal S1x128 .f32) (i : Fin 256) (d : Fin 128) :
    fin256 lam d1 n1 d2 n2 w (ix3 0 i d) = fin (fun x => n1 (ix2 i x) * Ideal.div 1 (d1 (ix2 i 0))
      - n2 (ix2 i x) * Ideal.div (lam (ix2 0 0)) (d2 (ix2 i 0))) (fun x => w (ix2 0 x)) d := by
  unfold fin
  pointwise [fin256]

theorem sc512_256_apply (q : FVec Ideal S512x128 .bf16) (k : Vec Ideal S1x256x128 .bf16) (i : Fin 512) (j : Fin 256) :
    sc512_256 q k (ix2 i j) = ∑ d : Fin 128, q (ix2 i d) * k (ix3 0 j d) := by
  pointwise [sc512_256]

theorem den512_256_apply (e : FVec Ideal S512x256 .f32) (i : Fin 512) :
    den512_256 e (ix2 i 0) = ∑ j : Fin 256, e (ix2 i j) := by
  pointwise [den512_256]

theorem num512_256_apply (e : FVec Ideal S512x256 .f32) (v : Vec Ideal S1x256x128 .bf16) (i : Fin 512) (d : Fin 128) :
    num512_256 e v (ix2 i d) = ∑ j : Fin 256, e (ix2 i j) * v (ix3 0 j d) := by
  pointwise [num512_256]

theorem mx512_256_apply (e : FVec Ideal S512x256 .f32) (i : Fin 512) :
    mx512_256 e (ix2 i 0) = Finset.fold max (Ideal.ofBits .f32 0xFF800000#32) (fun x => e (ix2 i x)) Finset.univ := by
  pointwise [mx512_256]

theorem sh512_256_apply (e : FVec Ideal S512x256 .f32) (x : FVec Ideal S512x1 .f32) (i : Fin 512) (j : Fin 256) :
    sh512_256 e x (ix2 i j) = Ideal.exp2 (e (ix2 i j) - x (ix2 i 0)) := by
  pointwise [sh512_256]
  rfl

theorem sc512_2048_apply (q : FVec Ideal S512x128 .bf16) (k : Vec Ideal S1x2048x128 .bf16) (i : Fin 512) (j : Fin 2048) :
    sc512_2048 q k (ix2 i j) = ∑ d : Fin 128, q (ix2 i d) * k (ix3 0 j d) := by
  pointwise [sc512_2048]

theorem den512_2048_apply (e : FVec Ideal S512x2048 .f32) (i : Fin 512) :
    den512_2048 e (ix2 i 0) = ∑ j : Fin 2048, e (ix2 i j) := by
  pointwise [den512_2048]

theorem num512_2048_apply (e : FVec Ideal S512x2048 .f32) (v : Vec Ideal S1x2048x128 .bf16) (i : Fin 512) (d : Fin 128) :
    num512_2048 e v (ix2 i d) = ∑ j : Fin 2048, e (ix2 i j) * v (ix3 0 j d) := by
  pointwise [num512_2048]

theorem mx512_2048_apply (e : FVec Ideal S512x2048 .f32) (i : Fin 512) :
    mx512_2048 e (ix2 i 0) = Finset.fold max (Ideal.ofBits .f32 0xFF800000#32) (fun x => e (ix2 i x)) Finset.univ := by
  pointwise [mx512_2048]

theorem sh512_2048_apply (e : FVec Ideal S512x2048 .f32) (x : FVec Ideal S512x1 .f32) (i : Fin 512) (j : Fin 2048) :
    sh512_2048 e x (ix2 i j) = Ideal.exp2 (e (ix2 i j) - x (ix2 i 0)) := by
  pointwise [sh512_2048]
  rfl

theorem sc256_256_apply (q : FVec Ideal S256x128 .bf16) (k : Vec Ideal S1x256x128 .bf16) (i : Fin 256) (j : Fin 256) :
    sc256_256 q k (ix2 i j) = ∑ d : Fin 128, q (ix2 i d) * k (ix3 0 j d) := by
  pointwise [sc256_256]

theorem den256_256_apply (e : FVec Ideal S256x256 .f32) (i : Fin 256) :
    den256_256 e (ix2 i 0) = ∑ j : Fin 256, e (ix2 i j) := by
  pointwise [den256_256]

theorem num256_256_apply (e : FVec Ideal S256x256 .f32) (v : Vec Ideal S1x256x128 .bf16) (i : Fin 256) (d : Fin 128) :
    num256_256 e v (ix2 i d) = ∑ j : Fin 256, e (ix2 i j) * v (ix3 0 j d) := by
  pointwise [num256_256]

theorem mx256_256_apply (e : FVec Ideal S256x256 .f32) (i : Fin 256) :
    mx256_256 e (ix2 i 0) = Finset.fold max (Ideal.ofBits .f32 0xFF800000#32) (fun x => e (ix2 i x)) Finset.univ := by
  pointwise [mx256_256]

theorem sh256_256_apply (e : FVec Ideal S256x256 .f32) (x : FVec Ideal S256x1 .f32) (i : Fin 256) (j : Fin 256) :
    sh256_256 e x (ix2 i j) = Ideal.exp2 (e (ix2 i j) - x (ix2 i 0)) := by
  pointwise [sh256_256]
  rfl

/-! ## The tiles over real operands -/

/-- The first map's scores of row `i`. -/
theorem scA512_256 (x : Vec Ideal S1x512x128 .bf16) (k : Vec Ideal S1x256x128 .bf16) (i : Fin 512) (j : Fin 256)
    (q : Fin 128 → ℝ) (kr : Fin 256 → Fin 128 → ℝ) (hx : ∀ d, x (ix3 0 i d) = (q d : EReal))
    (hk : ∀ j d, k (ix3 0 j d) = (kr j d : EReal)) :
    sc512_256 (qa512 x) k (ix2 i j) = ((dotA q (kr j) * (Real.log 2)⁻¹ : ℝ) : EReal) := by
  rw [sc512_256_apply]
  simp only [qa512_apply, hx, hk]
  exact scoreA q (kr j)

/-- The second map's. -/
theorem scB512_256 (x : Vec Ideal S1x512x128 .bf16) (k : Vec Ideal S1x256x128 .bf16) (i : Fin 512) (j : Fin 256)
    (q : Fin 128 → ℝ) (kr : Fin 256 → Fin 128 → ℝ) (hx : ∀ d, x (ix3 0 i d) = (q d : EReal))
    (hk : ∀ j d, k (ix3 0 j d) = (kr j d : EReal)) :
    sc512_256 (qb512 x) k (ix2 i j) = ((dotB q (kr j) * (Real.log 2)⁻¹ : ℝ) : EReal) := by
  rw [sc512_256_apply]
  simp only [qb512_apply, hx, hk]
  exact scoreB q (kr j)

/-- The first map's scores of row `i`. -/
theorem scA512_2048 (x : Vec Ideal S1x512x128 .bf16) (k : Vec Ideal S1x2048x128 .bf16) (i : Fin 512) (j : Fin 2048)
    (q : Fin 128 → ℝ) (kr : Fin 2048 → Fin 128 → ℝ) (hx : ∀ d, x (ix3 0 i d) = (q d : EReal))
    (hk : ∀ j d, k (ix3 0 j d) = (kr j d : EReal)) :
    sc512_2048 (qa512 x) k (ix2 i j) = ((dotA q (kr j) * (Real.log 2)⁻¹ : ℝ) : EReal) := by
  rw [sc512_2048_apply]
  simp only [qa512_apply, hx, hk]
  exact scoreA q (kr j)

/-- The second map's. -/
theorem scB512_2048 (x : Vec Ideal S1x512x128 .bf16) (k : Vec Ideal S1x2048x128 .bf16) (i : Fin 512) (j : Fin 2048)
    (q : Fin 128 → ℝ) (kr : Fin 2048 → Fin 128 → ℝ) (hx : ∀ d, x (ix3 0 i d) = (q d : EReal))
    (hk : ∀ j d, k (ix3 0 j d) = (kr j d : EReal)) :
    sc512_2048 (qb512 x) k (ix2 i j) = ((dotB q (kr j) * (Real.log 2)⁻¹ : ℝ) : EReal) := by
  rw [sc512_2048_apply]
  simp only [qb512_apply, hx, hk]
  exact scoreB q (kr j)

/-- The first map's scores of row `i`. -/
theorem scA256_256 (x : Vec Ideal S1x256x128 .bf16) (k : Vec Ideal S1x256x128 .bf16) (i : Fin 256) (j : Fin 256)
    (q : Fin 128 → ℝ) (kr : Fin 256 → Fin 128 → ℝ) (hx : ∀ d, x (ix3 0 i d) = (q d : EReal))
    (hk : ∀ j d, k (ix3 0 j d) = (kr j d : EReal)) :
    sc256_256 (qa256 x) k (ix2 i j) = ((dotA q (kr j) * (Real.log 2)⁻¹ : ℝ) : EReal) := by
  rw [sc256_256_apply]
  simp only [qa256_apply, hx, hk]
  exact scoreA q (kr j)

/-- The second map's. -/
theorem scB256_256 (x : Vec Ideal S1x256x128 .bf16) (k : Vec Ideal S1x256x128 .bf16) (i : Fin 256) (j : Fin 256)
    (q : Fin 128 → ℝ) (kr : Fin 256 → Fin 128 → ℝ) (hx : ∀ d, x (ix3 0 i d) = (q d : EReal))
    (hk : ∀ j d, k (ix3 0 j d) = (kr j d : EReal)) :
    sc256_256 (qb256 x) k (ix2 i j) = ((dotB q (kr j) * (Real.log 2)⁻¹ : ℝ) : EReal) := by
  rw [sc256_256_apply]
  simp only [qb256_apply, hx, hk]
  exact scoreB q (kr j)

theorem addf_at {s : Shape} (a b : FVec Ideal s .f32) (i : s.Idx) : addf a b i = a i + b i := rfl
theorem exp2_at {s : Shape} (a : FVec Ideal s .f32) (i : s.Idx) : exp2 a i = Ideal.exp2 (a i) := rfl
theorem max_at {s : Shape} (a b : FVec Ideal s .f32) (i : s.Idx) : maximumf a b i = max (a i) (b i) := rfl

theorem latS_real (lam : FVec Ideal S1x1 .f32) (x : Vec Ideal S1x512x128 .bf16) (kc : Vec Ideal S1x256x128 .bf16) (kl : Vec Ideal S1x2048x128 .bf16)
    (vc : Vec Ideal S1x256x128 .bf16) (vl : Vec Ideal S1x2048x128 .bf16) (w : Vec Ideal S1x128 .f32) (i : Fin 512) (d : Fin 128)
    (q : Fin 128 → ℝ) (kr vr : Fin 256 → Fin 128 → ℝ) (kr' vr' : Fin 2048 → Fin 128 → ℝ) (l : ℝ)
    (hx : ∀ d, x (ix3 0 i d) = (q d : EReal)) (hkc : ∀ j d, kc (ix3 0 j d) = (kr j d : EReal))
    (hkl : ∀ j d, kl (ix3 0 j d) = (kr' j d : EReal))
    (hvc : ∀ j d, vc (ix3 0 j d) = (vr j d : EReal)) (hvl : ∀ j d, vl (ix3 0 j d) = (vr' j d : EReal))
    (hl : lam (ix2 0 0) = (l : EReal)) :
    latS lam x kc kl vc vl w (ix3 0 i d) = fin (fun d => ((avg2 (fun j => dotA q (kr j)) (fun j => dotA q (kr' j)) (fun j => vr j d) (fun j => vr' j d)
        - l * avg2 (fun j => dotB q (kr j)) (fun j => dotB q (kr' j)) (fun j => vr j d) (fun j => vr' j d) : ℝ) : EReal)) (fun x => w (ix2 0 x)) d := by
  unfold latS
  rw [fin512_apply]
  refine congrArg (fun a => fin a _ d) (funext fun d => ?_)
  simp only [addf_at, num512_256_apply, num512_2048_apply, den512_256_apply, den512_2048_apply, exp2_at,
    scA512_256 x kc i _ q kr hx hkc, scA512_2048 x kl i _ q kr' hx hkl, scB512_256 x kc i _ q kr hx hkc,
    scB512_2048 x kl i _ q kr' hx hkl, hvc, hvl, hl, exp2_score0]
  exact diff2 _ _ _ _ _ _ 0 0 l

theorem latR_real (lam : FVec Ideal S1x1 .f32) (x : Vec Ideal S1x512x128 .bf16) (kc : Vec Ideal S1x256x128 .bf16) (kl : Vec Ideal S1x2048x128 .bf16)
    (vc : Vec Ideal S1x256x128 .bf16) (vl : Vec Ideal S1x2048x128 .bf16) (w : Vec Ideal S1x128 .f32) (i : Fin 512) (d : Fin 128)
    (q : Fin 128 → ℝ) (kr vr : Fin 256 → Fin 128 → ℝ) (kr' vr' : Fin 2048 → Fin 128 → ℝ) (l : ℝ)
    (hx : ∀ d, x (ix3 0 i d) = (q d : EReal)) (hkc : ∀ j d, kc (ix3 0 j d) = (kr j d : EReal))
    (hkl : ∀ j d, kl (ix3 0 j d) = (kr' j d : EReal))
    (hvc : ∀ j d, vc (ix3 0 j d) = (vr j d : EReal)) (hvl : ∀ j d, vl (ix3 0 j d) = (vr' j d : EReal))
    (hl : lam (ix2 0 0) = (l : EReal)) :
    latR lam x kc kl vc vl w (ix3 0 i d) = fin (fun d => ((avg2 (fun j => dotA q (kr j)) (fun j => dotA q (kr' j)) (fun j => vr j d) (fun j => vr' j d)
        - l * avg2 (fun j => dotB q (kr j)) (fun j => dotB q (kr' j)) (fun j => vr j d) (fun j => vr' j d) : ℝ) : EReal)) (fun x => w (ix2 0 x)) d := by
  obtain ⟨m1, h1⟩ := fold_negInf fun j => dotA q (kr j) * (Real.log 2)⁻¹
  obtain ⟨m2, h2⟩ := fold_negInf fun j => dotA q (kr' j) * (Real.log 2)⁻¹
  obtain ⟨m3, h3⟩ := fold_negInf fun j => dotB q (kr j) * (Real.log 2)⁻¹
  obtain ⟨m4, h4⟩ := fold_negInf fun j => dotB q (kr' j) * (Real.log 2)⁻¹
  unfold latR
  rw [fin512_apply]
  refine congrArg (fun a => fin a _ d) (funext fun d => ?_)
  simp only [addf_at, num512_256_apply, num512_2048_apply, den512_256_apply, den512_2048_apply, sh512_256_apply, sh512_2048_apply,
    max_at, mx512_256_apply, mx512_2048_apply,
    scA512_256 x kc i _ q kr hx hkc, scA512_2048 x kl i _ q kr' hx hkl, scB512_256 x kc i _ q kr hx hkc,
    scB512_2048 x kl i _ q kr' hx hkl, hvc, hvl, hl, h1, h2, h3, h4, coe_max, exp2_score]
  exact diff2 _ _ _ _ _ _ _ _ l

theorem ctxS_real (lam : FVec Ideal S1x1 .f32) (x : Vec Ideal S1x256x128 .bf16) (kc : Vec Ideal S1x256x128 .bf16)
    (vc : Vec Ideal S1x256x128 .bf16) (w : Vec Ideal S1x128 .f32) (i : Fin 256) (d : Fin 128)
    (q : Fin 128 → ℝ) (kr vr : Fin 256 → Fin 128 → ℝ) (l : ℝ)
    (hx : ∀ d, x (ix3 0 i d) = (q d : EReal)) (hkc : ∀ j d, kc (ix3 0 j d) = (kr j d : EReal))
    (hvc : ∀ j d, vc (ix3 0 j d) = (vr j d : EReal)) (hl : lam (ix2 0 0) = (l : EReal)) :
    ctxS lam x kc vc w (ix3 0 i d) = fin (fun d => ((avg (fun j => dotA q (kr j)) (fun j => vr j d) - l * avg (fun j => dotB q (kr j)) (fun j => vr j d) : ℝ) : EReal))
      (fun x => w (ix2 0 x)) d := by
  unfold ctxS
  rw [fin256_apply]
  refine congrArg (fun a => fin a _ d) (funext fun d => ?_)
  simp only [num256_256_apply, den256_256_apply, exp2_at, scA256_256 x kc i _ q kr hx hkc, scB256_256 x kc i _ q kr hx hkc,
    hvc, hl, exp2_score0]
  exact diff1 _ _ _ 0 0 l

theorem ctxR_real (lam : FVec Ideal S1x1 .f32) (x : Vec Ideal S1x256x128 .bf16) (kc : Vec Ideal S1x256x128 .bf16)
    (vc : Vec Ideal S1x256x128 .bf16) (w : Vec Ideal S1x128 .f32) (i : Fin 256) (d : Fin 128)
    (q : Fin 128 → ℝ) (kr vr : Fin 256 → Fin 128 → ℝ) (l : ℝ)
    (hx : ∀ d, x (ix3 0 i d) = (q d : EReal)) (hkc : ∀ j d, kc (ix3 0 j d) = (kr j d : EReal))
    (hvc : ∀ j d, vc (ix3 0 j d) = (vr j d : EReal)) (hl : lam (ix2 0 0) = (l : EReal)) :
    ctxR lam x kc vc w (ix3 0 i d) = fin (fun d => ((avg (fun j => dotA q (kr j)) (fun j => vr j d) - l * avg (fun j => dotB q (kr j)) (fun j => vr j d) : ℝ) : EReal))
      (fun x => w (ix2 0 x)) d := by
  obtain ⟨m1, h1⟩ := fold_negInf fun j => dotA q (kr j) * (Real.log 2)⁻¹
  obtain ⟨m3, h3⟩ := fold_negInf fun j => dotB q (kr j) * (Real.log 2)⁻¹
  unfold ctxR
  rw [fin256_apply]
  refine congrArg (fun a => fin a _ d) (funext fun d => ?_)
  simp only [num256_256_apply, den256_256_apply, sh256_256_apply, mx256_256_apply,
    scA256_256 x kc i _ q kr hx hkc, scB256_256 x kc i _ q kr hx hkc, hvc, hl, h1, h3, exp2_score]
  exact diff1 _ _ _ _ _ l

end Cert.Proof.Attn

end
-- ==== Proof.AttnBlock.lean ====
/- The two result blocks of a grid point over real operand blocks. -/
module

public import proofs.«01_k».proof.Proof.AttnPoint

@[expose] public section

set_option maxRecDepth 16384

noncomputable section

namespace Cert.Proof.Attn

open Cert.KernelIdeal Cert.KernelIdeal.Gen
open Idealize.ShloMosaic Idealize.ShloMosaic.TcCoe Idealize.SL.Sem

theorem ld_rT (x : Vec Ideal S1x2048x128 .bf16) (k : Fin 4) (i : Fin 512) (d : Fin 128) :
    View.ld x (rT k) (ix3 0 i d) = x (ix3 0 ⟨512 * k.val + i.val, by omega⟩ d) := by
  pointwise []
  blk_ext

theorem zero2 : (![0, 0] : Fin 2 → ℕ) = fun _ => 0 := by decide
theorem zero3 : (![0, 0, 0] : Fin 3 → ℕ) = fun _ => 0 := by decide

theorem idx_row (x : S1x512x128.Idx) (d : Fin 128) (h : d.val = (x 2).val) : x = ix3 0 ⟨(x 1).val, (x 1).isLt⟩ d := by
  funext a
  match a with
  | ⟨0, _⟩ => exact Fin.ext (by have := (x 0).isLt; simp [S1x512x128] at this; simp [this])
  | ⟨1, _⟩ => rfl
  | ⟨2, _⟩ => exact Fin.ext h.symm

theorem lam_at (l : Vec Ideal S4x64 .f32) : lamOf l (ix2 0 0)
    = Ideal.exp (∑ x, l (ix2 0 x) * l (ix2 1 x)) - Ideal.exp (∑ x, l (ix2 2 x) * l (ix2 3 x)) + Ideal.ofBits .f32 0x3E4CCCCD#32 := by
  unfold lamOf
  rw [View.ld_unit_zero zero2]
  pointwise [k0_pay104]

/-- The latent block at a query and a lane. -/
theorem outLat_real (q kl vl : Vec Ideal S1x2048x128 .bf16) (qc kc vc : Vec Ideal S1x256x128 .bf16) (l : Vec Ideal S4x64 .f32)
    (w : Vec Ideal S1x128 .f32) (Q K' V' : Fin 2048 → Fin 128 → ℝ) (K V : Fin 256 → Fin 128 → ℝ) (lr : ℝ)
    (hq : ∀ j d, q (ix3 0 j d) = (Q j d : EReal)) (hkc : ∀ j d, kc (ix3 0 j d) = (K j d : EReal))
    (hkl : ∀ j d, kl (ix3 0 j d) = (K' j d : EReal)) (hvc : ∀ j d, vc (ix3 0 j d) = (V j d : EReal))
    (hvl : ∀ j d, vl (ix3 0 j d) = (V' j d : EReal)) (hl : lamOf l (ix2 0 0) = (lr : EReal)) (r : Fin 2048) (d : Fin 128) :
    outLat q qc kc kl vc vl l w (ix3 0 r d)
      = fin (fun d => ((avg2 (fun j => dotA (Q r) (K j)) (fun j => dotA (Q r) (K' j)) (fun j => V j d) (fun j => V' j d)
        - lr * avg2 (fun j => dotB (Q r) (K j)) (fun j => dotB (Q r) (K' j)) (fun j => V j d) (fun j => V' j d) : ℝ) : EReal))
        (fun x => w (ix2 0 x)) d := by
  have tile : ∀ (k : Fin 4) (i : Fin 512) (hr : r.val = 512 * k.val + i.val),
      (if small q qc kc kl = 1#1
        then latS (lamOf l) (View.ld q (rT k)) (View.ld kc rC) (View.ld kl rL) (View.ld vc rC) (View.ld vl rL) (View.ld w rW)
        else latR (lamOf l) (View.ld q (rT k)) (View.ld kc rC) (View.ld kl rL) (View.ld vc rC) (View.ld vl rL) (View.ld w rW)) (ix3 0 i d)
      = fin (fun d => ((avg2 (fun j => dotA (Q r) (K j)) (fun j => dotA (Q r) (K' j)) (fun j => V j d) (fun j => V' j d)
        - lr * avg2 (fun j => dotB (Q r) (K j)) (fun j => dotB (Q r) (K' j)) (fun j => V j d) (fun j => V' j d) : ℝ) : EReal))
        (fun x => w (ix2 0 x)) d := fun k i hr => by
    have hx : ∀ d, View.ld q (rT k) (ix3 0 i d) = (Q r d : EReal) := fun d => by
      rw [ld_rT, ← hq]
      exact congrArg (fun j => q (ix3 0 j d)) (Fin.ext hr.symm)
    rw [View.ld_unit_zero zero3 _ kc, View.ld_unit_zero zero3 _ kl, View.ld_unit_zero zero3 _ vc, View.ld_unit_zero zero3 _ vl, View.ld_unit_zero zero2 _ w]
    split
    · exact latS_real _ _ kc kl vc vl w i d (Q r) K V K' V' lr hx hkc hkl hvc hvl hl
    · exact latR_real _ _ kc kl vc vl w i d (Q r) K V K' V' lr hx hkc hkl hvc hvl hl
  unfold outLat
  canon_tiles x h
  · exact (congrArg _ (idx_row x d h2)).trans (tile 3 ⟨x 1, x1_lt⟩ h1)
  · exact (congrArg _ (idx_row x d h2)).trans (tile 2 ⟨x 1, x1_lt⟩ h1)
  · exact (congrArg _ (idx_row x d h2)).trans (tile 1 ⟨x 1, x1_lt⟩ h1)
  · exact (congrArg _ (idx_row x d h2)).trans (tile 0 ⟨x 1, x1_lt⟩ (h1.trans (by simp)))

/-- The context block. -/
theorem outCtx_real (q kl : Vec Ideal S1x2048x128 .bf16) (qc kc vc : Vec Ideal S1x256x128 .bf16) (l : Vec Ideal S4x64 .f32)
    (w : Vec Ideal S1x128 .f32) (Q K V : Fin 256 → Fin 128 → ℝ) (lr : ℝ)
    (hq : ∀ j d, qc (ix3 0 j d) = (Q j d : EReal)) (hkc : ∀ j d, kc (ix3 0 j d) = (K j d : EReal))
    (hvc : ∀ j d, vc (ix3 0 j d) = (V j d : EReal)) (hl : lamOf l (ix2 0 0) = (lr : EReal)) (r : Fin 256) (d : Fin 128) :
    outCtx q qc kc kl vc l w (ix3 0 r d)
      = fin (fun d => ((avg (fun j => dotA (Q r) (K j)) (fun j => V j d) - lr * avg (fun j => dotB (Q r) (K j)) (fun j => V j d) : ℝ) : EReal))
        (fun x => w (ix2 0 x)) d := by
  unfold outCtx
  rw [View.canon_unit_zero zero3, View.ld_unit_zero zero3 _ qc, View.ld_unit_zero zero3 _ kc, View.ld_unit_zero zero3 _ vc, View.ld_unit_zero zero2 _ w]
  split
  · exact ctxS_real _ _ kc vc w r d (Q r) K V lr (hq r) hkc hvc hl
  · exact ctxR_real _ _ kc vc w r d (Q r) K V lr (hq r) hkc hvc hl

end Cert.Proof.Attn

end
-- ==== Proof.AttnRef1.lean ====
/- The attention's reference over real arrays: its two results at an index. -/
module

public import proofs.«01_k».proof.Proof.AttnReal
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.Proof.Attn

open Cert.ReferenceIdeal Cert.ReferenceIdeal.Gen Cert.ReferenceIdeal.Read
open Idealize.ShloMosaic Idealize.ShloMosaic.TcCoe Idealize.SL.Sem

/-- Column `d` of head `h`'s group that starts at column `o`. -/
def col (o : ℕ) (ho : o ≤ 3072) (h : Fin 12) (d : Fin 128) : Fin 5120 := ⟨o + h.val * 128 + d.val, by omega⟩

/-- Head `h` of one batch's rows, the group of columns from `o` on. -/
def hd {n : ℕ} (X : Fin 8 → Fin n → Fin 5120 → ℝ) (o : ℕ) (ho : o ≤ 3072) (b : Fin 8) (h : Fin 12) (r : Fin n) (d : Fin 128) : ℝ :=
  X b r (col o ho h d)

/-- The factor of the second map. -/
def lamR (L : Fin 4 → Fin 64 → ℝ) (c : ℝ) : ℝ := Real.exp (∑ x, L 0 x * L 1 x) - Real.exp (∑ x, L 2 x * L 3 x) + c

variable (x0 : FVec Ideal S8x2048x5120 .f32) (x1 : FVec Ideal S8x256x5120 .f32) (x2 : FVec Ideal S4x64 .f32) (x3 : FVec Ideal S128 .f32)
  (X0 : Fin 8 → Fin 2048 → Fin 5120 → ℝ) (X1 : Fin 8 → Fin 256 → Fin 5120 → ℝ) (l : ℝ)
  (h0 : ∀ b r d, x0 (ix3 b r d) = (X0 b r d : EReal)) (h1 : ∀ b r d, x1 (ix3 b r d) = (X1 b r d : EReal))
  (hl : (val_main_v21 (F := Ideal) x2 ix0 : EReal) = (l : EReal))

theorem w8 : Ideal.ofBits .f32 0x3E000000#32 = ((1 / 8 : ℝ) : EReal) := by
  have : Ideal.ofBits .f32 0x3E000000#32 = ((8388608 : ℝ) : EReal) * (((2 ^ 26 : ℝ)⁻¹ : ℝ) : EReal) := by
    simp [Ideal.ofBits, Ideal.ieee]
  rw [this, ← EReal.coe_mul]
  norm_num

include h0 in
theorem r24 (b : Fin 8) (h : Fin 12) (r : Fin 2048) (k : Fin 64) :
    val_main_v24 (F := Ideal) x0 (ix4 b h r k) = (hd X0 0 (by norm_num) b h r ⟨k.val, by omega⟩ : EReal) := by
  pointwise [val_main_v24, val_main_v23, val_main_v22, val_main_v0]
  rw [h0]
  refine congrArg (fun c => ((X0 b r c : ℝ) : EReal)) (Fin.ext ?_)
  simp only [col]
  omega

include h0 in
theorem r25 (b : Fin 8) (h : Fin 12) (r : Fin 2048) (k : Fin 64) :
    val_main_v25 (F := Ideal) x0 (ix4 b h r k) = (hd X0 0 (by norm_num) b h r ⟨64 + k.val, by omega⟩ : EReal) := by
  pointwise [val_main_v25, val_main_v23, val_main_v22, val_main_v0]
  rw [h0]
  refine congrArg (fun c => ((X0 b r c : ℝ) : EReal)) (Fin.ext ?_)
  simp only [col]
  omega

include h0 in
theorem r28 (b : Fin 8) (h : Fin 12) (r : Fin 2048) (k : Fin 64) :
    val_main_v28 (F := Ideal) x0 (ix4 b h r k) = (hd X0 1536 (by norm_num) b h r ⟨k.val, by omega⟩ : EReal) := by
  pointwise [val_main_v28, val_main_v27, val_main_v26, val_main_v1]
  rw [h0]
  refine congrArg (fun c => ((X0 b r c : ℝ) : EReal)) (Fin.ext ?_)
  simp only [col]
  omega

include h0 in
theorem r29 (b : Fin 8) (h : Fin 12) (r : Fin 2048) (k : Fin 64) :
    val_main_v29 (F := Ideal) x0 (ix4 b h r k) = (hd X0 1536 (by norm_num) b h r ⟨64 + k.val, by omega⟩ : EReal) := by
  pointwise [val_main_v29, val_main_v27, val_main_v26, val_main_v1]
  rw [h0]
  refine congrArg (fun c => ((X0 b r c : ℝ) : EReal)) (Fin.ext ?_)
  simp only [col]
  omega

include h0 in
theorem r39 (b : Fin 8) (h : Fin 12) (r : Fin 2048) (k : Fin 128) :
    val_main_v39 (F := Ideal) x0 (ix4 b h r k) = (hd X0 3072 (by norm_num) b h r k : EReal) := by
  pointwise [val_main_v39, val_main_v38, val_main_v2]
  rw [h0]
  refine congrArg (fun c => ((X0 b r c : ℝ) : EReal)) (Fin.ext ?_)
  simp only [col]
  omega

include h1 in
theorem r32 (b : Fin 8) (h : Fin 12) (r : Fin 256) (k : Fin 64) :
    val_main_v32 (F := Ideal) x1 (ix4 b h r k) = (hd X1 0 (by norm_num) b h r ⟨k.val, by omega⟩ : EReal) := by
  pointwise [val_main_v32, val_main_v31, val_main_v30, val_main_v3]
  rw [h1]
  refine congrArg (fun c => ((X1 b r c : ℝ) : EReal)) (Fin.ext ?_)
  simp only [col]
  omega

include h1 in
theorem r33 (b : Fin 8) (h : Fin 12) (r : Fin 256) (k : Fin 64) :
    val_main_v33 (F := Ideal) x1 (ix4 b h r k) = (hd X1 0 (by norm_num) b h r ⟨64 + k.val, by omega⟩ : EReal) := by
  pointwise [val_main_v33, val_main_v31, val_main_v30, val_main_v3]
  rw [h1]
  refine congrArg (fun c => ((X1 b r c : ℝ) : EReal)) (Fin.ext ?_)
  simp only [col]
  omega

include h1 in
theorem r36 (b : Fin 8) (h : Fin 12) (r : Fin 256) (k : Fin 64) :
    val_main_v36 (F := Ideal) x1 (ix4 b h r k) = (hd X1 1536 (by norm_num) b h r ⟨k.val, by omega⟩ : EReal) := by
  pointwise [val_main_v36, val_main_v35, val_main_v34, val_main_v4]
  rw [h1]
  refine congrArg (fun c => ((X1 b r c : ℝ) : EReal)) (Fin.ext ?_)
  simp only [col]
  omega

include h1 in
theorem r37 (b : Fin 8) (h : Fin 12) (r : Fin 256) (k : Fin 64) :
    val_main_v37 (F := Ideal) x1 (ix4 b h r k) = (hd X1 1536 (by norm_num) b h r ⟨64 + k.val, by omega⟩ : EReal) := by
  pointwise [val_main_v37, val_main_v35, val_main_v34, val_main_v4]
  rw [h1]
  refine congrArg (fun c => ((X1 b r c : ℝ) : EReal)) (Fin.ext ?_)
  simp only [col]
  omega

include h1 in
theorem r41 (b : Fin 8) (h : Fin 12) (r : Fin 256) (k : Fin 128) :
    val_main_v41 (F := Ideal) x1 (ix4 b h r k) = (hd X1 3072 (by norm_num) b h r k : EReal) := by
  pointwise [val_main_v41, val_main_v40, val_main_v5]
  rw [h1]
  refine congrArg (fun c => ((X1 b r c : ℝ) : EReal)) (Fin.ext ?_)
  simp only [col]
  omega

include h0 h1 in
theorem r42 (b : Fin 8) (h : Fin 12) (k : Fin 2304) (d : Fin 64) :
    val_main_v42 (F := Ideal) x0 x1 (ix4 b h k d)
      = (cat (fun j => hd X1 1536 (by norm_num) b h j ⟨d.val, by omega⟩) (fun j => hd X0 1536 (by norm_num) b h j ⟨d.val, by omega⟩) k : EReal) := by
  have e : val_main_v42 (F := Ideal) x0 x1 (ix4 b h k d) = if h' : k.val < 256 then val_main_v36 (F := Ideal) x1 (ix4 b h ⟨k.val, h'⟩ d)
      else val_main_v28 (F := Ideal) x0 (ix4 b h ⟨k.val - 256, by omega⟩ d) := by
    have key : ∀ (y : FVec Ideal S8x12x256x64 .f32) (z : FVec Ideal S8x12x2048x64 .f32),
        concatenate S8x12x2304x64 2 [⟨S8x12x256x64, y⟩, ⟨S8x12x2048x64, z⟩] concatenates_S8x12x256x64_S8x12x2048x64_S8x12x2304x64_d2 (ix4 b h k d)
          = if h' : k.val < 256 then y (ix4 b h ⟨k.val, h'⟩ d) else z (ix4 b h ⟨k.val - 256, by omega⟩ d) := fun y z => by
      pointwise []
    exact key _ _
  rw [e]
  unfold cat
  split
  · exact r36 x1 X1 h1 b h _ d
  · exact r28 x0 X0 h0 b h _ d

include h0 h1 in
theorem r43 (b : Fin 8) (h : Fin 12) (k : Fin 2304) (d : Fin 64) :
    val_main_v43 (F := Ideal) x0 x1 (ix4 b h k d)
      = (cat (fun j => hd X1 1536 (by norm_num) b h j ⟨64 + d.val, by omega⟩) (fun j => hd X0 1536 (by norm_num) b h j ⟨64 + d.val, by omega⟩) k : EReal) := by
  have e : val_main_v43 (F := Ideal) x0 x1 (ix4 b h k d) = if h' : k.val < 256 then val_main_v37 (F := Ideal) x1 (ix4 b h ⟨k.val, h'⟩ d)
      else val_main_v29 (F := Ideal) x0 (ix4 b h ⟨k.val - 256, by omega⟩ d) := by
    have key : ∀ (y : FVec Ideal S8x12x256x64 .f32) (z : FVec Ideal S8x12x2048x64 .f32),
        concatenate S8x12x2304x64 2 [⟨S8x12x256x64, y⟩, ⟨S8x12x2048x64, z⟩] concatenates_S8x12x256x64_S8x12x2048x64_S8x12x2304x64_d2 (ix4 b h k d)
          = if h' : k.val < 256 then y (ix4 b h ⟨k.val, h'⟩ d) else z (ix4 b h ⟨k.val - 256, by omega⟩ d) := fun y z => by
      pointwise []
    exact key _ _
  rw [e]
  unfold cat
  split
  · exact r37 x1 X1 h1 b h _ d
  · exact r29 x0 X0 h0 b h _ d

include h0 h1 in
theorem r44 (b : Fin 8) (h : Fin 12) (k : Fin 2304) (d : Fin 128) :
    val_main_v44 (F := Ideal) x0 x1 (ix4 b h k d)
      = (cat (fun j => hd X1 3072 (by norm_num) b h j d) (fun j => hd X0 3072 (by norm_num) b h j d) k : EReal) := by
  have e : val_main_v44 (F := Ideal) x0 x1 (ix4 b h k d) = if h' : k.val < 256 then val_main_v41 (F := Ideal) x1 (ix4 b h ⟨k.val, h'⟩ d)
      else val_main_v39 (F := Ideal) x0 (ix4 b h ⟨k.val - 256, by omega⟩ d) := by
    have key : ∀ (y : FVec Ideal S8x12x256x128 .f32) (z : FVec Ideal S8x12x2048x128 .f32),
        concatenate S8x12x2304x128 2 [⟨S8x12x256x128, y⟩, ⟨S8x12x2048x128, z⟩] concatenates_S8x12x256x128_S8x12x2048x128_S8x12x2304x128_d2 (ix4 b h k d)
          = if h' : k.val < 256 then y (ix4 b h ⟨k.val, h'⟩ d) else z (ix4 b h ⟨k.val - 256, by omega⟩ d) := fun y z => by
      pointwise []
    exact key _ _
  rw [e]
  unfold cat
  split
  · exact r41 x1 X1 h1 b h _ d
  · exact r39 x0 X0 h0 b h _ d

end Cert.Proof.Attn

end
-- ==== Proof.AttnRef2.lean ====
/- The attention's reference over real arrays: its two results at an index. -/
module

public import proofs.«01_k».proof.Proof.AttnRef1
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.Proof.Attn

open Cert.ReferenceIdeal Cert.ReferenceIdeal.Gen Cert.ReferenceIdeal.Read
open Idealize.ShloMosaic Idealize.ShloMosaic.TcCoe Idealize.SL.Sem

variable (x0 : FVec Ideal S8x2048x5120 .f32) (x1 : FVec Ideal S8x256x5120 .f32) (x2 : FVec Ideal S4x64 .f32) (x3 : FVec Ideal S128 .f32)
  (X0 : Fin 8 → Fin 2048 → Fin 5120 → ℝ) (X1 : Fin 8 → Fin 256 → Fin 5120 → ℝ) (l : ℝ)
  (h0 : ∀ b r d, x0 (ix3 b r d) = (X0 b r d : EReal)) (h1 : ∀ b r d, x1 (ix3 b r d) = (X1 b r d : EReal))
  (hl : (val_main_v21 (F := Ideal) x2 ix0 : EReal) = (l : EReal))

include h0 h1 in
theorem r47 (b : Fin 8) (h : Fin 12) (r : Fin 2048) (k : Fin 2304) :
    val_main_v47 (F := Ideal) x0 x1 (ix4 b h r k)
      = (cat (fun j => dotA (hd X0 0 (by norm_num) b h r) (hd X1 1536 (by norm_num) b h j))
          (fun j => dotA (hd X0 0 (by norm_num) b h r) (hd X0 1536 (by norm_num) b h j)) k : EReal) := by
  have e : val_main_v47 (F := Ideal) x0 x1 (ix4 b h r k)
      = (∑ d : Fin 64, val_main_v24 (F := Ideal) x0 (ix4 b h r d) * val_main_v42 (F := Ideal) x0 x1 (ix4 b h k d)) * Ideal.ofBits .f32 0x3E000000#32 := by
    pointwise [val_main_v47, val_main_v45, val_main_v46, val_main_cst_2]
  rw [e, w8]
  simp only [r24 x0 X0 h0, r42 x0 x1 X0 X1 h0 h1, ← EReal.coe_mul]
  rw [coe_sum, ← EReal.coe_mul]
  unfold cat
  split <;> rfl

include h0 h1 in
theorem r50 (b : Fin 8) (h : Fin 12) (r : Fin 2048) (k : Fin 2304) :
    val_main_v50 (F := Ideal) x0 x1 (ix4 b h r k)
      = (cat (fun j => dotB (hd X0 0 (by norm_num) b h r) (hd X1 1536 (by norm_num) b h j))
          (fun j => dotB (hd X0 0 (by norm_num) b h r) (hd X0 1536 (by norm_num) b h j)) k : EReal) := by
  have e : val_main_v50 (F := Ideal) x0 x1 (ix4 b h r k)
      = (∑ d : Fin 64, val_main_v25 (F := Ideal) x0 (ix4 b h r d) * val_main_v43 (F := Ideal) x0 x1 (ix4 b h k d)) * Ideal.ofBits .f32 0x3E000000#32 := by
    pointwise [val_main_v50, val_main_v48, val_main_v49, val_main_cst_3]
  rw [e, w8]
  simp only [r25 x0 X0 h0, r43 x0 x1 X0 X1 h0 h1, ← EReal.coe_mul]
  rw [coe_sum, ← EReal.coe_mul]
  unfold cat
  split <;> rfl

include h1 in
theorem r97 (b : Fin 8) (h : Fin 12) (r : Fin 256) (k : Fin 256) :
    val_main_v97 (F := Ideal) x1 (ix4 b h r k)
      = (dotA (hd X1 0 (by norm_num) b h r) (hd X1 1536 (by norm_num) b h k) : EReal) := by
  have e : val_main_v97 (F := Ideal) x1 (ix4 b h r k)
      = (∑ d : Fin 64, val_main_v32 (F := Ideal) x1 (ix4 b h r d) * val_main_v36 (F := Ideal) x1 (ix4 b h k d)) * Ideal.ofBits .f32 0x3E000000#32 := by
    pointwise [val_main_v97, val_main_v95, val_main_v96, val_main_cst_14]
  rw [e, w8]
  simp only [r32 x1 X1 h1, r36 x1 X1 h1, ← EReal.coe_mul]
  rw [coe_sum, ← EReal.coe_mul]
  rfl

include h1 in
theorem r100 (b : Fin 8) (h : Fin 12) (r : Fin 256) (k : Fin 256) :
    val_main_v100 (F := Ideal) x1 (ix4 b h r k)
      = (dotB (hd X1 0 (by norm_num) b h r) (hd X1 1536 (by norm_num) b h k) : EReal) := by
  have e : val_main_v100 (F := Ideal) x1 (ix4 b h r k)
      = (∑ d : Fin 64, val_main_v33 (F := Ideal) x1 (ix4 b h r d) * val_main_v37 (F := Ideal) x1 (ix4 b h k d)) * Ideal.ofBits .f32 0x3E000000#32 := by
    pointwise [val_main_v100, val_main_v98, val_main_v99, val_main_cst_15]
  rw [e, w8]
  simp only [r33 x1 X1 h1, r37 x1 X1 h1, ← EReal.coe_mul]
  rw [coe_sum, ← EReal.coe_mul]
  rfl

end Cert.Proof.Attn

end
-- ==== Proof.AttnRef3.lean ====
/- The attention's reference over real arrays: its two results at an index. -/
module

public import proofs.«01_k».proof.Proof.AttnRef2
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.Proof.Attn

open Cert.ReferenceIdeal Cert.ReferenceIdeal.Gen Cert.ReferenceIdeal.Read
open Idealize.ShloMosaic Idealize.ShloMosaic.TcCoe Idealize.SL.Sem

variable (x0 : FVec Ideal S8x2048x5120 .f32) (x1 : FVec Ideal S8x256x5120 .f32) (x2 : FVec Ideal S4x64 .f32) (x3 : FVec Ideal S128 .f32)
  (X0 : Fin 8 → Fin 2048 → Fin 5120 → ℝ) (X1 : Fin 8 → Fin 256 → Fin 5120 → ℝ) (l : ℝ)
  (h0 : ∀ b r d, x0 (ix3 b r d) = (X0 b r d : EReal)) (h1 : ∀ b r d, x1 (ix3 b r d) = (X1 b r d : EReal))
  (hl : (val_main_v21 (F := Ideal) x2 ix0 : EReal) = (l : EReal))

theorem f51 (b : Fin 8) (h : Fin 12) (r : Fin 2048) : val_main_v51 (F := Ideal) x0 x1 (ix3 b h r)
    = Finset.fold max (Ideal.ofBits .f32 0xFF800000#32) (fun k => val_main_v47 (F := Ideal) x0 x1 (ix4 b h r k)) Finset.univ := by
  have key : ∀ y : FVec Ideal S8x12x2048x2304 .f32,
      Host.reduce FloatOps.maximumf y (constant S_ .f32 0xFF800000#32) reducesTo_S8x12x2048x2304_S8x12x2048_d3 h_S_ (ix3 b h r)
      = Finset.fold max (Ideal.ofBits .f32 0xFF800000#32) (fun k => y (ix4 b h r k)) Finset.univ := fun y => by
    pointwise []
  rw [← key]
  rfl

theorem m53 (b : Fin 8) (h : Fin 12) (r : Fin 2048) : val_main_v53 (F := Ideal) x0 x1 (ix3 b h r) = max (Ideal.ofBits .f32 0xFF800000#32)
    (Finset.fold max (Ideal.ofBits .f32 0xFF800000#32) (fun k => val_main_v47 (F := Ideal) x0 x1 (ix4 b h r k)) Finset.univ) := by
  rw [← f51, val_main_v53_apply]
  generalize val_main_v51 (F := Ideal) x0 x1 (ix3 b h r) = y
  rfl

theorem e57 (b : Fin 8) (h : Fin 12) (r : Fin 2048) (k : Fin 2304) : val_main_v57 (F := Ideal) x0 x1 (ix4 b h r k)
    = Ideal.exp (val_main_v47 (F := Ideal) x0 x1 (ix4 b h r k) - val_main_v53 (F := Ideal) x0 x1 (ix3 b h r)) := by
  pointwise [val_main_v57, val_main_v56, val_main_v55, val_main_v54]

theorem e58 (b : Fin 8) (h : Fin 12) (r : Fin 2048) : val_main_v58 (F := Ideal) x0 x1 (ix3 b h r) = ∑ k : Fin 2304, val_main_v57 (F := Ideal) x0 x1 (ix4 b h r k) := by
  pointwise [val_main_v58, val_main_cst_6]

theorem e61 (b : Fin 8) (h : Fin 12) (r : Fin 2048) (k : Fin 2304) : val_main_v61 (F := Ideal) x0 x1 (ix4 b h r k)
    = Ideal.div (val_main_v57 (F := Ideal) x0 x1 (ix4 b h r k)) (val_main_v58 (F := Ideal) x0 x1 (ix3 b h r)) := by
  pointwise [val_main_v61, val_main_v60, val_main_v59]

include h0 h1 in
/-- A row of weights: the exponentials of the scores under some shift, over their sum. -/
theorem r61 (b : Fin 8) (h : Fin 12) (r : Fin 2048) : ∃ M : ℝ, ∀ k : Fin 2304, val_main_v61 (F := Ideal) x0 x1 (ix4 b h r k)
    = Ideal.div ((Real.exp ((cat (fun j => dotA (hd X0 0 (by norm_num) b h r) (hd X1 1536 (by norm_num) b h j)) (fun j => dotA (hd X0 0 (by norm_num) b h r) (hd X0 1536 (by norm_num) b h j))) k - M) : ℝ) : EReal) (∑ j, ((Real.exp ((cat (fun j => dotA (hd X0 0 (by norm_num) b h r) (hd X1 1536 (by norm_num) b h j)) (fun j => dotA (hd X0 0 (by norm_num) b h r) (hd X0 1536 (by norm_num) b h j))) j - M) : ℝ) : EReal)) := by
  obtain ⟨M, hM⟩ := fold_negInf (cat (fun j => dotA (hd X0 0 (by norm_num) b h r) (hd X1 1536 (by norm_num) b h j)) (fun j => dotA (hd X0 0 (by norm_num) b h r) (hd X0 1536 (by norm_num) b h j)))
  refine ⟨M, fun k => ?_⟩
  have hm : val_main_v53 (F := Ideal) x0 x1 (ix3 b h r) = (M : EReal) := by
    rw [m53]
    simp only [r47 x0 x1 X0 X1 h0 h1]
    rw [hM, negInf]
    exact max_eq_right bot_le
  simp only [e61, e58, e57, hm, r47 x0 x1 X0 X1 h0 h1, exp_score]

theorem f62 (b : Fin 8) (h : Fin 12) (r : Fin 2048) : val_main_v62 (F := Ideal) x0 x1 (ix3 b h r)
    = Finset.fold max (Ideal.ofBits .f32 0xFF800000#32) (fun k => val_main_v50 (F := Ideal) x0 x1 (ix4 b h r k)) Finset.univ := by
  have key : ∀ y : FVec Ideal S8x12x2048x2304 .f32,
      Host.reduce FloatOps.maximumf y (constant S_ .f32 0xFF800000#32) reducesTo_S8x12x2048x2304_S8x12x2048_d3 h_S_ (ix3 b h r)
      = Finset.fold max (Ideal.ofBits .f32 0xFF800000#32) (fun k => y (ix4 b h r k)) Finset.univ := fun y => by
    pointwise []
  rw [← key]
  rfl

theorem m64 (b : Fin 8) (h : Fin 12) (r : Fin 2048) : val_main_v64 (F := Ideal) x0 x1 (ix3 b h r) = max (Ideal.ofBits .f32 0xFF800000#32)
    (Finset.fold max (Ideal.ofBits .f32 0xFF800000#32) (fun k => val_main_v50 (F := Ideal) x0 x1 (ix4 b h r k)) Finset.univ) := by
  rw [← f62, val_main_v64_apply]
  generalize val_main_v62 (F := Ideal) x0 x1 (ix3 b h r) = y
  rfl

theorem e68 (b : Fin 8) (h : Fin 12) (r : Fin 2048) (k : Fin 2304) : val_main_v68 (F := Ideal) x0 x1 (ix4 b h r k)
    = Ideal.exp (val_main_v50 (F := Ideal) x0 x1 (ix4 b h r k) - val_main_v64 (F := Ideal) x0 x1 (ix3 b h r)) := by
  pointwise [val_main_v68, val_main_v67, val_main_v66, val_main_v65]

theorem e69 (b : Fin 8) (h : Fin 12) (r : Fin 2048) : val_main_v69 (F := Ideal) x0 x1 (ix3 b h r) = ∑ k : Fin 2304, val_main_v68 (F := Ideal) x0 x1 (ix4 b h r k) := by
  pointwise [val_main_v69, val_main_cst_9]

theorem e72 (b : Fin 8) (h : Fin 12) (r : Fin 2048) (k : Fin 2304) : val_main_v72 (F := Ideal) x0 x1 (ix4 b h r k)
    = Ideal.div (val_main_v68 (F := Ideal) x0 x1 (ix4 b h r k)) (val_main_v69 (F := Ideal) x0 x1 (ix3 b h r)) := by
  pointwise [val_main_v72, val_main_v71, val_main_v70]

include h0 h1 in
/-- A row of weights: the exponentials of the scores under some shift, over their sum. -/
theorem r72 (b : Fin 8) (h : Fin 12) (r : Fin 2048) : ∃ M : ℝ, ∀ k : Fin 2304, val_main_v72 (F := Ideal) x0 x1 (ix4 b h r k)
    = Ideal.div ((Real.exp ((cat (fun j => dotB (hd X0 0 (by norm_num) b h r) (hd X1 1536 (by norm_num) b h j)) (fun j => dotB (hd X0 0 (by norm_num) b h r) (hd X0 1536 (by norm_num) b h j))) k - M) : ℝ) : EReal) (∑ j, ((Real.exp ((cat (fun j => dotB (hd X0 0 (by norm_num) b h r) (hd X1 1536 (by norm_num) b h j)) (fun j => dotB (hd X0 0 (by norm_num) b h r) (hd X0 1536 (by norm_num) b h j))) j - M) : ℝ) : EReal)) := by
  obtain ⟨M, hM⟩ := fold_negInf (cat (fun j => dotB (hd X0 0 (by norm_num) b h r) (hd X1 1536 (by norm_num) b h j)) (fun j => dotB (hd X0 0 (by norm_num) b h r) (hd X0 1536 (by norm_num) b h j)))
  refine ⟨M, fun k => ?_⟩
  have hm : val_main_v64 (F := Ideal) x0 x1 (ix3 b h r) = (M : EReal) := by
    rw [m64]
    simp only [r50 x0 x1 X0 X1 h0 h1]
    rw [hM, negInf]
    exact max_eq_right bot_le
  simp only [e72, e69, e68, hm, r50 x0 x1 X0 X1 h0 h1, exp_score]

theorem f101 (b : Fin 8) (h : Fin 12) (r : Fin 256) : val_main_v101 (F := Ideal) x1 (ix3 b h r)
    = Finset.fold max (Ideal.ofBits .f32 0xFF800000#32) (fun k => val_main_v97 (F := Ideal) x1 (ix4 b h r k)) Finset.univ := by
  have key : ∀ y : FVec Ideal S8x12x256x256 .f32,
      Host.reduce FloatOps.maximumf y (constant S_ .f32 0xFF800000#32) reducesTo_S8x12x256x256_S8x12x256_d3 h_S_ (ix3 b h r)
      = Finset.fold max (Ideal.ofBits .f32 0xFF800000#32) (fun k => y (ix4 b h r k)) Finset.univ := fun y => by
    pointwise []
  rw [← key]
  rfl

theorem m103 (b : Fin 8) (h : Fin 12) (r : Fin 256) : val_main_v103 (F := Ideal) x1 (ix3 b h r) = max (Ideal.ofBits .f32 0xFF800000#32)
    (Finset.fold max (Ideal.ofBits .f32 0xFF800000#32) (fun k => val_main_v97 (F := Ideal) x1 (ix4 b h r k)) Finset.univ) := by
  rw [← f101, val_main_v103_apply]
  generalize val_main_v101 (F := Ideal) x1 (ix3 b h r) = y
  rfl

theorem e107 (b : Fin 8) (h : Fin 12) (r : Fin 256) (k : Fin 256) : val_main_v107 (F := Ideal) x1 (ix4 b h r k)
    = Ideal.exp (val_main_v97 (F := Ideal) x1 (ix4 b h r k) - val_main_v103 (F := Ideal) x1 (ix3 b h r)) := by
  pointwise [val_main_v107, val_main_v106, val_main_v105, val_main_v104]

theorem e108 (b : Fin 8) (h : Fin 12) (r : Fin 256) : val_main_v108 (F := Ideal) x1 (ix3 b h r) = ∑ k : Fin 256, val_main_v107 (F := Ideal) x1 (ix4 b h r k) := by
  pointwise [val_main_v108, val_main_cst_18]

theorem e111 (b : Fin 8) (h : Fin 12) (r : Fin 256) (k : Fin 256) : val_main_v111 (F := Ideal) x1 (ix4 b h r k)
    = Ideal.div (val_main_v107 (F := Ideal) x1 (ix4 b h r k)) (val_main_v108 (F := Ideal) x1 (ix3 b h r)) := by
  pointwise [val_main_v111, val_main_v110, val_main_v109]

include h1 in
/-- A row of weights: the exponentials of the scores under some shift, over their sum. -/
theorem r111 (b : Fin 8) (h : Fin 12) (r : Fin 256) : ∃ M : ℝ, ∀ k : Fin 256, val_main_v111 (F := Ideal) x1 (ix4 b h r k)
    = Ideal.div ((Real.exp ((fun j => dotA (hd X1 0 (by norm_num) b h r) (hd X1 1536 (by norm_num) b h j)) k - M) : ℝ) : EReal) (∑ j, ((Real.exp ((fun j => dotA (hd X1 0 (by norm_num) b h r) (hd X1 1536 (by norm_num) b h j)) j - M) : ℝ) : EReal)) := by
  obtain ⟨M, hM⟩ := fold_negInf (fun j => dotA (hd X1 0 (by norm_num) b h r) (hd X1 1536 (by norm_num) b h j))
  refine ⟨M, fun k => ?_⟩
  have hm : val_main_v103 (F := Ideal) x1 (ix3 b h r) = (M : EReal) := by
    rw [m103]
    simp only [r97 x1 X1 h1]
    rw [hM, negInf]
    exact max_eq_right bot_le
  simp only [e111, e108, e107, hm, r97 x1 X1 h1, exp_score]

theorem f112 (b : Fin 8) (h : Fin 12) (r : Fin 256) : val_main_v112 (F := Ideal) x1 (ix3 b h r)
    = Finset.fold max (Ideal.ofBits .f32 0xFF800000#32) (fun k => val_main_v100 (F := Ideal) x1 (ix4 b h r k)) Finset.univ := by
  have key : ∀ y : FVec Ideal S8x12x256x256 .f32,
      Host.reduce FloatOps.maximumf y (constant S_ .f32 0xFF800000#32) reducesTo_S8x12x256x256_S8x12x256_d3 h_S_ (ix3 b h r)
      = Finset.fold max (Ideal.ofBits .f32 0xFF800000#32) (fun k => y (ix4 b h r k)) Finset.univ := fun y => by
    pointwise []
  rw [← key]
  rfl

theorem m114 (b : Fin 8) (h : Fin 12) (r : Fin 256) : val_main_v114 (F := Ideal) x1 (ix3 b h r) = max (Ideal.ofBits .f32 0xFF800000#32)
    (Finset.fold max (Ideal.ofBits .f32 0xFF800000#32) (fun k => val_main_v100 (F := Ideal) x1 (ix4 b h r k)) Finset.univ) := by
  rw [← f112, val_main_v114_apply]
  generalize val_main_v112 (F := Ideal) x1 (ix3 b h r) = y
  rfl

theorem e118 (b : Fin 8) (h : Fin 12) (r : Fin 256) (k : Fin 256) : val_main_v118 (F := Ideal) x1 (ix4 b h r k)
    = Ideal.exp (val_main_v100 (F := Ideal) x1 (ix4 b h r k) - val_main_v114 (F := Ideal) x1 (ix3 b h r)) := by
  pointwise [val_main_v118, val_main_v117, val_main_v116, val_main_v115]

theorem e119 (b : Fin 8) (h : Fin 12) (r : Fin 256) : val_main_v119 (F := Ideal) x1 (ix3 b h r) = ∑ k : Fin 256, val_main_v118 (F := Ideal) x1 (ix4 b h r k) := by
  pointwise [val_main_v119, val_main_cst_21]

theorem e122 (b : Fin 8) (h : Fin 12) (r : Fin 256) (k : Fin 256) : val_main_v122 (F := Ideal) x1 (ix4 b h r k)
    = Ideal.div (val_main_v118 (F := Ideal) x1 (ix4 b h r k)) (val_main_v119 (F := Ideal) x1 (ix3 b h r)) := by
  pointwise [val_main_v122, val_main_v121, val_main_v120]

include h1 in
/-- A row of weights: the exponentials of the scores under some shift, over their sum. -/
theorem r122 (b : Fin 8) (h : Fin 12) (r : Fin 256) : ∃ M : ℝ, ∀ k : Fin 256, val_main_v122 (F := Ideal) x1 (ix4 b h r k)
    = Ideal.div ((Real.exp ((fun j => dotB (hd X1 0 (by norm_num) b h r) (hd X1 1536 (by norm_num) b h j)) k - M) : ℝ) : EReal) (∑ j, ((Real.exp ((fun j => dotB (hd X1 0 (by norm_num) b h r) (hd X1 1536 (by norm_num) b h j)) j - M) : ℝ) : EReal)) := by
  obtain ⟨M, hM⟩ := fold_negInf (fun j => dotB (hd X1 0 (by norm_num) b h r) (hd X1 1536 (by norm_num) b h j))
  refine ⟨M, fun k => ?_⟩
  have hm : val_main_v114 (F := Ideal) x1 (ix3 b h r) = (M : EReal) := by
    rw [m114]
    simp only [r100 x1 X1 h1]
    rw [hM, negInf]
    exact max_eq_right bot_le
  simp only [e122, e119, e118, hm, r100 x1 X1 h1, exp_score]

end Cert.Proof.Attn

end
-- ==== Proof.AttnRef4.lean ====
/- The attention's reference over real arrays: its two results at an index. -/
module

public import proofs.«01_k».proof.Proof.AttnRef3
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.Proof.Attn

open Cert.ReferenceIdeal Cert.ReferenceIdeal.Gen Cert.ReferenceIdeal.Read
open Idealize.ShloMosaic Idealize.ShloMosaic.TcCoe Idealize.SL.Sem

variable (x0 : FVec Ideal S8x2048x5120 .f32) (x1 : FVec Ideal S8x256x5120 .f32) (x2 : FVec Ideal S4x64 .f32) (x3 : FVec Ideal S128 .f32)
  (X0 : Fin 8 → Fin 2048 → Fin 5120 → ℝ) (X1 : Fin 8 → Fin 256 → Fin 5120 → ℝ) (l : ℝ)
  (h0 : ∀ b r d, x0 (ix3 b r d) = (X0 b r d : EReal)) (h1 : ∀ b r d, x1 (ix3 b r d) = (X1 b r d : EReal))
  (hl : (val_main_v21 (F := Ideal) x2 ix0 : EReal) = (l : EReal))

theorem e76 (b : Fin 8) (h : Fin 12) (r : Fin 2048) (d : Fin 128) : val_main_v76 (F := Ideal) x0 x1 x2 (ix4 b h r d)
    = ∑ k : Fin 2304, (val_main_v61 (F := Ideal) x0 x1 (ix4 b h r k) - val_main_v21 (F := Ideal) x2 ix0 * val_main_v72 (F := Ideal) x0 x1 (ix4 b h r k))
        * val_main_v44 (F := Ideal) x0 x1 (ix4 b h k d) := by
  pointwise [val_main_v76, val_main_v75, val_main_v74, val_main_v73]

include h0 h1 hl in
/-- The difference of the two maps at a query and a lane. -/
theorem r76 (b : Fin 8) (h : Fin 12) (r : Fin 2048) (d : Fin 128) : val_main_v76 (F := Ideal) x0 x1 x2 (ix4 b h r d)
    = ((avg2 (fun j => dotA (hd X0 0 (by norm_num) b h r) (hd X1 1536 (by norm_num) b h j)) (fun j => dotA (hd X0 0 (by norm_num) b h r) (hd X0 1536 (by norm_num) b h j))
        (fun j => hd X1 3072 (by norm_num) b h j d) (fun j => hd X0 3072 (by norm_num) b h j d)
        - l * avg2 (fun j => dotB (hd X0 0 (by norm_num) b h r) (hd X1 1536 (by norm_num) b h j)) (fun j => dotB (hd X0 0 (by norm_num) b h r) (hd X0 1536 (by norm_num) b h j))
        (fun j => hd X1 3072 (by norm_num) b h j d) (fun j => hd X0 3072 (by norm_num) b h j d) : ℝ) : EReal) := by
  obtain ⟨M, hM⟩ := r61 x0 x1 X0 X1 h0 h1 b h r
  obtain ⟨N, hN⟩ := r72 x0 x1 X0 X1 h0 h1 b h r
  rw [e76]
  simp only [hM, hN, hl, r44 x0 x1 X0 X1 h0 h1]
  refine (diffRef _ _ _ _ _ l).trans ?_
  rw [avg_cat, avg_cat]

theorem e94 (b : Fin 8) (h : Fin 12) (r : Fin 2048) (d : Fin 128) : val_main_v94 (F := Ideal) x0 x1 x2 x3 (ix3 b r ⟨h.val * 128 + d.val, by omega⟩)
    = fin (fun x => val_main_v76 (F := Ideal) x0 x1 x2 (ix4 b h r x)) (fun x => x3 (ix1 x)) d := by
  have e : ∀ k : Fin 1536, val_main_v94 (F := Ideal) x0 x1 x2 x3 (ix3 b r k)
      = fin (fun x => val_main_v76 (F := Ideal) x0 x1 x2 (ix4 b ⟨k.val / 128, by omega⟩ r x)) (fun x => x3 (ix1 x)) ⟨k.val % 128, by omega⟩ := fun k => by
    unfold fin
    pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_cst_10, val_main_cst_11, val_main_cst_12, val_main_cst_13]
  have e1 : (⟨(h.val * 128 + d.val) / 128, by omega⟩ : Fin 12) = h := Fin.ext (by simp only []; omega)
  have e2 : (⟨(h.val * 128 + d.val) % 128, by omega⟩ : Fin 128) = d := Fin.ext (by simp only []; omega)
  rw [e]
  simp only [e1, e2]

include h0 h1 hl in
/-- The result at a query, a head and a lane. -/
theorem r94 (b : Fin 8) (h : Fin 12) (r : Fin 2048) (d : Fin 128) : val_main_v94 (F := Ideal) x0 x1 x2 x3 (ix3 b r ⟨h.val * 128 + d.val, by omega⟩)
    = fin (fun d => ((avg2 (fun j => dotA (hd X0 0 (by norm_num) b h r) (hd X1 1536 (by norm_num) b h j)) (fun j => dotA (hd X0 0 (by norm_num) b h r) (hd X0 1536 (by norm_num) b h j))
        (fun j => hd X1 3072 (by norm_num) b h j d) (fun j => hd X0 3072 (by norm_num) b h j d)
        - l * avg2 (fun j => dotB (hd X0 0 (by norm_num) b h r) (hd X1 1536 (by norm_num) b h j)) (fun j => dotB (hd X0 0 (by norm_num) b h r) (hd X0 1536 (by norm_num) b h j))
        (fun j => hd X1 3072 (by norm_num) b h j d) (fun j => hd X0 3072 (by norm_num) b h j d) : ℝ) : EReal)) (fun x => x3 (ix1 x)) d := by
  rw [e94]
  simp only [r76 x0 x1 x2 X0 X1 l h0 h1 hl]

theorem e126 (b : Fin 8) (h : Fin 12) (r : Fin 256) (d : Fin 128) : val_main_v126 (F := Ideal) x1 x2 (ix4 b h r d)
    = ∑ k : Fin 256, (val_main_v111 (F := Ideal) x1 (ix4 b h r k) - val_main_v21 (F := Ideal) x2 ix0 * val_main_v122 (F := Ideal) x1 (ix4 b h r k))
        * val_main_v41 (F := Ideal) x1 (ix4 b h k d) := by
  pointwise [val_main_v126, val_main_v125, val_main_v124, val_main_v123]

include h1 hl in
/-- The difference of the two maps at a query and a lane. -/
theorem r126 (b : Fin 8) (h : Fin 12) (r : Fin 256) (d : Fin 128) : val_main_v126 (F := Ideal) x1 x2 (ix4 b h r d)
    = ((avg (fun j => dotA (hd X1 0 (by norm_num) b h r) (hd X1 1536 (by norm_num) b h j)) (fun j => hd X1 3072 (by norm_num) b h j d)
        - l * avg (fun j => dotB (hd X1 0 (by norm_num) b h r) (hd X1 1536 (by norm_num) b h j)) (fun j => hd X1 3072 (by norm_num) b h j d) : ℝ) : EReal) := by
  obtain ⟨M, hM⟩ := r111 x1 X1 h1 b h r
  obtain ⟨N, hN⟩ := r122 x1 X1 h1 b h r
  rw [e126]
  simp only [hM, hN, hl, r41 x1 X1 h1]
  refine (diffRef _ _ _ _ _ l).trans ?_
  rfl

theorem e144 (b : Fin 8) (h : Fin 12) (r : Fin 256) (d : Fin 128) : val_main_v144 (F := Ideal) x1 x2 x3 (ix3 b r ⟨h.val * 128 + d.val, by omega⟩)
    = fin (fun x => val_main_v126 (F := Ideal) x1 x2 (ix4 b h r x)) (fun x => x3 (ix1 x)) d := by
  have e : ∀ k : Fin 1536, val_main_v144 (F := Ideal) x1 x2 x3 (ix3 b r k)
      = fin (fun x => val_main_v126 (F := Ideal) x1 x2 (ix4 b ⟨k.val / 128, by omega⟩ r x)) (fun x => x3 (ix1 x)) ⟨k.val % 128, by omega⟩ := fun k => by
    unfold fin
    pointwise [val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_cst_22, val_main_cst_23, val_main_cst_24, val_main_cst_25]
  have e1 : (⟨(h.val * 128 + d.val) / 128, by omega⟩ : Fin 12) = h := Fin.ext (by simp only []; omega)
  have e2 : (⟨(h.val * 128 + d.val) % 128, by omega⟩ : Fin 128) = d := Fin.ext (by simp only []; omega)
  rw [e]
  simp only [e1, e2]

include h1 hl in
/-- The result at a query, a head and a lane. -/
theorem r144 (b : Fin 8) (h : Fin 12) (r : Fin 256) (d : Fin 128) : val_main_v144 (F := Ideal) x1 x2 x3 (ix3 b r ⟨h.val * 128 + d.val, by omega⟩)
    = fin (fun d => ((avg (fun j => dotA (hd X1 0 (by norm_num) b h r) (hd X1 1536 (by norm_num) b h j)) (fun j => hd X1 3072 (by norm_num) b h j d)
        - l * avg (fun j => dotB (hd X1 0 (by norm_num) b h r) (hd X1 1536 (by norm_num) b h j)) (fun j => hd X1 3072 (by norm_num) b h j d) : ℝ) : EReal)) (fun x => x3 (ix1 x)) d := by
  rw [e144]
  simp only [r126 x1 x2 X1 l h1 hl]

/-- The second map's factor over reals. -/
theorem r21 (L : Fin 4 → Fin 64 → ℝ) (h2 : ∀ a d, x2 (ix2 a d) = (L a d : EReal)) (c : ℝ)
    (hc : Ideal.ofBits .f32 0x3E4CCCCD#32 = (c : EReal)) :
    (Ideal.exp (∑ x, x2 (ix2 0 x) * x2 (ix2 1 x)) - Ideal.exp (∑ x, x2 (ix2 2 x) * x2 (ix2 3 x)) + Ideal.ofBits .f32 0x3E4CCCCD#32 : EReal)
      = (lamR L c : EReal) := by
  simp only [h2, ← EReal.coe_mul, coe_sum, Ideal.exp_coe, hc, ← EReal.coe_sub, ← EReal.coe_add]
  rfl

theorem e21 : (val_main_v21 (F := Ideal) x2 ix0 : EReal)
    = Ideal.exp (∑ x, x2 (ix2 0 x) * x2 (ix2 1 x)) - Ideal.exp (∑ x, x2 (ix2 2 x) * x2 (ix2 3 x)) + Ideal.ofBits .f32 0x3E4CCCCD#32 := by
  pointwise [val_main_v21, val_main_v20, val_main_v19, val_main_v18, val_main_v17, val_main_v16, val_main_v15, val_main_v14, val_main_v13,
    val_main_v12, val_main_v11, val_main_v10, val_main_v9, val_main_v8, val_main_v7, val_main_v6, val_main_cst, val_main_cst_0, val_main_cst_1]

end Cert.Proof.Attn

end
-- ==== Proof.AttnValue.lean ====
/- The attention's two results over real arrays: the launch leaves what the reference computes. -/
module

public import proofs.«01_k».proof.Proof.AttnBlock
public import proofs.«01_k».proof.Proof.AttnRef4
public import proofs.«01_k».proof.Proof.AttnFrames

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 12, 0, t.val % 12] ∧ win0_1.index t = ![t.val / 12, 0, t.val % 12]
    ∧ win0_2.index t = ![t.val / 12, 0, 12 + t.val % 12] ∧ win0_3.index t = ![t.val / 12, 0, 12 + t.val % 12]
    ∧ win0_4.index t = ![t.val / 12, 0, 24 + t.val % 12] ∧ win0_5.index t = ![t.val / 12, 0, 24 + t.val % 12]
    ∧ win0_6.index t = ![0, 0] ∧ win0_7.index t = ![0, 0]
    ∧ win0_8.index t = ![t.val / 12, 0, t.val % 12] ∧ win0_9.index t = ![t.val / 12, 0, t.val % 12] :=
  (by decide +kernel : ∀ t : Fin grid0.N, _)

theorem lt_N (t : Fin cfg0.N) : t.val < 96 := lt_of_lt_of_eq t.isLt N_0

/-- A point's batch and head. -/
def bOf (t : Fin cfg0.N) : Fin 8 := ⟨t.val / 12, by have := lt_N t; omega⟩
def hOf (t : Fin cfg0.N) : Fin 12 := ⟨t.val % 12, by omega⟩

theorem V0 (c : Dev nD) : V m c main_v0 = m ((c.tc : Thread nD τ).loc main_arg0) := by unfold V; after_results; try rfl
theorem V1 (c : Dev nD) : V m c main_v1 = m ((c.tc : Thread nD τ).loc main_arg1) := by unfold V; after_results; try rfl

theorem blk0 (c : Dev nD) (t : Fin cfg0.N) (j : Fin 2048) (d : Fin 128) : iblk m c 0 t (ix3 0 j d)
    = m ((c.tc : Thread nD τ).loc main_arg0) (ix3 (bOf t) j (col 0 (by norm_num) (hOf t) d)) := by
  have := lt_N t
  blk_simp [iblk]
  refine (congrFun (V0 m c) _).trans ?_
  blk_ext [idx t, col, bOf, hOf]
theorem blk3 (c : Dev nD) (t : Fin cfg0.N) (j : Fin 2048) (d : Fin 128) : iblk m c 3 t (ix3 0 j d)
    = m ((c.tc : Thread nD τ).loc main_arg0) (ix3 (bOf t) j (col 1536 (by norm_num) (hOf t) d)) := by
  have := lt_N t
  blk_simp [iblk]
  refine (congrFun (V0 m c) _).trans ?_
  blk_ext [idx t, col, bOf, hOf]
theorem blk5 (c : Dev nD) (t : Fin cfg0.N) (j : Fin 2048) (d : Fin 128) : iblk m c 5 t (ix3 0 j d)
    = m ((c.tc : Thread nD τ).loc main_arg0) (ix3 (bOf t) j (col 3072 (by norm_num) (hOf t) d)) := by
  have := lt_N t
  blk_simp [iblk]
  refine (congrFun (V0 m c) _).trans ?_
  blk_ext [idx t, col, bOf, hOf]
theorem blk1 (c : Dev nD) (t : Fin cfg0.N) (j : Fin 256) (d : Fin 128) : iblk m c 1 t (ix3 0 j d)
    = m ((c.tc : Thread nD τ).loc main_arg1) (ix3 (bOf t) j (col 0 (by norm_num) (hOf t) d)) := by
  have := lt_N t
  blk_simp [iblk]
  refine (congrFun (V1 m c) _).trans ?_
  blk_ext [idx t, col, bOf, hOf]
theorem blk2 (c : Dev nD) (t : Fin cfg0.N) (j : Fin 256) (d : Fin 128) : iblk m c 2 t (ix3 0 j d)
    = m ((c.tc : Thread nD τ).loc main_arg1) (ix3 (bOf t) j (col 1536 (by norm_num) (hOf t) d)) := by
  have := lt_N t
  blk_simp [iblk]
  refine (congrFun (V1 m c) _).trans ?_
  blk_ext [idx t, col, bOf, hOf]
theorem blk4 (c : Dev nD) (t : Fin cfg0.N) (j : Fin 256) (d : Fin 128) : iblk m c 4 t (ix3 0 j d)
    = m ((c.tc : Thread nD τ).loc main_arg1) (ix3 (bOf t) j (col 3072 (by norm_num) (hOf t) d)) := by
  have := lt_N t
  blk_simp [iblk]
  refine (congrFun (V1 m c) _).trans ?_
  blk_ext [idx t, col, bOf, hOf]
theorem blk6 (c : Dev nD) (t : Fin cfg0.N) : iblk m c 6 t = m ((c.tc : Thread nD τ).loc main_arg2) := by
  blk_ext! [iblk, V, idx t]
theorem blk7 (c : Dev nD) (t : Fin cfg0.N) (d : Fin 128) : iblk m c 7 t (ix2 0 d) = m ((c.tc : Thread nD τ).loc main_arg3) (ix1 d) := by
  blk_point [iblk, V, idx t]

/-! ## The two arrays after the launch -/

variable (X0 : Fin 8 → Fin 2048 → Fin 5120 → ℝ) (X1 : Fin 8 → Fin 256 → Fin 5120 → ℝ) (l : ℝ) (c : Dev nD)
  (h0 : ∀ b r d, m ((c.tc : Thread nD τ).loc main_arg0) (ix3 b r d) = (X0 b r d : EReal))
  (h1 : ∀ b r d, m ((c.tc : Thread nD τ).loc main_arg1) (ix3 b r d) = (X1 b r d : EReal))
  (hl : (Cert.ReferenceIdeal.Read.val_main_v21 (F := Ideal) (m ((c.tc : Thread nD τ).loc main_arg2)) ix0 : EReal) = (l : EReal))

include hl in
theorem hlam (t : Fin cfg0.N) : lamOf (iblk m c 6 t) (ix2 0 0) = (l : EReal) := by
  rw [lam_at, blk6, ← hl]
  exact (e21 _).symm

theorem emb8 (t : Fin cfg0.N) (r : Fin 2048) (d : Fin 128) : ((cfg0.win 8).blk t).view.emb (ix3 0 r d)
    = ix3 (bOf t) r ⟨(hOf t).val * 128 + d.val, by have := (hOf t).isLt; omega⟩ := by
  have := lt_N t
  blk_ext [idx t, bOf, hOf]

theorem emb9 (t : Fin cfg0.N) (r : Fin 256) (d : Fin 128) : ((cfg0.win 9).blk t).view.emb (ix3 0 r d)
    = ix3 (bOf t) r ⟨(hOf t).val * 128 + d.val, by have := (hOf t).isLt; omega⟩ := by
  have := lt_N t
  blk_ext [idx t, bOf, hOf]

theorem row8 (y : S1x2048x128.Idx) : ∃ (r : Fin 2048) (d : Fin 128), y = ix3 0 r d :=
  ⟨y 1, y 2, by
    funext a
    match a with
    | ⟨0, _⟩ => exact Fin.ext (by have := (y 0).isLt; simp [S1x2048x128] at this; simp [this])
    | ⟨1, _⟩ => rfl
    | ⟨2, _⟩ => rfl⟩

theorem row9 (y : S1x256x128.Idx) : ∃ (r : Fin 256) (d : Fin 128), y = ix3 0 r d :=
  ⟨y 1, y 2, by
    funext a
    match a with
    | ⟨0, _⟩ => exact Fin.ext (by have := (y 0).isLt; simp [S1x256x128] at this; simp [this])
    | ⟨1, _⟩ => rfl
    | ⟨2, _⟩ => rfl⟩

include h0 h1 hl in
theorem final8 : (dats m 0 c).arrAt 8 (cfgs 0).N
    = Cert.ReferenceIdeal.Read.val_main_v94 (F := Ideal) (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 8 _ (by decide +kernel) fun t _ y => ?_
  blk_simp
  rw [after0_8]
  obtain ⟨r, d, rfl⟩ := row8 y
  rw [emb8]
  refine Eq.trans ?_ (r94 _ _ _ _ X0 X1 l h0 h1 hl (bOf t) (hOf t) r d).symm
  refine (outLat_real _ _ _ _ _ _ _ _ (fun j => hd X0 0 (by norm_num) (bOf t) (hOf t) j) (fun j => hd X0 1536 (by norm_num) (bOf t) (hOf t) j)
    (fun j => hd X0 3072 (by norm_num) (bOf t) (hOf t) j) (fun j => hd X1 1536 (by norm_num) (bOf t) (hOf t) j)
    (fun j => hd X1 3072 (by norm_num) (bOf t) (hOf t) j) l (fun j d => (blk0 m c t j d).trans (h0 _ _ _))
    (fun j d => (blk2 m c t j d).trans (h1 _ _ _)) (fun j d => (blk3 m c t j d).trans (h0 _ _ _))
    (fun j d => (blk4 m c t j d).trans (h1 _ _ _)) (fun j d => (blk5 m c t j d).trans (h0 _ _ _)) (hlam m l c hl t) r d).trans ?_
  exact congrArg (fun w => fin _ w d) (funext fun x => blk7 m c t x)

include h1 hl in
theorem final9 : (dats m 0 c).arrAt 9 (cfgs 0).N
    = Cert.ReferenceIdeal.Read.val_main_v144 (F := Ideal) (m ((c.tc : Thread nD τ).loc main_arg1))
      (m ((c.tc : Thread nD τ).loc main_arg2)) (m ((c.tc : Thread nD τ).loc main_arg3)) := by
  refine (dats m 0 c).arrAt_eq_of_covers 9 _ (by decide +kernel) fun t _ y => ?_
  blk_simp
  rw [after0_9]
  obtain ⟨r, d, rfl⟩ := row9 y
  rw [emb9]
  refine Eq.trans ?_ (r144 _ _ _ X1 l h1 hl (bOf t) (hOf t) r d).symm
  refine (outCtx_real _ _ _ _ _ _ _ (fun j => hd X1 0 (by norm_num) (bOf t) (hOf t) j) (fun j => hd X1 1536 (by norm_num) (bOf t) (hOf t) j)
    (fun j => hd X1 3072 (by norm_num) (bOf t) (hOf t) j) l (fun j d => (blk1 m c t j d).trans (h1 _ _ _))
    (fun j d => (blk2 m c t j d).trans (h1 _ _ _)) (fun j d => (blk4 m c t j d).trans (h1 _ _ _)) (hlam m l c hl t) r d).trans ?_
  exact congrArg (fun w => fin _ w d) (funext fun x => blk7 m c t x)

end Cert.Proof.Attn

end
-- ==== Proof.AttnClaim.lean ====
/- The value claim of the attention: over finite arrays the kernel's results are the reference's. -/
module

public import proofs.«01_k».proof.Proof.AttnValue
public import Idealize.ShloMosaic.Lib.ReduceAll

@[expose] public section

set_option maxRecDepth 16384

noncomputable section

namespace Cert.Proof.Attn

open Idealize.ShloMosaic Idealize.ShloMosaic.TcCoe Idealize.SL.Sem

/-- A value whose magnitude is below infinity is a real. -/
theorem real_of_lt (x : EReal) (h : FloatOps.cmpf (F := Ideal) (φ := .f32) .olt (FloatOps.absf (F := Ideal) (φ := .f32) x) (Ideal.ofBits .f32 0x7F800000#32) = 1#1) :
    x = (x.toReal : EReal) := by
  have e : Ideal.ofBits .f32 0x7F800000#32 = ⊤ := by simp [Ideal.ofBits, Ideal.ieee]
  rw [e] at h
  induction x with
  | bot => exact absurd h (by simp [FloatOps.cmpf, FloatOps.absf, Ideal.cmp])
  | top => exact absurd h (by simp [FloatOps.cmpf, FloatOps.absf, Ideal.cmp])
  | coe r => rfl

theorem word02 : ∃ c : ℝ, Ideal.ofBits .f32 0x3E4CCCCD#32 = (c : EReal) := by
  refine ⟨13421773 * (2 ^ 26)⁻¹, ?_⟩
  rw [EReal.coe_mul]
  simp [Ideal.ofBits, Ideal.ieee]

/-- What the precondition says: every element of the three arrays is a real. -/
theorem finite_of (x0 : FVec Ideal Cert.Pre_finite.S8x2048x5120 .f32) (x1 : FVec Ideal Cert.Pre_finite.S8x256x5120 .f32)
    (x2 : FVec Ideal Cert.Pre_finite.S4x64 .f32) (x3 : FVec Ideal Cert.Pre_finite.S128 .f32)
    (h : @Cert.Pre_finite.fn preFacts Ideal _ x0 x1 x2 x3 = fun _ => 1#1) :
    (∀ i, x0 i = ((x0 i : EReal).toReal : EReal)) ∧ (∀ i, x1 i = ((x1 i : EReal).toReal : EReal)) ∧ (∀ i, x2 i = ((x2 i : EReal).toReal : EReal)) := by
  have h' := congrFun h ix0
  dsimp only [Cert.Pre_finite.fn] at h'
  obtain ⟨h01, h2⟩ := IntOp.andi_eq_one.1 h'
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

open Cert.KernelIdeal Cert.KernelIdeal.Gen in
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hag
  have fin_ := fun c => finite_of _ _ _ _ (hpre c)
  obtain ⟨w, hw⟩ := word02
  have hl : ∀ c : Dev nD, (Cert.ReferenceIdeal.Read.val_main_v21 (F := Ideal) (m ((c.tc : Thread nD τ).loc main_arg2)) ix0 : EReal)
      = (lamR (fun a d => (m ((c.tc : Thread nD τ).loc main_arg2) (ix2 a d) : EReal).toReal) w : EReal) := fun c =>
    (e21 _).trans (r21 _ _ (fun a d => (fin_ c).2.2 (ix2 a d)) w hw)
  let v0 := fun c : Dev nD => Cert.ReferenceIdeal.Read.val_main_v94 (F := Ideal) (m ((c.tc : Thread nD τ).loc main_arg0)) (m ((c.tc : Thread nD τ).loc main_arg1))
      (m ((c.tc : Thread nD τ).loc main_arg2)) (m ((c.tc : Thread nD τ).loc main_arg3))
  let v1 := fun c : Dev nD => Cert.ReferenceIdeal.Read.val_main_v144 (F := Ideal) (m ((c.tc : Thread nD τ).loc main_arg1))
      (m ((c.tc : Thread nD τ).loc main_arg2)) (m ((c.tc : Thread nD τ).loc main_arg3))
  have run : θ_run defs (onTc (τ := τ) (main (F := Ideal))) ⟨m, fun _ => 0, g⟩ (fun r => ∀ c : Dev nD,
      r.2.mem ((c.tc : Thread nD τ).loc main_v3_0) = v0 c ∧ r.2.mem ((c.tc : Thread nD τ).loc main_v3_1) = v1 c) :=
    (θ_run defs _ _).mono (fun r h c => ⟨((h c).1 8).trans (final8 m (fun b r d => (m ((c.tc : Thread nD τ).loc main_arg0) (ix3 b r d) : EReal).toReal)
        (fun b r d => (m ((c.tc : Thread nD τ).loc main_arg1) (ix3 b r d) : EReal).toReal) _ c (fun b r d => (fin_ c).1 _) (fun b r d => (fin_ c).2.1 _) (hl c)),
      ((h c).1 9).trans (final9 m (fun b r d => (m ((c.tc : Thread nD τ).loc main_arg1) (ix3 b r d) : EReal).toReal) _ c (fun b r d => (fin_ c).2.1 _) (hl c))⟩)
      (run_main m g)
  refine ⟨v0, v1, (θ_run defs _ _).mono (fun r h c => ⟨(h.1 c).1, (h.1 c).2, (h.2.1 c).1, (h.2.1 c).2.1, (h.2.1 c).2.2.1, (h.2.1 c).2.2.2⟩)
    (θ_run_and run (frame m g)), ?_⟩
  refine (θ_run Cert.ReferenceIdeal.defs _ _).mono (fun r h c => ?_) (Cert.ReferenceIdeal.Value.run m' g')
  obtain ⟨a, b, rest⟩ := h c
  obtain ⟨g0, g1, g2, g3⟩ := hag c
  refine ⟨a.trans ?_, b.trans ?_, rest⟩
  · rw [Cert.ReferenceIdeal.Read.val_main_v94_eq, g0, g1, g2, g3]
  · rw [Cert.ReferenceIdeal.Read.val_main_v144_eq, g1, g2, g3]

end Cert.Proof.Attn

end
-- ==== Proof.UpRow.lean ====
/- The feed-forward's first half as functions of a row: the modulated layer norm, the three-tap convolution with the
   exact GELU of it, and the product with the other half of the columns. -/
module

public import Idealize.ShloMosaic.PureOps.Ideal.Laws

@[expose] public section

noncomputable section

namespace Cert.Proof.Up

open Idealize.ShloMosaic

/-- The mean of a row of 2048. -/
def mean (f : Fin 2048 → EReal) : EReal := Ideal.div (∑ x, f x) (Ideal.ofBits .f32 0x45000000#32)

/-- A row less its mean, over its deviation. -/
def norm (f : Fin 2048 → EReal) (k : Fin 2048) : EReal :=
  (f k - mean f) * Ideal.rsqrt (mean (fun x => (f x - mean f) * (f x - mean f)) + Ideal.ofBits .f32 0x358637BD#32)

/-- The normed row, scaled by `1 + sc` and shifted by `sh`. -/
def modu (f sc sh : Fin 2048 → EReal) (k : Fin 2048) : EReal := norm f k * (1 + sc k) + sh k

/-- A row against a column of the weights. -/
def dot (u w : Fin 2048 → EReal) : EReal := ∑ x, u x * w x

/-- The convolution at a row: the bias and the three taps on the row before, the row and the row after. -/
def conv (b w0 w1 w2 p a n : EReal) : EReal := b + p * w0 + a * w1 + n * w2

/-- The exact GELU of `z` times `v`. -/
def glu (z v : EReal) : EReal :=
  Ideal.ofBits .f32 0x3F000000#32 * z * (1 + Ideal.erf (z * Ideal.ofBits .f32 0x3F3504F3#32)) * v

/-- The row before `q` of a family of rows, against a column; zero before the first. -/
def before {n : ℕ} (U : Fin n → Fin 2048 → EReal) (w : Fin 2048 → EReal) (q : Fin n) : EReal :=
  if h : q.val = 0 then 0 else dot (U ⟨q.val - 1, by omega⟩) w

/-- The row after `q`, against a column; zero after the last. -/
def after {n : ℕ} (U : Fin n → Fin 2048 → EReal) (w : Fin 2048 → EReal) (q : Fin n) : EReal :=
  if h : q.val + 1 < n then dot (U ⟨q.val + 1, h⟩) w else 0

/-- The gated product at row `q` for one column: `wa` and `wv` are its two weight columns, `b`, `w0`, `w1`, `w2` its
    convolution. -/
def gated {n : ℕ} (U : Fin n → Fin 2048 → EReal) (wa wv : Fin 2048 → EReal) (b w0 w1 w2 : EReal) (q : Fin n) : EReal :=
  glu (conv b w0 w1 w2 (before U wa q) (dot (U q) wa) (after U wa q)) (dot (U q) wv)

theorem glu_zero (z : EReal) : glu z 0 = 0 := by simp [glu]

theorem dot_zero (u : Fin 2048 → EReal) : dot u (fun _ => 0) = 0 := by simp [dot]

/-- The GELU written with the complement of the error function. -/
theorem glu_erfc (z v : EReal) :
    Ideal.ofBits .f32 0x3F000000#32 * z * Ideal.erfc (-z * Ideal.ofBits .f32 0x3F3504F3#32) * v = glu z v := by
  rw [glu, EReal.neg_mul, Ideal.erfc_neg]

end Cert.Proof.Up

end
-- ==== Proof.UpBody.lean ====
/- The feed-forward's first half, what one grid point computes: the modulated rows, and the two halves of the columns. -/
module

public import proofs.«01_k».proof.Proof.Gen.KernelUpIdeal.Frame
public import proofs.«01_k».proof.Proof.UpRow
public import Idealize.ShloMosaic.Lib.Pointwise
public import Idealize.ShloMosaic.Lib.Pipeline.ValueKit

@[expose] public section

set_option maxRecDepth 16384

noncomputable section

namespace Cert.Proof.Up

open Cert.KernelUpIdeal Cert.KernelUpIdeal.Gen
open Idealize.ShloMosaic Idealize.ShloMosaic.TcCoe Idealize.SL.Sem

/-! ## The rows -/

theorem rows_at (sc : Vec Ideal S1x1x2048 .f32) (h : Vec Ideal S1024x2048 .f32) (sh : Vec Ideal S1x1x2048 .f32) (r : Fin 1024) (k : Fin 2048) :
    k0_pay4 sc h sh (ix2 r k) = modu (fun x => h (ix2 r x)) (fun x => sc (ix3 0 0 x)) (fun x => sh (ix3 0 0 x)) k := by
  pointwise [k0_pay4, k0_pay3]
  rfl

theorem prev_at (sc : Vec Ideal S1x1x2048 .f32) (h : Vec Ideal S8x2048 .f32) (sh : Vec Ideal S1x1x2048 .f32) (r : Fin 8) (k : Fin 2048) :
    k0_pay7 (k0_pay3 sc) (k0_pay5 h) (k0_pay6 h) sh (ix2 r k) = modu (fun x => h (ix2 r x)) (fun x => sc (ix3 0 0 x)) (fun x => sh (ix3 0 0 x)) k := by
  pointwise [k0_pay7, k0_pay3, k0_pay5, k0_pay6]
  rfl

theorem next_at (sc : Vec Ideal S1x1x2048 .f32) (h : Vec Ideal S8x2048 .f32) (sh : Vec Ideal S1x1x2048 .f32) (r : Fin 8) (k : Fin 2048) :
    k0_pay9 (k0_pay8 (k0_pay3 sc) h) sh (ix2 r k) = modu (fun x => h (ix2 r x)) (fun x => sc (ix3 0 0 x)) (fun x => sh (ix3 0 0 x)) k := by
  pointwise [k0_pay9, k0_pay8, k0_pay3]
  rfl

/-! ## The two halves of the columns -/

variable (i : grid0.Coords) (u : Vec Ideal S1024x2048 .bf16) (uh : Vec Ideal S16x2048 .bf16)
  (wa wv : Vec Ideal S2048x256 .bf16) (cw : Vec Ideal S3x256 .f32) (cb : Vec Ideal S1x256 .f32)

/-- The grid's row coordinate modulo two, as the body computes it. -/
def par : BitVec 32 := Scalar.select
                (Scalar.andi
                  (Scalar.xori
                    (Scalar.cmpi CmpIPredicate.slt (Scalar.remsi (BitVec.ofNat 32 ↑(i 0)) 2#32) 0#32) 0#1)
                  (Scalar.cmpi CmpIPredicate.ne (Scalar.remsi (BitVec.ofNat 32 ↑(i 0)) 2#32) 0#32))
                (Scalar.addi (Scalar.remsi (BitVec.ofNat 32 ↑(i 0)) 2#32) 2#32)
                (Scalar.remsi (BitVec.ofNat 32 ↑(i 0)) 2#32)

/-- The first half of the columns of a point's block, and the second. -/
def left : FVec Ideal S1024x256 .bf16 := k0_pay1
            (k0_pay16 (iota Kind.tc S1024x256 32 [0] iota_S1024x256_d0_w32)
              (k0_pay10 u wa) (k0_pay12 i uh wa) (k0_pay13 i uh wa) k0_pay14 (k0_pay15 u wa) cw cb) u wv
def right : FVec Ideal S1024x256 .bf16 := k0_pay2
            (k0_pay20 (par i) (iota Kind.tc S1024x256 32 [0] iota_S1024x256_d0_w32) (k0_pay17 u wa) uh (k0_pay18 wa) (constant S16x256 FTy.f32 0#32) cw cb)
            (k0_pay21 (par i) (iota Kind.tc S1024x256 32 [0] iota_S1024x256_d0_w32) (k0_pay17 u wa) uh (k0_pay18 wa) (constant S16x256 FTy.f32 0#32) cw cb)
            u wv

/-- The row before row `r` of the point's rows against a column: the last halo row before the first one, at odd row coordinates. -/
def bef (w : Fin 2048 → EReal) (r : Fin 1024) : EReal :=
  if r.val = 0 then (if (i 0).val % 2 = 1 then dot (fun x => uh (ix2 7 x)) w else 0)
  else dot (fun x => u (ix2 ⟨(r.val + 1024 - 1) % 1024, by omega⟩ x)) w
/-- The row after, likewise: the first of the rows after the tile, at even row coordinates. -/
def aft (w : Fin 2048 → EReal) (r : Fin 1024) : EReal :=
  if r.val = 1023 then (if (i 0).val % 2 = 0 then dot (fun x => uh (ix2 8 x)) w else 0)
  else dot (fun x => u (ix2 ⟨(r.val + 1024 - 1023) % 1024, by omega⟩ x)) w

def tile (r : Fin 1024) (k : Fin 256) : EReal :=
  glu (conv (cb (ix2 0 k)) (cw (ix2 0 k)) (cw (ix2 1 k)) (cw (ix2 2 k)) (bef i u uh (fun x => wa (ix2 x k)) r)
    (dot (fun x => u (ix2 r x)) (fun x => wa (ix2 x k))) (aft i u uh (fun x => wa (ix2 x k)) r))
    (dot (fun x => u (ix2 r x)) (fun x => wv (ix2 x k)))

theorem two : Scalar.select (Scalar.cmpi CmpIPredicate.eq 2#32 0#32) 1#32 2#32 = 2#32 := by decide
theorem two_pos : Scalar.cmpi CmpIPredicate.slt 2#32 0#32 = 0#1 := by decide

theorem par_all : ∀ n : Fin 16, (Scalar.cmpi .sgt (Scalar.select (Scalar.andi (Scalar.xori
      (Scalar.cmpi CmpIPredicate.slt (Scalar.remsi (BitVec.ofNat 32 n.val) 2#32) 0#32) 0#1)
      (Scalar.cmpi CmpIPredicate.ne (Scalar.remsi (BitVec.ofNat 32 n.val) 2#32) 0#32))
      (Scalar.addi (Scalar.remsi (BitVec.ofNat 32 n.val) 2#32) 2#32) (Scalar.remsi (BitVec.ofNat 32 n.val) 2#32)) 0#32
        = if n.val % 2 = 1 then 1#1 else 0#1)
    ∧ (Scalar.cmpi .slt (Scalar.select (Scalar.andi (Scalar.xori
      (Scalar.cmpi CmpIPredicate.slt (Scalar.remsi (BitVec.ofNat 32 n.val) 2#32) 0#32) 0#1)
      (Scalar.cmpi CmpIPredicate.ne (Scalar.remsi (BitVec.ofNat 32 n.val) 2#32) 0#32))
      (Scalar.addi (Scalar.remsi (BitVec.ofNat 32 n.val) 2#32) 2#32) (Scalar.remsi (BitVec.ofNat 32 n.val) 2#32)) 1#32
        = if n.val % 2 = 0 then 1#1 else 0#1) := by decide +kernel

theorem par_gt : Scalar.cmpi .sgt (par i) 0#32 = if (i 0).val % 2 = 1 then 1#1 else 0#1 := (par_all (i 0)).1
theorem par_lt : Scalar.cmpi .slt (par i) 1#32 = if (i 0).val % 2 = 0 then 1#1 else 0#1 := (par_all (i 0)).2

theorem sel_if {α : Type} (p : Prop) [Decidable p] (a b : α) : Scalar.select (if p then 1#1 else 0#1) a b = if p then a else b := by
  split <;> rfl

theorem row_eq : ∀ r : Fin 1024, IntOp.cmpi .eq (BitVec.ofNat 32 r.val) 0#32 = (if r.val = 0 then 1#1 else 0#1)
    ∧ IntOp.cmpi .eq (BitVec.ofNat 32 r.val) 1023#32 = (if r.val = 1023 then 1#1 else 0#1) := by decide +kernel

theorem left_at (r : Fin 1024) (k : Fin 256) : left i u uh wa wv cw cb (ix2 r k) = tile i u uh wa wv cw cb r k := by
  unfold tile left
  pointwise [k0_pay1, k0_pay16, k0_pay10, k0_pay12, k0_pay13, k0_pay14, k0_pay15, k0_pay11]
  rw [two, two_pos]
  have e1 := par_gt i
  have e2 := par_lt i
  unfold par at e1 e2
  rw [e1, e2, (row_eq r).1, (row_eq r).2]
  simp only [sel_if]
  rfl

theorem right_at (r : Fin 1024) (k : Fin 256) : right i u uh wa wv cw cb (ix2 r k) = tile i u uh wa wv cw cb r k := by
  unfold tile right
  pointwise [k0_pay2, k0_pay20, k0_pay21, k0_pay17, k0_pay18, k0_pay19]
  rw [par_gt, par_lt, (row_eq r).1, (row_eq r).2]
  simp only [sel_if]
  rfl

theorem tile_of (r : Fin 1024) (k : Fin 256) (a v : Fin 2048 → EReal) (b w0 w1 w2 : EReal) (ha : ∀ x, wa (ix2 x k) = a x)
    (hv : ∀ x, wv (ix2 x k) = v x) (h0 : cw (ix2 0 k) = w0) (h1 : cw (ix2 1 k) = w1) (h2 : cw (ix2 2 k) = w2) (hb : cb (ix2 0 k) = b) :
    tile i u uh wa wv cw cb r k
      = glu (conv b w0 w1 w2 (bef i u uh a r) (dot (fun x => u (ix2 r x)) a) (aft i u uh a r)) (dot (fun x => u (ix2 r x)) v) := by
  unfold tile
  rw [funext ha, funext hv, h0, h1, h2, hb]

/-! ## A point's block, and the rows it keeps -/

variable (x5 x6 : Vec Ideal S2048x512 .bf16) (x7 : Vec Ideal S3x512 .f32) (x8 : Vec Ideal S1x512 .f32)

/-- A point's block from the rows, the halo rows and the blocks of the weights. -/
def block : Vec Ideal S1024x512 .bf16 := View.canon
      [⟨Rect.unit ![0, 256] ![1024, 256] inb_S1024x512_S1024x256_0_256,
        right i u uh (View.ld x5 (Rect.unit ![0, 256] ![2048, 256] inb_S2048x512_S2048x256_0_256))
          (View.ld x6 (Rect.unit ![0, 256] ![2048, 256] inb_S2048x512_S2048x256_0_256))
          (View.ld x7 (Rect.unit ![0, 256] ![3, 256] inb_S3x512_S3x256_0_256))
          (View.ld x8 (Rect.unit ![0, 256] ![1, 256] inb_S1x512_S1x256_0_256))⟩,
       ⟨Rect.unit ![0, 0] ![1024, 256] inb_S1024x512_S1024x256_0_0,
        left i u uh (View.ld x5 (Rect.unit ![0, 0] ![2048, 256] inb_S2048x512_S2048x256_0_0))
          (View.ld x6 (Rect.unit ![0, 0] ![2048, 256] inb_S2048x512_S2048x256_0_0))
          (View.ld x7 (Rect.unit ![0, 0] ![3, 256] inb_S3x512_S3x256_0_0))
          (View.ld x8 (Rect.unit ![0, 0] ![1, 256] inb_S1x512_S1x256_0_0))⟩]

/-! Columns of the two halves of the weight blocks. -/

theorem ldw0 (x : Vec Ideal S2048x512 .bf16) (j : Fin 2048) (k : Fin 256) (k' : Fin 512) (h : k'.val = k.val) :
    View.ld x (Rect.unit ![0, 0] ![2048, 256] inb_S2048x512_S2048x256_0_0) (ix2 j k) = x (ix2 j k') := by
  pointwise []
  blk_ext [h]
theorem ldw1 (x : Vec Ideal S2048x512 .bf16) (j : Fin 2048) (k : Fin 256) (k' : Fin 512) (h : k'.val = 256 + k.val) :
    View.ld x (Rect.unit ![0, 256] ![2048, 256] inb_S2048x512_S2048x256_0_256) (ix2 j k) = x (ix2 j k') := by
  pointwise []
  blk_ext [h]
theorem ldc0 (x : Vec Ideal S3x512 .f32) (j : Fin 3) (k : Fin 256) (k' : Fin 512) (h : k'.val = k.val) :
    View.ld x (Rect.unit ![0, 0] ![3, 256] inb_S3x512_S3x256_0_0) (ix2 j k) = x (ix2 j k') := by
  pointwise []
  blk_ext [h]
theorem ldc1 (x : Vec Ideal S3x512 .f32) (j : Fin 3) (k : Fin 256) (k' : Fin 512) (h : k'.val = 256 + k.val) :
    View.ld x (Rect.unit ![0, 256] ![3, 256] inb_S3x512_S3x256_0_256) (ix2 j k) = x (ix2 j k') := by
  pointwise []
  blk_ext [h]
theorem ldb0 (x : Vec Ideal S1x512 .f32) (k : Fin 256) (k' : Fin 512) (h : k'.val = k.val) :
    View.ld x (Rect.unit ![0, 0] ![1, 256] inb_S1x512_S1x256_0_0) (ix2 0 k) = x (ix2 0 k') := by
  pointwise []
  blk_ext [h]
theorem ldb1 (x : Vec Ideal S1x512 .f32) (k : Fin 256) (k' : Fin 512) (h : k'.val = 256 + k.val) :
    View.ld x (Rect.unit ![0, 256] ![1, 256] inb_S1x512_S1x256_0_256) (ix2 0 k) = x (ix2 0 k') := by
  pointwise []
  blk_ext [h]

theorem idx_half (x : S1024x256.Idx) (r : Fin 1024) (h : r.val = (x 0).val) : ∃ k : Fin 256, k.val = (x 1).val ∧ x = ix2 r k :=
  ⟨⟨(x 1).val, (x 1).isLt⟩, rfl, by
    funext a
    match a with
    | ⟨0, _⟩ => exact Fin.ext h.symm
    | ⟨1, _⟩ => rfl⟩

theorem block_at (r : Fin 1024) (k : Fin 512) : block i u uh x5 x6 x7 x8 (ix2 r k)
    = glu (conv (x8 (ix2 0 k)) (x7 (ix2 0 k)) (x7 (ix2 1 k)) (x7 (ix2 2 k)) (bef i u uh (fun x => x5 (ix2 x k)) r)
      (dot (fun x => u (ix2 r x)) (fun x => x5 (ix2 x k))) (aft i u uh (fun x => x5 (ix2 x k)) r))
      (dot (fun x => u (ix2 r x)) (fun x => x6 (ix2 x k))) := by
  unfold block
  canon_tiles x h
  · obtain ⟨k', e, rfl⟩ := idx_half x r h0
    have h2 : k.val = 256 + k'.val := h1
    rw [right_at]
    exact tile_of _ _ _ _ _ _ _ _ _ _ _ _ _ _ _ (fun x => ldw1 _ x k' k h2) (fun x => ldw1 _ x k' k h2) (ldc1 _ 0 k' k h2) (ldc1 _ 1 k' k h2)
      (ldc1 _ 2 k' k h2) (ldb1 _ k' k h2)
  · obtain ⟨k', e, rfl⟩ := idx_half x r h0
    have h2 : k.val = k'.val := h1
    rw [left_at]
    exact tile_of _ _ _ _ _ _ _ _ _ _ _ _ _ _ _ (fun x => ldw0 _ x k' k h2) (fun x => ldw0 _ x k' k h2) (ldc0 _ 0 k' k h2) (ldc0 _ 1 k' k h2)
      (ldc0 _ 2 k' k h2) (ldb0 _ k' k h2)

/-- The two groups of halo rows, as the body stores them. -/
def halo (x4 : Vec Ideal S1x1x2048 .f32) (x1 x2 : Vec Ideal S8x2048 .f32) (x3 : Vec Ideal S1x1x2048 .f32) : Vec Ideal S16x2048 .bf16 :=
  View.canon
      [⟨Rect.unit ![8, 0] ![8, 2048] inb_S16x2048_S8x2048_8_0, k0_pay9 (k0_pay8 (k0_pay3 x4) x2) x3⟩,
       ⟨Rect.unit ![0, 0] ![8, 2048] inb_S16x2048_S8x2048_0_0, k0_pay7 (k0_pay3 x4) (k0_pay5 x1) (k0_pay6 x1) x3⟩]

theorem halo7 (x4 : Vec Ideal S1x1x2048 .f32) (x1 x2 : Vec Ideal S8x2048 .f32) (x3 : Vec Ideal S1x1x2048 .f32) (k : Fin 2048) :
    halo x4 x1 x2 x3 (ix2 7 k) = modu (fun x => x1 (ix2 7 x)) (fun x => x4 (ix3 0 0 x)) (fun x => x3 (ix3 0 0 x)) k := by
  unfold halo
  canon_tiles x h
  · have : (7 : ℕ) = 8 + (x 0).val := h0
    omega
  · refine (congrArg _ (?_ : x = ix2 7 k)).trans (prev_at ..)
    funext a
    match a with
    | ⟨0, _⟩ => exact Fin.ext h0.symm
    | ⟨1, _⟩ => exact Fin.ext h1.symm

theorem halo8 (x4 : Vec Ideal S1x1x2048 .f32) (x1 x2 : Vec Ideal S8x2048 .f32) (x3 : Vec Ideal S1x1x2048 .f32) (k : Fin 2048) :
    halo x4 x1 x2 x3 (ix2 8 k) = modu (fun x => x2 (ix2 0 x)) (fun x => x4 (ix3 0 0 x)) (fun x => x3 (ix3 0 0 x)) k := by
  unfold halo
  canon_tiles x h
  · refine (congrArg _ (?_ : x = ix2 0 k)).trans (next_at ..)
    have : (8 : ℕ) = 8 + (x 0).val := h0
    funext a
    match a with
    | ⟨0, _⟩ => exact Fin.ext (by show (x 0).val = 0; omega)
    | ⟨1, _⟩ => exact Fin.ext h1.symm
  · have : (8 : ℕ) = (x 0).val := h0
    omega

end Cert.Proof.Up

end
-- ==== Proof.UpRef.lean ====
/- The reference of the feed-forward's first half, element by element. -/
module

public import proofs.«01_k».proof.Proof.Gen.ReferenceUpIdeal.Read
public import proofs.«01_k».proof.Proof.UpRow
public import Idealize.ShloMosaic.Lib.Pointwise

@[expose] public section

set_option maxRecDepth 16384

noncomputable section

namespace Cert.Proof.Up

open Cert.ReferenceUpIdeal Cert.ReferenceUpIdeal.Read
open Idealize.ShloMosaic Idealize.ShloMosaic.TcCoe

variable (x0 : (⟨S8x2048x2048, .f32⟩ : BufTy).Contents (Elt Ideal)) (x1 : (⟨S16x12288, .f32⟩ : BufTy).Contents (Elt Ideal))
  (x2 : (⟨S2048x11008, .f32⟩ : BufTy).Contents (Elt Ideal)) (x3 : (⟨S3x5504, .f32⟩ : BufTy).Contents (Elt Ideal))
  (x4 : (⟨S5504, .f32⟩ : BufTy).Contents (Elt Ideal))

/-- The latent row `q` of batch `b`, and the batch's scale and shift. -/
def hrow (b : Fin 8) (q : Fin 2048) (k : Fin 2048) : EReal := x0 (ix3 b q k)
def shrow (b : Fin 8) (k : Fin 2048) : EReal := x1 (ix2 ⟨b.val, by omega⟩ ⟨6144 + k.val, by omega⟩)
def scrow (b : Fin 8) (k : Fin 2048) : EReal := x1 (ix2 ⟨b.val, by omega⟩ ⟨8192 + k.val, by omega⟩)
/-- The batch's modulated rows. -/
def urow (b : Fin 8) (q : Fin 2048) (k : Fin 2048) : EReal := modu (hrow x0 b q) (scrow x1 b) (shrow x1 b) k
/-- The two weight columns. -/
def wacol (k : Fin 5504) (x : Fin 2048) : EReal := x2 (ix2 x ⟨k.val, by omega⟩)
def wvcol (k : Fin 5504) (x : Fin 2048) : EReal := x2 (ix2 x ⟨5504 + k.val, by omega⟩)
/-- The convolution's taps and bias. -/
def taps (j : Fin 3) (k : Fin 5504) : EReal := x3 (ix2 j k)
def bias (k : Fin 5504) : EReal := x4 (ix1 k)

/-- What the paddings are filled with. -/
theorem pad0 : FloatOps.sitofp (F := Ideal) .f32 0#32 = (0 : EReal) := by
  show (((0#32 : BitVec 32).toInt : ℝ) : EReal) = 0
  simp

theorem r31 (b : Fin 8) (q k : Fin 2048) : val_main_v31 (F := Ideal) x0 x1 (ix3 b q k) = urow x0 x1 b q k := by
  pointwise [val_main_v0, val_main_v1, val_main_v2, val_main_v3, val_main_v4, val_main_v5, val_main_v6, val_main_v7, val_main_cst, val_main_v8, val_main_v9, val_main_cst_0, val_main_v10, val_main_v11, val_main_v12, val_main_v13, val_main_v14, val_main_cst_1, val_main_v15, val_main_v16, val_main_cst_2, val_main_v17, val_main_v18, val_main_v19, val_main_v20, val_main_cst_3, val_main_v21, val_main_v22, val_main_v23, val_main_v24, val_main_v25, val_main_cst_4, val_main_v26, val_main_v27, val_main_v28, val_main_v29, val_main_v30, val_main_v31]
  rfl

theorem r32 (b : Fin 8) (q : Fin 2048) (k : Fin 11008) : val_main_v32 (F := Ideal) x0 x1 x2 (ix3 b q k) = dot (urow x0 x1 b q) (fun x => x2 (ix2 x k)) := by
  pointwise [val_main_v32]
  exact Finset.sum_congr rfl fun x _ => congrArg (· * _) (r31 x0 x1 b q x)

theorem r33 (b : Fin 8) (q : Fin 2048) (k : Fin 5504) : val_main_v33 (F := Ideal) x0 x1 x2 (ix3 b q k) = dot (urow x0 x1 b q) (wacol x2 k) := by
  pointwise [val_main_v33]
  exact r32 _ _ _ _ _ _

theorem r34 (b : Fin 8) (q : Fin 2048) (k : Fin 5504) : val_main_v34 (F := Ideal) x0 x1 x2 (ix3 b q k) = dot (urow x0 x1 b q) (wvcol x2 k) := by
  pointwise [val_main_v34]
  exact r32 _ _ _ _ _ _

theorem r36 (b : Fin 8) (q : Fin 2048) (k : Fin 5504) : val_main_v36 (F := Ideal) x0 x1 x2 (ix3 b q k) = before (urow x0 x1 b) (wacol x2 k) q := by
  pointwise [val_main_v36, val_main_v35, val_main_call0_v0, val_main_c]
  unfold before
  by_cases h : q.val = 0
  · rw [dif_pos h, dif_neg (by omega)]
    exact pad0
  · rw [dif_neg h, dif_pos (by have := q.isLt; omega)]
    exact r33 ..

theorem r45 (b : Fin 8) (q : Fin 2048) (k : Fin 5504) : val_main_v45 (F := Ideal) x0 x1 x2 (ix3 b q k) = dot (urow x0 x1 b q) (wacol x2 k) := by
  pointwise [val_main_v45, val_main_v35, val_main_call0_v0, val_main_c]
  exact r33 ..

theorem r52 (b : Fin 8) (q : Fin 2048) (k : Fin 5504) : val_main_v52 (F := Ideal) x0 x1 x2 (ix3 b q k) = after (urow x0 x1 b) (wacol x2 k) q := by
  pointwise [val_main_v52, val_main_v35, val_main_call0_v0, val_main_c]
  unfold after
  by_cases h : q.val + 1 < 2048
  · rw [dif_pos h, dif_pos (by omega)]
    refine (congrArg (fun w => val_main_v33 (F := Ideal) x0 x1 x2 (ix3 b w k)) (Fin.ext ?_)).trans (r33 ..)
    show 2 + q.val - 1 = q.val + 1
    omega
  · rw [dif_neg h, dif_neg (by omega)]
    exact pad0

theorem r66 (b : Fin 8) (q : Fin 2048) (k : Fin 5504) : val_main_v66 (F := Ideal) x0 x1 x2 x3 x4 (ix3 b q k)
    = gated (urow x0 x1 b) (wacol x2 k) (wvcol x2 k) (bias x4 k) (taps x3 0 k) (taps x3 1 k) (taps x3 2 k) q := by
  unfold gated
  rw [← glu_erfc, ← r36, ← r45, ← r52, ← r34]
  pointwise [val_main_v37, val_main_v38, val_main_v39, val_main_v40, val_main_v41, val_main_v42, val_main_v43, val_main_v44, val_main_v46, val_main_v47, val_main_v48, val_main_v49, val_main_v50, val_main_v51, val_main_v53, val_main_v54, val_main_v55, val_main_v56, val_main_v57, val_main_v58, val_main_cst_5, val_main_v59, val_main_v60, val_main_v61, val_main_cst_6, val_main_v62, val_main_v63, val_main_v64, val_main_v65, val_main_v66]
  rfl

theorem r69 (b : Fin 8) (q : Fin 2048) (k : Fin 5632) (r : Fin 16384) (hr : r.val = b.val * 2048 + q.val) :
    val_main_v69 (F := Ideal) x0 x1 x2 x3 x4 (ix2 r k) = if h : k.val < 5504 then
      gated (urow x0 x1 b) (wacol x2 ⟨k.val, h⟩) (wvcol x2 ⟨k.val, h⟩) (bias x4 ⟨k.val, h⟩) (taps x3 0 ⟨k.val, h⟩) (taps x3 1 ⟨k.val, h⟩)
        (taps x3 2 ⟨k.val, h⟩) q else 0 := by
  pointwise [val_main_v69, val_main_v68, val_main_call1_v0, val_main_c_7]
  split
  · rw [← r66]
    refine (val_main_v67_apply ..).trans (congrArg _ ?_)
    have hk := k.isLt
    have hr' := r.isLt
    funext a
    match a with
    | ⟨0, _⟩ => exact Fin.ext (by show (r.val * 5504 + k.val) / 11272192 = b.val; omega)
    | ⟨1, _⟩ => exact Fin.ext (by show (r.val * 5504 + k.val) / 5504 % 2048 = q.val; omega)
    | ⟨2, _⟩ => exact Fin.ext (by show (r.val * 5504 + k.val) % 5504 = k.val; omega)
  · exact pad0

end Cert.Proof.Up

end
-- ==== Proof.UpWin.lean ====
/- The arrays the feed-forward's first launch stages, and its windows' blocks, as entries of the arguments. -/
module

public import proofs.«01_k».proof.Proof.UpBody
public import proofs.«01_k».proof.Proof.UpRef

@[expose] public section

set_option maxRecDepth 16384

noncomputable section

namespace Cert.Proof.Up

open Cert.KernelUpIdeal Cert.KernelUpIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 176 := lt_of_lt_of_eq t.isLt N_0

theorem idx : ∀ t : Fin cfg0.N, win0_0.index t = ![t.val / 11, 0] ∧ win0_1.index t = ![t.val / 11 * 128 - 1, 0]
    ∧ win0_2.index t = ![min ((t.val / 11 + 1) * 128) 2047, 0] ∧ win0_3.index t = ![t.val / 22, 0, 3]
    ∧ win0_4.index t = ![t.val / 22, 0, 4] ∧ win0_5.index t = ![0, t.val % 11] ∧ win0_6.index t = ![0, t.val % 11]
    ∧ win0_7.index t = ![0, t.val % 11] ∧ win0_8.index t = ![0, t.val % 11] ∧ win0_9.index t = ![t.val / 11, t.val % 11]
    ∧ (grid0.coords t 0).val = t.val / 11 :=
  (by decide +kernel : ∀ t : Fin grid0.N, _)

/-- The batches' rows in one array. -/
theorem V9 : V m c main_v9 = shapeCast S16384x2048 (m ((c.tc : Thread nD τ).loc main_arg0)) shapeCasts_S8x2048x2048_S16384x2048 := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl
theorem V10 : V m c main_v10 = shapeCast S16x1x12288 (m ((c.tc : Thread nD τ).loc main_arg1)) shapeCasts_S16x12288_S16x1x12288 := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl
theorem V2 : V m c main_v2 = pad S2048x5632 ![0, 0] ![0, 128] ![0, 0] (truncf .bf16 (extractStridedSlice S2048x5504 ![0, 0] (m ((c.tc : Thread nD τ).loc main_arg2)) slices_S2048x11008_S2048x5504_0_0) bitsLt_bf16_f32) (sitofp (F := Ideal) .bf16 (constantI S_ 32 0#32)) pads_S2048x5504_S2048x5632_000_01280 h_S_ := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl
theorem V5 : V m c main_v5 = pad S2048x5632 ![0, 0] ![0, 128] ![0, 0] (truncf .bf16 (extractStridedSlice S2048x5504 ![0, 5504] (m ((c.tc : Thread nD τ).loc main_arg2)) slices_S2048x11008_S2048x5504_0_5504) bitsLt_bf16_f32) (sitofp (F := Ideal) .bf16 (constantI S_ 32 0#32)) pads_S2048x5504_S2048x5632_000_01280 h_S_ := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl
theorem V6 : V m c main_v6 = pad S3x5632 ![0, 0] ![0, 128] ![0, 0] (m ((c.tc : Thread nD τ).loc main_arg3)) (sitofp (F := Ideal) .f32 (constantI S_ 32 0#32)) pads_S3x5504_S3x5632_000_01280 h_S_ := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl
theorem V8 : V m c main_v8 = shapeCast S1x5632 (pad S5632 ![0] ![128] ![0] (m ((c.tc : Thread nD τ).loc main_arg4)) (sitofp (F := Ideal) .f32 (constantI S_ 32 0#32)) pads_S5504_S5632_01280 h_S_) shapeCasts_S5632_S1x5632 := by
  unfold V; simp only [hostOps0, hostOps0_1, hostOps0_2, hostOps0_3, hostOps0_4, hostOps0_5, hostOps0_6, hostOps0_7, hostOps0_8, List.flatten_cons, List.flatten_nil, List.append_nil, List.cons_append, List.nil_append]; after_results; try rfl

/-! The arrays at an index. -/

variable (X0 : Vec Ideal S8x2048x2048 .f32) (X1 : Vec Ideal S16x12288 .f32) (X2 : Vec Ideal S2048x11008 .f32) (X3 : Vec Ideal S3x5504 .f32) (X4 : Vec Ideal S5504 .f32)

theorem a9 (b : Fin 8) (q k : Fin 2048) (r : Fin 16384) (hr : r.val = b.val * 2048 + q.val) :
    shapeCast S16384x2048 X0 shapeCasts_S8x2048x2048_S16384x2048 (ix2 r k) = X0 (ix3 b q k) := by
  refine shapeCast_apply X0 shapeCasts_S8x2048x2048_S16384x2048 (ix2 r k) (ix3 b q k) ?_
  rewrite [Shape.rowMajor_val_three, Shape.rowMajor_val_two]
  show (b.val * 2048 + q.val) * 2048 + k.val = r.val * 2048 + k.val
  rw [hr]

theorem a10 (b : Fin 16) (k : Fin 12288) :
    shapeCast S16x1x12288 X1 shapeCasts_S16x12288_S16x1x12288 (ix3 b 0 k) = X1 (ix2 b k) := by
  refine shapeCast_apply X1 shapeCasts_S16x12288_S16x1x12288 (ix3 b 0 k) (ix2 b k) ?_
  rewrite [Shape.rowMajor_val_three, Shape.rowMajor_val_two]
  show b.val * 12288 + k.val = (b.val * 1 + 0) * 12288 + k.val
  omega

/-- What the weights are padded with. -/
theorem padb : FloatOps.sitofp (F := Ideal) .bf16 0#32 = (0 : EReal) := by
  show (((0#32 : BitVec 32).toInt : ℝ) : EReal) = 0
  simp

theorem a2 (x : Fin 2048) (k : Fin 5632) :
    pad S2048x5632 ![0, 0] ![0, 128] ![0, 0] (truncf .bf16 (extractStridedSlice S2048x5504 ![0, 0] X2 slices_S2048x11008_S2048x5504_0_0) bitsLt_bf16_f32) (sitofp (F := Ideal) .bf16 (constantI S_ 32 0#32)) pads_S2048x5504_S2048x5632_000_01280 h_S_ (ix2 x k)
      = if h : k.val < 5504 then wacol X2 ⟨k.val, h⟩ x else 0 := by
  pointwise []
  split
  · rfl
  · exact padb
theorem a5 (x : Fin 2048) (k : Fin 5632) :
    pad S2048x5632 ![0, 0] ![0, 128] ![0, 0] (truncf .bf16 (extractStridedSlice S2048x5504 ![0, 5504] X2 slices_S2048x11008_S2048x5504_0_5504) bitsLt_bf16_f32) (sitofp (F := Ideal) .bf16 (constantI S_ 32 0#32)) pads_S2048x5504_S2048x5632_000_01280 h_S_ (ix2 x k)
      = if h : k.val < 5504 then wvcol X2 ⟨k.val, h⟩ x else 0 := by
  pointwise []
  split
  · rfl
  · exact padb
theorem a6 (x : Fin 3) (k : Fin 5632) :
    pad S3x5632 ![0, 0] ![0, 128] ![0, 0] X3 (sitofp (F := Ideal) .f32 (constantI S_ 32 0#32)) pads_S3x5504_S3x5632_000_01280 h_S_ (ix2 x k)
      = if h : k.val < 5504 then taps X3 x ⟨k.val, h⟩ else 0 := by
  pointwise []
  split
  · rfl
  · exact pad0
theorem a8 (k : Fin 5632) :
    shapeCast S1x5632 (pad S5632 ![0] ![128] ![0] X4 (sitofp (F := Ideal) .f32 (constantI S_ 32 0#32)) pads_S5504_S5632_01280 h_S_) shapeCasts_S5632_S1x5632 (ix2 0 k)
      = if h : k.val < 5504 then bias X4 ⟨k.val, h⟩ else 0 := by
  pointwise []
  split
  · rfl
  · exact pad0

/-! ## The windows' blocks -/

/-- A point's batch, its row `r`'s number in the batch, its column `k`'s number, and its row coordinate. -/
def bOf (t : Fin cfg0.N) : Fin 8 := ⟨t.val / 22, by have := lt_N t; omega⟩
def qOf (t : Fin cfg0.N) (r : Fin 1024) : Fin 2048 := ⟨t.val / 11 % 2 * 1024 + r.val, by omega⟩
def kOf (t : Fin cfg0.N) (k : Fin 512) : Fin 5632 := ⟨t.val % 11 * 512 + k.val, by omega⟩

theorem blk0 (t : Fin cfg0.N) (r : Fin 1024) (k : Fin 2048) : iblk m c 0 t (ix2 r k) = hrow (m ((c.tc : Thread nD τ).loc main_arg0)) (bOf t) (qOf t r) k := by
  have := lt_N t
  blk_simp [iblk]
  refine (congrFun (V9 m c) _).trans (Eq.trans (congrArg _ ?_) (a9 _ (bOf t) (qOf t r) k ⟨t.val / 11 * 1024 + r.val, by omega⟩ (by simp only [bOf, qOf]; omega)))
  blk_ext [idx t]
theorem blk1 (t : Fin cfg0.N) (h : t.val / 11 % 2 = 1) (k : Fin 2048) : iblk m c 1 t (ix2 7 k) = hrow (m ((c.tc : Thread nD τ).loc main_arg0)) (bOf t) ⟨1023, by omega⟩ k := by
  have := lt_N t
  blk_simp [iblk]
  refine (congrFun (V9 m c) _).trans (Eq.trans (congrArg _ ?_) (a9 _ (bOf t) ⟨1023, by omega⟩ k ⟨t.val / 11 * 1024 - 1, by omega⟩ (by simp only [bOf]; omega)))
  blk_ext [idx t]
theorem blk2 (t : Fin cfg0.N) (h : t.val / 11 % 2 = 0) (k : Fin 2048) : iblk m c 2 t (ix2 0 k) = hrow (m ((c.tc : Thread nD τ).loc main_arg0)) (bOf t) ⟨1024, by omega⟩ k := by
  have := lt_N t
  blk_simp [iblk]
  refine (congrFun (V9 m c) _).trans (Eq.trans (congrArg _ ?_) (a9 _ (bOf t) ⟨1024, by omega⟩ k ⟨(t.val / 11 + 1) * 1024, by omega⟩ (by simp only [bOf]; omega)))
  blk_ext [idx t]
theorem blk3 (t : Fin cfg0.N) (k : Fin 2048) : iblk m c 3 t (ix3 0 0 k) = shrow (m ((c.tc : Thread nD τ).loc main_arg1)) (bOf t) k := by
  have := lt_N t
  blk_simp [iblk]
  refine (congrFun (V10 m c) _).trans (Eq.trans (congrArg _ ?_) (a10 _ ⟨(bOf t).val, by omega⟩ ⟨6144 + k.val, by omega⟩))
  blk_ext [idx t, bOf]
theorem blk4 (t : Fin cfg0.N) (k : Fin 2048) : iblk m c 4 t (ix3 0 0 k) = scrow (m ((c.tc : Thread nD τ).loc main_arg1)) (bOf t) k := by
  have := lt_N t
  blk_simp [iblk]
  refine (congrFun (V10 m c) _).trans (Eq.trans (congrArg _ ?_) (a10 _ ⟨(bOf t).val, by omega⟩ ⟨8192 + k.val, by omega⟩))
  blk_ext [idx t, bOf]
theorem blk5 (t : Fin cfg0.N) (x : Fin 2048) (k : Fin 512) : iblk m c 5 t (ix2 x k)
    = if h : (kOf t k).val < 5504 then wacol (m ((c.tc : Thread nD τ).loc main_arg2)) ⟨(kOf t k).val, h⟩ x else 0 := by
  have := lt_N t
  blk_simp [iblk]
  refine (congrFun (V2 m c) _).trans (Eq.trans (congrArg _ ?_) (a2 _ x (kOf t k)))
  blk_ext [idx t, kOf]
theorem blk6 (t : Fin cfg0.N) (x : Fin 2048) (k : Fin 512) : iblk m c 6 t (ix2 x k)
    = if h : (kOf t k).val < 5504 then wvcol (m ((c.tc : Thread nD τ).loc main_arg2)) ⟨(kOf t k).val, h⟩ x else 0 := by
  have := lt_N t
  blk_simp [iblk]
  refine (congrFun (V5 m c) _).trans (Eq.trans (congrArg _ ?_) (a5 _ x (kOf t k)))
  blk_ext [idx t, kOf]
theorem blk7 (t : Fin cfg0.N) (x : Fin 3) (k : Fin 512) : iblk m c 7 t (ix2 x k)
    = if h : (kOf t k).val < 5504 then taps (m ((c.tc : Thread nD τ).loc main_arg3)) x ⟨(kOf t k).val, h⟩ else 0 := by
  have := lt_N t
  blk_simp [iblk]
  refine (congrFun (V6 m c) _).trans (Eq.trans (congrArg _ ?_) (a6 _ x (kOf t k)))
  blk_ext [idx t, kOf]
theorem blk8 (t : Fin cfg0.N) (k : Fin 512) : iblk m c 8 t (ix2 0 k)
    = if h : (kOf t k).val < 5504 then bias (m ((c.tc : Thread nD τ).loc main_arg4)) ⟨(kOf t k).val, h⟩ else 0 := by
  have := lt_N t
  blk_simp [iblk]
  refine (congrFun (V8 m c) _).trans (Eq.trans (congrArg _ ?_) (a8 _ (kOf t k)))
  blk_ext [idx t, kOf]

theorem emb9 (t : Fin cfg0.N) (r : Fin 1024) (k : Fin 512) : ((cfg0.win 9).blk t).view.emb (ix2 r k)
    = ix2 ⟨t.val / 11 * 1024 + r.val, by have := lt_N t; omega⟩ (kOf t k) := by
  have := lt_N t
  blk_ext [idx t, kOf]

end Cert.Proof.Up

end
-- ==== Proof.UpValue.lean ====
/- The feed-forward's first launch leaves what its reference computes. -/
module

public import proofs.«01_k».proof.Proof.UpWin
public import Idealize.ShloMosaic.Lib.Pipeline.ReadBack

@[expose] public section

set_option maxRecDepth 16384

noncomputable section

namespace Cert.Proof.Up

open Cert.KernelUpIdeal Cert.KernelUpIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The batch's modulated rows, from the launch's arguments. -/
abbrev rows (b : Fin 8) : Fin 2048 → Fin 2048 → EReal :=
  urow (m ((c.tc : Thread nD τ).loc main_arg0)) (m ((c.tc : Thread nD τ).loc main_arg1)) b

theorem zero2 : (![0, 0] : Fin 2 → ℕ) = fun _ => 0 := by decide

/-- The halo rows read back whole. -/
theorem halo_read (x4 : Vec Ideal S1x1x2048 .f32) (x1 x2 : Vec Ideal S8x2048 .f32) (x3 : Vec Ideal S1x1x2048 .f32) :
    (View.whole cc0_scratch1).readCov (Val := Elt Ideal)
      [⟨Rect.unit ![8, 0] ![8, 2048] inb_S16x2048_S8x2048_8_0, k0_pay9 (k0_pay8 (k0_pay3 x4) x2) x3⟩,
       ⟨Rect.unit ![0, 0] ![8, 2048] inb_S16x2048_S8x2048_0_0, k0_pay7 (k0_pay3 x4) (k0_pay5 x1) (k0_pay6 x1) x3⟩]
      (Rect.unit ![0, 0] ![16, 2048] inb_S16x2048_S16x2048_0_0).toLoadRect = halo x4 x1 x2 x3 := by
  rw [View.readCov_eq_canon']
  exact View.ld_unit_zero zero2 _ _

/-! ## What a point leaves -/

theorem after_A (t : Fin cfg0.N) (h : t.val % 11 = 0) : outsAt0 m c t.val t.isLt
    = (block (grid0.coords t) (k0_pay4 (iblk m c 4 t) (iblk m c 0 t) (iblk m c 3 t))
        (halo (iblk m c 4 t) (iblk m c 1 t) (iblk m c 2 t) (iblk m c 3 t)) (iblk m c 5 t) (iblk m c 6 t) (iblk m c 7 t) (iblk m c 8 t),
      k0_pay4 (iblk m c 4 t) (iblk m c 0 t) (iblk m c 3 t), halo (iblk m c 4 t) (iblk m c 1 t) (iblk m c 2 t) (iblk m c 3 t)) := by
  rw [outsAt0_A m c t h]
  refine Prod.ext ?_ (Prod.ext ?_ ?_)
  · frame_out
    rw [halo_read]
    try rfl
  · frame_out
  · frame_out
    try rfl

theorem after_B (t : Fin cfg0.N) (h : ¬ t.val % 11 = 0) : outsAt0 m c t.val t.isLt
    = (block (grid0.coords t) (outsAt0 m c (t.val - 1) (by omega)).2.1 (outsAt0 m c (t.val - 1) (by omega)).2.2 (iblk m c 5 t) (iblk m c 6 t) (iblk m c 7 t) (iblk m c 8 t),
      (outsAt0 m c (t.val - 1) (by omega)).2) := by
  rw [outsAt0_B m c t h]
  refine Prod.ext ?_ (Prod.ext ?_ ?_)
  · frame_out
    simp only [read_unread_whole]
    rfl
  · frame_out
    try rfl
  · frame_out
    try rfl

/-! ## The rows kept between points -/

/-- The rows and the halo rows a point holds are its tile's, whatever its column coordinate. -/
def Kept (t : Fin cfg0.N) (u : Vec Ideal S1024x2048 .bf16) (uh : Vec Ideal S16x2048 .bf16) : Prop :=
  (∀ r k, u (ix2 r k) = rows m c (bOf t) (qOf t r) k)
  ∧ (t.val / 11 % 2 = 1 → ∀ k, uh (ix2 7 k) = rows m c (bOf t) ⟨1023, by omega⟩ k)
  ∧ (t.val / 11 % 2 = 0 → ∀ k, uh (ix2 8 k) = rows m c (bOf t) ⟨1024, by omega⟩ k)

theorem kept_A (t : Fin cfg0.N) : Kept m c t (k0_pay4 (iblk m c 4 t) (iblk m c 0 t) (iblk m c 3 t))
    (halo (iblk m c 4 t) (iblk m c 1 t) (iblk m c 2 t) (iblk m c 3 t)) := by
  refine ⟨fun r k => ?_, fun h k => ?_, fun h k => ?_⟩
  · rw [rows_at, funext (blk0 m c t r), funext (blk3 m c t), funext (blk4 m c t)]
    rfl
  · rw [halo7, funext (blk1 m c t h), funext (blk3 m c t), funext (blk4 m c t)]
    rfl
  · rw [halo8, funext (blk2 m c t h), funext (blk3 m c t), funext (blk4 m c t)]
    rfl

/-- The same, of what the launch leaves after a point. -/
theorem kept_of {t : Fin cfg0.N} {s : Vec Ideal S1024x512 .bf16 × Vec Ideal S1024x2048 .bf16 × Vec Ideal S16x2048 .bf16}
    {a : Vec Ideal S1024x512 .bf16} {b : Vec Ideal S1024x2048 .bf16} {d : Vec Ideal S16x2048 .bf16}
    (e : s = (a, b, d)) (K : Kept m c t b d) : Kept m c t s.2.1 s.2.2 := by
  subst e
  exact K

theorem kept_of' {t : Fin cfg0.N} {s : Vec Ideal S1024x512 .bf16 × Vec Ideal S1024x2048 .bf16 × Vec Ideal S16x2048 .bf16}
    {a : Vec Ideal S1024x512 .bf16} {b : Vec Ideal S1024x2048 .bf16 × Vec Ideal S16x2048 .bf16}
    (e : s = (a, b)) (K : Kept m c t b.1 b.2) : Kept m c t s.2.1 s.2.2 := by
  subst e
  exact K

/-- Within a row tile a point keeps what the one before it kept. -/
theorem kept_step (t s : Fin cfg0.N) (h : ¬ t.val % 11 = 0) (hs : s.val = t.val - 1) (u : Vec Ideal S1024x2048 .bf16) (uh : Vec Ideal S16x2048 .bf16)
    (K : Kept m c s u uh) : Kept m c t u uh := by
  have hd : t.val / 11 = s.val / 11 := by omega
  have hb : bOf t = bOf s := Fin.ext (by show t.val / 22 = s.val / 22; omega)
  have hq : ∀ r, qOf t r = qOf s r := fun r => Fin.ext (by show t.val / 11 % 2 * 1024 + r.val = s.val / 11 % 2 * 1024 + r.val; rw [hd])
  obtain ⟨k0, k1, k2⟩ := K
  refine ⟨fun r k => ?_, fun h k => ?_, fun h k => ?_⟩
  · rw [hb, hq]; exact k0 r k
  · rw [hb]; exact k1 (by rw [← hd]; exact h) k
  · rw [hb]; exact k2 (by rw [← hd]; exact h) k

theorem kept : ∀ (n : ℕ) (hn : n < cfg0.N), Kept m c ⟨n, hn⟩ (outsAt0 m c n hn).2.1 (outsAt0 m c n hn).2.2 := by
  intro n
  induction n with
  | zero =>
    intro hn
    exact kept_of m c (after_A m c ⟨0, hn⟩ rfl) (kept_A m c ⟨0, hn⟩)
  | succ n ih =>
    intro hn
    by_cases h : (n + 1) % 11 = 0
    · exact kept_of m c (after_A m c ⟨n + 1, hn⟩ h) (kept_A m c ⟨n + 1, hn⟩)
    · exact kept_of' m c (after_B m c ⟨n + 1, hn⟩ h) (kept_step m c ⟨n + 1, hn⟩ ⟨n, by omega⟩ h rfl _ _ (ih (by omega)))

/-! ## The block -/

theorem bef_eq (t : Fin cfg0.N) (u : Vec Ideal S1024x2048 .bf16) (uh : Vec Ideal S16x2048 .bf16) (K : Kept m c t u uh)
    (w : Fin 2048 → EReal) (r : Fin 1024) : bef (grid0.coords t) u uh w r = before (rows m c (bOf t)) w (qOf t r) := by
  obtain ⟨k0, k1, k2⟩ := K
  have e := (idx t).2.2.2.2.2.2.2.2.2.2
  unfold bef before
  rw [e]
  by_cases hr : r.val = 0
  · rw [if_pos hr]
    by_cases h : t.val / 11 % 2 = 1
    · rw [if_pos h, dif_neg (by simp only [qOf]; omega), funext (k1 h)]
      exact congrArg (fun q => dot (rows m c (bOf t) q) w) (Fin.ext (by simp only [qOf]; omega))
    · rw [if_neg h, dif_pos (by simp only [qOf]; omega)]
  · rw [if_neg hr, dif_neg (by simp only [qOf]; omega), funext (k0 _)]
    exact congrArg (fun q => dot (rows m c (bOf t) q) w) (Fin.ext (by simp only [qOf]; omega))

theorem aft_eq (t : Fin cfg0.N) (u : Vec Ideal S1024x2048 .bf16) (uh : Vec Ideal S16x2048 .bf16) (K : Kept m c t u uh)
    (w : Fin 2048 → EReal) (r : Fin 1024) : aft (grid0.coords t) u uh w r = after (rows m c (bOf t)) w (qOf t r) := by
  obtain ⟨k0, k1, k2⟩ := K
  have e := (idx t).2.2.2.2.2.2.2.2.2.2
  unfold aft after
  rw [e]
  by_cases hr : r.val = 1023
  · rw [if_pos hr]
    by_cases h : t.val / 11 % 2 = 0
    · rw [if_pos h, dif_pos (by simp only [qOf]; omega), funext (k2 h)]
      exact congrArg (fun q => dot (rows m c (bOf t) q) w) (Fin.ext (by simp only [qOf]; omega))
    · rw [if_neg h, dif_neg (by simp only [qOf]; omega)]
  · rw [if_neg hr, dif_pos (by simp only [qOf]; omega), funext (k0 _)]
    exact congrArg (fun q => dot (rows m c (bOf t) q) w) (Fin.ext (by simp only [qOf]; omega))

/-- The reference's result, from the launch's arguments. -/
abbrev want : Vec Ideal S16384x5632 .bf16 := Cert.ReferenceUpIdeal.Read.val_main_v69 (F := Ideal) (m ((c.tc : Thread nD τ).loc main_arg0))
  (m ((c.tc : Thread nD τ).loc main_arg1)) (m ((c.tc : Thread nD τ).loc main_arg2)) (m ((c.tc : Thread nD τ).loc main_arg3)) (m ((c.tc : Thread nD τ).loc main_arg4))

theorem block_eq (t : Fin cfg0.N) (u : Vec Ideal S1024x2048 .bf16) (uh : Vec Ideal S16x2048 .bf16) (K : Kept m c t u uh) (r : Fin 1024) (k : Fin 512) :
    block (grid0.coords t) u uh (iblk m c 5 t) (iblk m c 6 t) (iblk m c 7 t) (iblk m c 8 t) (ix2 r k)
      = want m c (ix2 ⟨t.val / 11 * 1024 + r.val, by have := lt_N t; omega⟩ (kOf t k)) := by
  rw [block_at, bef_eq m c t u uh K, aft_eq m c t u uh K, funext (K.1 r), blk8, blk7, blk7, blk7,
    funext fun x => blk5 m c t x k, funext fun x => blk6 m c t x k]
  refine Eq.trans ?_ (r69 _ _ _ _ _ (bOf t) (qOf t r) (kOf t k) _ (by simp only [bOf, qOf]; omega)).symm
  split
  · rfl
  · rw [dot_zero, glu_zero]

theorem val_of {s : Vec Ideal S1024x512 .bf16 × Vec Ideal S1024x2048 .bf16 × Vec Ideal S16x2048 .bf16}
    {a : Vec Ideal S1024x512 .bf16} {b : Vec Ideal S1024x2048 .bf16 × Vec Ideal S16x2048 .bf16} {y : S1024x512.Idx} {w : EReal}
    (e : s = (a, b)) (h : a y = w) : s.1 y = w := by
  subst e
  exact h

theorem at_t (t : Fin cfg0.N) (r : Fin 1024) (k : Fin 512) : (outsAt0 m c t.val t.isLt).1 (ix2 r k)
    = want m c (ix2 ⟨t.val / 11 * 1024 + r.val, by have := lt_N t; omega⟩ (kOf t k)) := by
  by_cases h : t.val % 11 = 0
  · exact val_of (after_A m c t h) (block_eq m c t _ _ (kept_A m c t) r k)
  · exact val_of (after_B m c t h)
      (block_eq m c t _ _ (kept_step m c t ⟨t.val - 1, by omega⟩ h rfl _ _ (kept m c (t.val - 1) (by omega))) r k)

theorem row9 (y : S1024x512.Idx) : ∃ (r : Fin 1024) (d : Fin 512), y = ix2 r d :=
  ⟨y 0, y 1, by
    funext a
    match a with
    | ⟨0, _⟩ => rfl
    | ⟨1, _⟩ => rfl⟩

theorem final9 : (dats m 0 c).arrAt 9 (cfgs 0).N = want m c := by
  refine (dats m 0 c).arrAt_eq_of_covers 9 _ (by decide +kernel) fun t _ y => ?_
  blk_simp
  rw [after0_9]
  obtain ⟨r, d, rfl⟩ := row9 y
  rw [emb9]
  exact at_t m c t r d

end Cert.Proof.Up

end
-- ==== Proof.UpClaim.lean ====
/- The claims of the feed-forward's first launch. -/
module

public import proofs.«01_k».proof.Defs
public import proofs.«01_k».proof.Proof.UpValue
public import proofs.«01_k».proof.Proof.Gen.KernelUp
public import proofs.«01_k».proof.Proof.Gen.KernelUp.Launch
public import proofs.«01_k».proof.Proof.Gen.ReferenceUpIdeal.Run
public import Idealize.ShloMosaic.Lib.Claim

@[expose] public section

set_option maxRecDepth 16384

noncomputable section

namespace Cert.Proof.Up

open Idealize.ShloMosaic Idealize.ShloMosaic.TcCoe Idealize.SL.Sem

theorem defs₀_eq : @KernelUp.defs₀ Bits _ _ = @KernelUpIdeal.defs₀ Bits _ _ := by
  unfold KernelUp.defs₀ KernelUpIdeal.defs₀
  refine congrArg Defs.onTc ?_
  funext x y
  match x, y with
  | 0, (t, s) => rfl
theorem defs_eq : @KernelUp.defs Bits _ _ = @KernelUpIdeal.defs Bits _ _ :=
  congrArg (Pipeline.defs (KernelUp.pcfgs (F := Bits))) defs₀_eq

/-- The kernel's frame: its text is the ideal kernel's. -/
theorem frame_kernel : Cert.quiescent_KernelUp (hKernelUp := Cert.KernelUp.Gen.facts) := by
  intro m ρ _
  rw [defs_eq]
  exact Cert.KernelUpIdeal.Gen.frame (F := Bits) m ρ

theorem frame_ideal : Cert.quiescent_KernelUpIdeal (hKernelUpIdeal := Cert.KernelUpIdeal.Gen.facts) :=
  fun m ρ _ => Cert.KernelUpIdeal.Gen.frame (F := Ideal) m ρ

theorem frame_ref : Cert.quiescent_ReferenceUpIdeal (hReferenceUpIdeal := Cert.ReferenceUpIdeal.Gen.facts) := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

theorem preserves : Cert.preserves_KernelUp_KernelUpIdeal := trivial

open Cert.KernelUpIdeal Cert.KernelUpIdeal.Gen in
theorem algebraic : Cert.algebraic_KernelUpIdeal_ReferenceUpIdeal (hKernelUpIdeal := Cert.KernelUpIdeal.Gen.facts)
    (hReferenceUpIdeal := Cert.ReferenceUpIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v11) = want m c) :=
    (θ_run defs _ _).mono (fun r h c => ((h c).1 9).trans (final9 m c)) (run_main m g)
  refine ⟨want m, (θ_run defs _ _).mono (fun r h c => ⟨h.1 c, h.2.1 c⟩) (θ_run_and run (frame m g)), ?_⟩
  refine (θ_run Cert.ReferenceUpIdeal.defs _ _).mono (fun r h c => ?_) (Cert.ReferenceUpIdeal.Value.run m' g')
  obtain ⟨a, rest⟩ := h c
  obtain ⟨g0, g1, g2, g3, g4⟩ := hag c
  refine ⟨a.trans ?_, rest⟩
  rw [Cert.ReferenceUpIdeal.Read.val_main_v69_eq, g0, g1, g2, g3, g4]

end Cert.Proof.Up

end
-- ==== Proof.DownRow.lean ====
/- The feed-forward's second half as functions of a row: the product in four parts, and the post-norm of the gated sum. -/
module

public import proofs.«01_k».proof.Proof.UpRow

@[expose] public section

noncomputable section

namespace Cert.Proof.Down

open Idealize.ShloMosaic

/-- The layer norm, weighted, of `sqrt 2` times the hidden row plus the gate times the update. -/
def post (h gt f g b : Fin 2048 → EReal) (k : Fin 2048) : EReal :=
  Up.norm (fun x => Ideal.ofBits .f32 0x3FB504F3#32 * h x + gt x * f x) k * g k + b k

/-- The first `n` parts, of 1408 terms each, of a sum. -/
def parts (f : ℕ → EReal) : ℕ → EReal
  | 0 => 0
  | n + 1 => parts f n + ∑ x : Fin 1408, f (n * 1408 + x.val)

theorem parts_eq (f : ℕ → EReal) (n : ℕ) : parts f n = ∑ x ∈ Finset.range (n * 1408), f x := by
  induction n with
  | zero => simp [parts]
  | succ n ih => rw [parts, ih, Nat.succ_mul, Finset.sum_range_add, Finset.sum_range]; simp only [Finset.sum_range]

/-- A family of 5504 terms, continued by zeros. -/
def ext (f : Fin 5504 → EReal) (x : ℕ) : EReal := if h : x < 5504 then f ⟨x, h⟩ else 0

/-- The four parts of a family of 5504 terms continued by zeros are its sum. -/
theorem parts_four (f : Fin 5504 → EReal) : parts (ext f) 4 = ∑ x, f x := by
  rw [parts_eq, show 4 * 1408 = 5504 + 128 from rfl, Finset.sum_range_add, Finset.sum_range]
  rw [Finset.sum_eq_zero (s := Finset.range 128) fun x _ => by rw [ext, dif_neg (by omega)], add_zero]
  exact Finset.sum_congr rfl fun x _ => by rw [ext, dif_pos x.isLt]

end Cert.Proof.Down

end
-- ==== Proof.Pieces.lean ====
/- Stored pieces of a block of two axes, read at an index. -/
module

public import Idealize.ShloMosaic.Lib.Pointwise
public import Idealize.ShloMosaic.Lib.Pipeline.ValueKit

@[expose] public section

noncomputable section

namespace Cert.Proof

open Idealize.ShloMosaic

variable {N M : ℕ} {e : EltTy}

/-- An index in the last stored piece reads it. -/
theorem hit {R C n l : ℕ} (inb) (p : (⟨2, ![n, l]⟩ : Shape).Idx → Elt Ideal e) (L : List (View.Piece (Elt Ideal) ⟨2, ![N, M]⟩ e))
    (r : Fin N) (k : Fin M) (r' : Fin n) (k' : Fin l) (hr : r.val = R + r'.val) (hk : k.val = C + k'.val) {v : Elt Ideal e} (hv : p (ix2 r' k') = v) :
    View.canon ((⟨Rect.unit (s := ⟨2, ![N, M]⟩) ![R, C] ![n, l] inb, p⟩ : View.Piece (Elt Ideal) ⟨2, ![N, M]⟩ e) :: L) (ix2 r k) = v := by
  have h : (ix2 r k : (⟨2, ![N, M]⟩ : Shape).Idx) = (Rect.unit (s := ⟨2, ![N, M]⟩) ![R, C] ![n, l] inb).emb (ix2 r' k') := by
    funext a
    refine Fin.ext ?_
    match a with
    | ⟨0, _⟩ => exact hr.trans (by rw [Rect.emb_apply]; show _ = R + 1 * r'.val; omega)
    | ⟨1, _⟩ => exact hk.trans (by rw [Rect.emb_apply]; show _ = C + 1 * k'.val; omega)
  rw [h]
  exact (View.canon_cons_emb _ _ _ _).trans hv

/-- One outside it reads the pieces stored before. -/
theorem miss {R C n l : ℕ} (inb) (p : (⟨2, ![n, l]⟩ : Shape).Idx → Elt Ideal e) (L : List (View.Piece (Elt Ideal) ⟨2, ![N, M]⟩ e))
    (r : Fin N) (k : Fin M) (hr : r.val < R ∨ R + n ≤ r.val ∨ k.val < C ∨ C + l ≤ k.val) {v : Elt Ideal e} (hv : View.canon L (ix2 r k) = v) :
    View.canon ((⟨Rect.unit (s := ⟨2, ![N, M]⟩) ![R, C] ![n, l] inb, p⟩ : View.Piece (Elt Ideal) ⟨2, ![N, M]⟩ e) :: L) (ix2 r k) = v := by
  refine (View.canon_cons_of_not_mem _ _ fun hm => ?_).trans hv
  obtain ⟨x, hx⟩ := LoadRect.exists_idx_of_mem (Rect.unit (s := ⟨2, ![N, M]⟩) ![R, C] ![n, l] inb).toLoadRect hm
  have h0 : r.val = R + (x 0).val := (congrArg (fun i : (⟨2, ![N, M]⟩ : Shape).Idx => (i 0).val) hx.symm).trans (Rect.idx_unit_val _ _ _ x 0)
  have h1 : k.val = C + (x 1).val := (congrArg (fun i : (⟨2, ![N, M]⟩ : Shape).Idx => (i 1).val) hx.symm).trans (Rect.idx_unit_val _ _ _ x 1)
  have l0 : (x 0).val < n := (x 0).isLt
  have l1 : (x 1).val < l := (x 1).isLt
  omega

/-- A load through a rectangle, at an index. -/
theorem ld2 {R C n l : ℕ} (X : (⟨2, ![N, M]⟩ : Shape).Idx → Elt Ideal e) (inb) (r : Fin n) (k : Fin l) (r' : Fin N) (k' : Fin M)
    (hr : r'.val = R + r.val) (hk : k'.val = C + k.val) :
    View.ld (S := ⟨2, ![N, M]⟩) X (Rect.unit ![R, C] ![n, l] inb) (ix2 r k) = X (ix2 r' k') := by
  refine View.ld_unit_apply_of X _ _ _ _ _ fun a => ?_
  match a with
  | ⟨0, _⟩ => exact hr
  | ⟨1, _⟩ => exact hk

/-- The same of a block of three axes, loaded whole along the first two. -/
theorem ld3 {A B C l : ℕ} (X : (⟨3, ![A, B, M]⟩ : Shape).Idx → Elt Ideal e) (inb) (a : Fin A) (b : Fin B) (k : Fin l) (k' : Fin M)
    (hk : k'.val = C + k.val) :
    View.ld (S := ⟨3, ![A, B, M]⟩) X (Rect.unit ![0, 0, C] ![A, B, l] inb) (ix3 a b k) = X (ix3 a b k') := by
  refine View.ld_unit_apply_of X _ _ _ _ _ fun x => ?_
  match x with
  | ⟨0, _⟩ => exact (Nat.zero_add _).symm
  | ⟨1, _⟩ => exact (Nat.zero_add _).symm
  | ⟨2, _⟩ => exact hk

/-- A read of whole rows of stored pieces, at an index. -/
theorem rd2 {R n : ℕ} (inb) (L : List (View.Piece (Elt Ideal) ⟨2, ![N, M]⟩ e)) (r : Fin n) (k : Fin M) (r' : Fin N) (hr : r'.val = R + r.val) :
    View.canon L ((Rect.unit (s := ⟨2, ![N, M]⟩) ![R, 0] ![n, M] inb).toLoadRect.idx (ix2 r k)) = View.canon L (ix2 r' k) := by
  refine congrArg _ (funext fun a => Fin.ext ?_)
  match a with
  | ⟨0, _⟩ => exact (Rect.idx_unit_val _ _ inb (ix2 r k) 0).trans hr.symm
  | ⟨1, _⟩ => exact (Rect.idx_unit_val _ _ inb (ix2 r k) 1).trans (Nat.zero_add _)

end Cert.Proof

end
-- ==== Proof.DownBody.lean ====
/- The feed-forward's second half, what one grid point computes. -/
module

public import proofs.«01_k».proof.Proof.Gen.KernelDownIdeal.Frame
public import proofs.«01_k».proof.Proof.DownRow
public import proofs.«01_k».proof.Proof.Pieces
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.Down

open Cert.KernelDownIdeal Cert.KernelDownIdeal.Gen
open Idealize.ShloMosaic Idealize.ShloMosaic.TcCoe Idealize.SL.Sem

/-! ## A column block of a product -/

section
variable (a : Vec Ideal S1024x1408 .bf16) (w : Vec Ideal S1408x512 .bf16) (o : Vec Ideal S1024x512 .f32) (r : Fin 1024) (k : Fin 512)

theorem p1 : k0_pay1 a w (ix2 r k) = ∑ x, a (ix2 r x) * w (ix2 x k) := by pointwise [k0_pay1]
theorem p2 : k0_pay2 a w (ix2 r k) = ∑ x, a (ix2 r x) * w (ix2 x k) := by pointwise [k0_pay2]
theorem p3 : k0_pay3 a w (ix2 r k) = ∑ x, a (ix2 r x) * w (ix2 x k) := by pointwise [k0_pay3]
theorem p4 : k0_pay4 a w (ix2 r k) = ∑ x, a (ix2 r x) * w (ix2 x k) := by pointwise [k0_pay4]
theorem p5 : k0_pay5 a w o (ix2 r k) = o (ix2 r k) + ∑ x, a (ix2 r x) * w (ix2 x k) := by pointwise [k0_pay5]
theorem p7 : k0_pay7 a w o (ix2 r k) = o (ix2 r k) + ∑ x, a (ix2 r x) * w (ix2 x k) := by pointwise [k0_pay7]
theorem p8 : k0_pay8 a w o (ix2 r k) = o (ix2 r k) + ∑ x, a (ix2 r x) * w (ix2 x k) := by pointwise [k0_pay8]
theorem p9 : k0_pay9 a w o (ix2 r k) = o (ix2 r k) + ∑ x, a (ix2 r x) * w (ix2 x k) := by pointwise [k0_pay9]
end

section
variable (a : Vec Ideal S512x1408 .bf16) (w : Vec Ideal S1408x512 .bf16) (o : Vec Ideal S512x512 .f32) (r : Fin 512) (k : Fin 512)

theorem p10 : k0_pay10 a w o (ix2 r k) = o (ix2 r k) + ∑ x, a (ix2 r x) * w (ix2 x k) := by pointwise [k0_pay10]
theorem p11 : k0_pay11 a w o (ix2 r k) = o (ix2 r k) + ∑ x, a (ix2 r x) * w (ix2 x k) := by pointwise [k0_pay11]
theorem p12 : k0_pay12 a w o (ix2 r k) = o (ix2 r k) + ∑ x, a (ix2 r x) * w (ix2 x k) := by pointwise [k0_pay12]
theorem p13 : k0_pay13 a w o (ix2 r k) = o (ix2 r k) + ∑ x, a (ix2 r x) * w (ix2 x k) := by pointwise [k0_pay13]
theorem p17 : k0_pay17 a w o (ix2 r k) = o (ix2 r k) + ∑ x, a (ix2 r x) * w (ix2 x k) := by pointwise [k0_pay17]
theorem p18 : k0_pay18 a w o (ix2 r k) = o (ix2 r k) + ∑ x, a (ix2 r x) * w (ix2 x k) := by pointwise [k0_pay18]
theorem p19 : k0_pay19 a w o (ix2 r k) = o (ix2 r k) + ∑ x, a (ix2 r x) * w (ix2 x k) := by pointwise [k0_pay19]
theorem p20 : k0_pay20 a w o (ix2 r k) = o (ix2 r k) + ∑ x, a (ix2 r x) * w (ix2 x k) := by pointwise [k0_pay20]
end

/-! ## The post-norm of 256 rows -/

section
variable (h : Vec Ideal S256x2048 .f32) (gt : Vec Ideal S1x1x2048 .f32) (o : Vec Ideal S256x2048 .f32) (g b : Vec Ideal S1x2048 .f32) (r : Fin 256) (k : Fin 2048)

/-- The post-norm of row `r` of 256. -/
abbrev rowPost : EReal := post (fun x => h (ix2 r x)) (fun x => gt (ix3 0 0 x)) (fun x => o (ix2 r x)) (fun x => g (ix2 0 x)) (fun x => b (ix2 0 x)) k

theorem n15 : k0_pay15 (k0_pay14 h gt o g) b (ix2 r k) = rowPost h gt o g b r k := by
  pointwise [k0_pay15, k0_pay14]
  rfl
theorem n16 : k0_pay16 h gt o g b (ix2 r k) = rowPost h gt o g b r k := by
  pointwise [k0_pay16]
  rfl
theorem n23 : k0_pay23 (k0_pay21 h gt o) (k0_pay22 g) b (ix2 r k) = rowPost h gt o g b r k := by
  pointwise [k0_pay23, k0_pay21, k0_pay22]
  rfl
theorem n6 : k0_pay6 (k0_pay24 h gt o g) b (ix2 r k) = rowPost h gt o g b r k := by
  pointwise [k0_pay6, k0_pay24]
  rfl
end

/-! ## Pieces of the block -/

/-- A column block's element from what it was computed of. -/
theorem sum_of {n : ℕ} {v : EReal} {a : (⟨2, ![n, 1408]⟩ : Shape).Idx → EReal} {w : (⟨2, ![1408, 512]⟩ : Shape).Idx → EReal}
    {r : Fin n} {k : Fin 512} {A W : Fin 1408 → EReal} (p : v = ∑ x, a (ix2 r x) * w (ix2 x k))
    (ha : ∀ x, a (ix2 r x) = A x) (hw : ∀ x, w (ix2 x k) = W x) : v = ∑ x, A x * W x := by
  rw [p]
  simp only [ha, hw]

theorem acc_of {n : ℕ} {v : EReal} {a : (⟨2, ![n, 1408]⟩ : Shape).Idx → EReal} {w : (⟨2, ![1408, 512]⟩ : Shape).Idx → EReal}
    {o : (⟨2, ![n, 512]⟩ : Shape).Idx → EReal} {r : Fin n} {k : Fin 512} {A W : Fin 1408 → EReal} {O : EReal}
    (p : v = o (ix2 r k) + ∑ x, a (ix2 r x) * w (ix2 x k))
    (ha : ∀ x, a (ix2 r x) = A x) (hw : ∀ x, w (ix2 x k) = W x) (ho : o (ix2 r k) = O) : v = O + ∑ x, A x * W x := by
  rw [p, ho]
  simp only [ha, hw]

theorem post_of {v : EReal} {h : Vec Ideal S256x2048 .f32} {gt : Vec Ideal S1x1x2048 .f32} {o : Vec Ideal S256x2048 .f32} {g b : Vec Ideal S1x2048 .f32}
    {r : Fin 256} {k : Fin 2048} {H O : Fin 2048 → EReal} (p : v = rowPost h gt o g b r k) (hh : ∀ x, h (ix2 r x) = H x) (ho : ∀ x, o (ix2 r x) = O x) :
    v = post H (fun x => gt (ix3 0 0 x)) O (fun x => g (ix2 0 x)) (fun x => b (ix2 0 x)) k := by
  rw [p, rowPost]
  simp only [hh, ho]

/-! ## The blocks -/

variable (a : Vec Ideal S1024x1408 .bf16) (w : Vec Ideal S1408x2048 .bf16) (h : Vec Ideal S1024x2048 .f32) (gt : Vec Ideal S1x1x2048 .f32)
  (g b : Vec Ideal S1x2048 .f32) (o : Vec Ideal S1024x2048 .f32)

/-- Row `r` of the rows against column `k` of the weights. -/
abbrev prod (r : Fin 1024) (k : Fin 2048) : EReal := ∑ x, a (ix2 r x) * w (ix2 x k)

/-- The block after a row tile's first column tile, and after one of the middle ones. -/
def first : Vec Ideal S1024x2048 .f32 := View.canon
    [⟨Rect.unit ![0, 1536] ![1024, 512] inb_S1024x2048_S1024x512_0_1536, k0_pay4 a (View.ld w (Rect.unit ![0, 1536] ![1408, 512] inb_S1408x2048_S1408x512_0_1536))⟩,
     ⟨Rect.unit ![0, 1024] ![1024, 512] inb_S1024x2048_S1024x512_0_1024, k0_pay3 a (View.ld w (Rect.unit ![0, 1024] ![1408, 512] inb_S1408x2048_S1408x512_0_1024))⟩,
     ⟨Rect.unit ![0, 512] ![1024, 512] inb_S1024x2048_S1024x512_0_512, k0_pay2 a (View.ld w (Rect.unit ![0, 512] ![1408, 512] inb_S1408x2048_S1408x512_0_512))⟩,
     ⟨Rect.unit ![0, 0] ![1024, 512] inb_S1024x2048_S1024x512_0_0, k0_pay1 a (View.ld w (Rect.unit ![0, 0] ![1408, 512] inb_S1408x2048_S1408x512_0_0))⟩]

def middle : Vec Ideal S1024x2048 .f32 := View.canon
    [⟨Rect.unit ![0, 1536] ![1024, 512] inb_S1024x2048_S1024x512_0_1536, k0_pay5 a (View.ld w (Rect.unit ![0, 1536] ![1408, 512] inb_S1408x2048_S1408x512_0_1536)) (View.ld o (Rect.unit ![0, 1536] ![1024, 512] inb_S1024x2048_S1024x512_0_1536))⟩,
     ⟨Rect.unit ![0, 1024] ![1024, 512] inb_S1024x2048_S1024x512_0_1024, k0_pay9 a (View.ld w (Rect.unit ![0, 1024] ![1408, 512] inb_S1408x2048_S1408x512_0_1024)) (View.ld o (Rect.unit ![0, 1024] ![1024, 512] inb_S1024x2048_S1024x512_0_1024))⟩,
     ⟨Rect.unit ![0, 512] ![1024, 512] inb_S1024x2048_S1024x512_0_512, k0_pay8 a (View.ld w (Rect.unit ![0, 512] ![1408, 512] inb_S1408x2048_S1408x512_0_512)) (View.ld o (Rect.unit ![0, 512] ![1024, 512] inb_S1024x2048_S1024x512_0_512))⟩,
     ⟨Rect.unit ![0, 0] ![1024, 512] inb_S1024x2048_S1024x512_0_0, k0_pay7 a (View.ld w (Rect.unit ![0, 0] ![1408, 512] inb_S1408x2048_S1408x512_0_0)) (View.ld o (Rect.unit ![0, 0] ![1024, 512] inb_S1024x2048_S1024x512_0_0))⟩]

/-- The sums of the first 512 rows, as stored. -/
abbrev upper : List (View.Piece (Elt Ideal) S1024x2048 .f32) :=
    [⟨Rect.unit ![0, 1536] ![512, 512] inb_S1024x2048_S512x512_0_1536, k0_pay13 (View.ld a (Rect.unit ![0, 0] ![512, 1408] inb_S1024x1408_S512x1408_0_0)) (View.ld w (Rect.unit ![0, 1536] ![1408, 512] inb_S1408x2048_S1408x512_0_1536)) (View.ld o (Rect.unit ![0, 1536] ![512, 512] inb_S1024x2048_S512x512_0_1536))⟩,
     ⟨Rect.unit ![0, 1024] ![512, 512] inb_S1024x2048_S512x512_0_1024, k0_pay12 (View.ld a (Rect.unit ![0, 0] ![512, 1408] inb_S1024x1408_S512x1408_0_0)) (View.ld w (Rect.unit ![0, 1024] ![1408, 512] inb_S1408x2048_S1408x512_0_1024)) (View.ld o (Rect.unit ![0, 1024] ![512, 512] inb_S1024x2048_S512x512_0_1024))⟩,
     ⟨Rect.unit ![0, 512] ![512, 512] inb_S1024x2048_S512x512_0_512, k0_pay11 (View.ld a (Rect.unit ![0, 0] ![512, 1408] inb_S1024x1408_S512x1408_0_0)) (View.ld w (Rect.unit ![0, 512] ![1408, 512] inb_S1408x2048_S1408x512_0_512)) (View.ld o (Rect.unit ![0, 512] ![512, 512] inb_S1024x2048_S512x512_0_512))⟩,
     ⟨Rect.unit ![0, 0] ![512, 512] inb_S1024x2048_S512x512_0_0, k0_pay10 (View.ld a (Rect.unit ![0, 0] ![512, 1408] inb_S1024x1408_S512x1408_0_0)) (View.ld w (Rect.unit ![0, 0] ![1408, 512] inb_S1408x2048_S1408x512_0_0)) (View.ld o (Rect.unit ![0, 0] ![512, 512] inb_S1024x2048_S512x512_0_0))⟩]

/-- The post-norm of each 256 rows, and the sums of the last 512 rows between them. -/
abbrev f0 : View.Piece (Elt Ideal) S1024x2048 .f32 :=
  ⟨Rect.unit ![0, 0] ![256, 2048] inb_S1024x2048_S256x2048_0_0, k0_pay15 (k0_pay14 (View.ld h (Rect.unit ![0, 0] ![256, 2048] inb_S1024x2048_S256x2048_0_0)) gt (fun j => View.canon (upper a w o) ((Rect.unit (s := S1024x2048) ![0, 0] ![256, 2048] inb_S1024x2048_S256x2048_0_0).toLoadRect.idx j)) g) b⟩
abbrev f1 : View.Piece (Elt Ideal) S1024x2048 .f32 :=
  ⟨Rect.unit ![256, 0] ![256, 2048] inb_S1024x2048_S256x2048_256_0, k0_pay16 (View.ld h (Rect.unit ![256, 0] ![256, 2048] inb_S1024x2048_S256x2048_256_0)) gt (fun j => View.canon (f0 a w h gt g b o :: upper a w o) ((Rect.unit (s := S1024x2048) ![256, 0] ![256, 2048] inb_S1024x2048_S256x2048_256_0).toLoadRect.idx j)) g b⟩
abbrev lower : List (View.Piece (Elt Ideal) S1024x2048 .f32) :=
    [⟨Rect.unit ![512, 1536] ![512, 512] inb_S1024x2048_S512x512_512_1536, k0_pay20 (View.ld a (Rect.unit ![512, 0] ![512, 1408] inb_S1024x1408_S512x1408_512_0)) (View.ld w (Rect.unit ![0, 1536] ![1408, 512] inb_S1408x2048_S1408x512_0_1536)) (View.ld o (Rect.unit ![512, 1536] ![512, 512] inb_S1024x2048_S512x512_512_1536))⟩,
     ⟨Rect.unit ![512, 1024] ![512, 512] inb_S1024x2048_S512x512_512_1024, k0_pay19 (View.ld a (Rect.unit ![512, 0] ![512, 1408] inb_S1024x1408_S512x1408_512_0)) (View.ld w (Rect.unit ![0, 1024] ![1408, 512] inb_S1408x2048_S1408x512_0_1024)) (View.ld o (Rect.unit ![512, 1024] ![512, 512] inb_S1024x2048_S512x512_512_1024))⟩,
     ⟨Rect.unit ![512, 512] ![512, 512] inb_S1024x2048_S512x512_512_512, k0_pay18 (View.ld a (Rect.unit ![512, 0] ![512, 1408] inb_S1024x1408_S512x1408_512_0)) (View.ld w (Rect.unit ![0, 512] ![1408, 512] inb_S1408x2048_S1408x512_0_512)) (View.ld o (Rect.unit ![512, 512] ![512, 512] inb_S1024x2048_S512x512_512_512))⟩,
     ⟨Rect.unit ![512, 0] ![512, 512] inb_S1024x2048_S512x512_512_0, k0_pay17 (View.ld a (Rect.unit ![512, 0] ![512, 1408] inb_S1024x1408_S512x1408_512_0)) (View.ld w (Rect.unit ![0, 0] ![1408, 512] inb_S1408x2048_S1408x512_0_0)) (View.ld o (Rect.unit ![512, 0] ![512, 512] inb_S1024x2048_S512x512_512_0))⟩] ++ (f1 a w h gt g b o :: f0 a w h gt g b o :: upper a w o)
abbrev f2 : View.Piece (Elt Ideal) S1024x2048 .f32 :=
  ⟨Rect.unit ![512, 0] ![256, 2048] inb_S1024x2048_S256x2048_512_0, k0_pay23 (k0_pay21 (View.ld h (Rect.unit ![512, 0] ![256, 2048] inb_S1024x2048_S256x2048_512_0)) gt (fun j => View.canon (lower a w h gt g b o) ((Rect.unit (s := S1024x2048) ![512, 0] ![256, 2048] inb_S1024x2048_S256x2048_512_0).toLoadRect.idx j))) (k0_pay22 g) b⟩
abbrev f3 : View.Piece (Elt Ideal) S1024x2048 .f32 :=
  ⟨Rect.unit ![768, 0] ![256, 2048] inb_S1024x2048_S256x2048_768_0, k0_pay6 (k0_pay24 (View.ld h (Rect.unit ![768, 0] ![256, 2048] inb_S1024x2048_S256x2048_768_0)) gt (fun j => View.canon (f2 a w h gt g b o :: lower a w h gt g b o) ((Rect.unit (s := S1024x2048) ![768, 0] ![256, 2048] inb_S1024x2048_S256x2048_768_0).toLoadRect.idx j)) g) b⟩

/-- The block after the last column tile. -/
def last : Vec Ideal S1024x2048 .f32 := View.canon (f3 a w h gt g b o :: f2 a w h gt g b o :: lower a w h gt g b o)

theorem first_at (r : Fin 1024) (k : Fin 2048) : first a w (ix2 r k) = prod a w r k := by
  unfold first
  by_cases h0 : 1536 ≤ k.val
  · exact hit _ _ _ r k r ⟨k.val - 1536, by omega⟩ (by first | omega | (dsimp only; omega)) (by first | omega | (dsimp only; omega))
      (sum_of (p4 _ _ r ⟨k.val - 1536, by omega⟩) (fun x => rfl) (fun x => ld2 _ _ _ _ _ _ (by first | omega | (dsimp only; omega)) (by first | omega | (dsimp only; omega))))
  refine miss _ _ _ r k (by first | omega | (dsimp only; omega)) ?_
  by_cases h1 : 1024 ≤ k.val
  · exact hit _ _ _ r k r ⟨k.val - 1024, by omega⟩ (by first | omega | (dsimp only; omega)) (by first | omega | (dsimp only; omega))
      (sum_of (p3 _ _ r ⟨k.val - 1024, by omega⟩) (fun x => rfl) (fun x => ld2 _ _ _ _ _ _ (by first | omega | (dsimp only; omega)) (by first | omega | (dsimp only; omega))))
  refine miss _ _ _ r k (by first | omega | (dsimp only; omega)) ?_
  by_cases h2 : 512 ≤ k.val
  · exact hit _ _ _ r k r ⟨k.val - 512, by omega⟩ (by first | omega | (dsimp only; omega)) (by first | omega | (dsimp only; omega))
      (sum_of (p2 _ _ r ⟨k.val - 512, by omega⟩) (fun x => rfl) (fun x => ld2 _ _ _ _ _ _ (by first | omega | (dsimp only; omega)) (by first | omega | (dsimp only; omega))))
  refine miss _ _ _ r k (by first | omega | (dsimp only; omega)) ?_
  exact hit _ _ _ r k r ⟨k.val - 0, by omega⟩ (by first | omega | (dsimp only; omega)) (by first | omega | (dsimp only; omega))
      (sum_of (p1 _ _ r ⟨k.val - 0, by omega⟩) (fun x => rfl) (fun x => ld2 _ _ _ _ _ _ (by first | omega | (dsimp only; omega)) (by first | omega | (dsimp only; omega))))

theorem middle_at (r : Fin 1024) (k : Fin 2048) : middle a w o (ix2 r k) = o (ix2 r k) + prod a w r k := by
  unfold middle
  by_cases h0 : 1536 ≤ k.val
  · exact hit _ _ _ r k r ⟨k.val - 1536, by omega⟩ (by first | omega | (dsimp only; omega)) (by first | omega | (dsimp only; omega))
      (acc_of (p5 _ _ _ r ⟨k.val - 1536, by omega⟩) (fun x => rfl) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h1 : 1024 ≤ k.val
  · exact hit _ _ _ r k r ⟨k.val - 1024, by omega⟩ (by first | omega | (dsimp only; omega)) (by first | omega | (dsimp only; omega))
      (acc_of (p9 _ _ _ r ⟨k.val - 1024, by omega⟩) (fun x => rfl) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h2 : 512 ≤ k.val
  · exact hit _ _ _ r k r ⟨k.val - 512, by omega⟩ (by first | omega | (dsimp only; omega)) (by first | omega | (dsimp only; omega))
      (acc_of (p8 _ _ _ r ⟨k.val - 512, by omega⟩) (fun x => rfl) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  exact hit _ _ _ r k r ⟨k.val - 0, by omega⟩ (by first | omega | (dsimp only; omega)) (by first | omega | (dsimp only; omega))
      (acc_of (p7 _ _ _ r ⟨k.val - 0, by omega⟩) (fun x => rfl) (fun x => ld2 _ _ _ _ _ _ (by first | omega | (dsimp only; omega)) (by first | omega | (dsimp only; omega))) (ld2 _ _ _ _ _ _ (by first | omega | (dsimp only; omega)) (by first | omega | (dsimp only; omega))))

theorem upper_at (r : Fin 1024) (k : Fin 2048) (hr : r.val < 512) : View.canon (upper a w o) (ix2 r k) = o (ix2 r k) + prod a w r k := by
  by_cases h0 : 1536 ≤ k.val
  · exact hit _ _ _ r k ⟨r.val - 0, by omega⟩ ⟨k.val - 1536, by omega⟩ (by first | omega | (dsimp only; omega)) (by first | omega | (dsimp only; omega))
      (acc_of (p13 _ _ _ ⟨r.val - 0, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 0, by omega⟩ ⟨k.val - 1024, by omega⟩ (by first | omega | (dsimp only; omega)) (by first | omega | (dsimp only; omega))
      (acc_of (p12 _ _ _ ⟨r.val - 0, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 0, by omega⟩ ⟨k.val - 512, by omega⟩ (by first | omega | (dsimp only; omega)) (by first | omega | (dsimp only; omega))
      (acc_of (p11 _ _ _ ⟨r.val - 0, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  exact hit _ _ _ r k ⟨r.val - 0, by omega⟩ ⟨k.val - 0, by omega⟩ (by first | omega | (dsimp only; omega)) (by first | omega | (dsimp only; omega))
      (acc_of (p10 _ _ _ ⟨r.val - 0, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))

theorem lower_at (r : Fin 1024) (k : Fin 2048) (hr : 512 ≤ r.val) : View.canon (lower a w h gt g b o) (ix2 r k) = o (ix2 r k) + prod a w r k := by
  by_cases h0 : 1536 ≤ k.val
  · exact hit _ _ _ r k ⟨r.val - 512, by omega⟩ ⟨k.val - 1536, by omega⟩ (by first | omega | (dsimp only; omega)) (by first | omega | (dsimp only; omega))
      (acc_of (p20 _ _ _ ⟨r.val - 512, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 512, by omega⟩ ⟨k.val - 1024, by omega⟩ (by first | omega | (dsimp only; omega)) (by first | omega | (dsimp only; omega))
      (acc_of (p19 _ _ _ ⟨r.val - 512, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 512, by omega⟩ ⟨k.val - 512, by omega⟩ (by first | omega | (dsimp only; omega)) (by first | omega | (dsimp only; omega))
      (acc_of (p18 _ _ _ ⟨r.val - 512, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))
  refine miss _ _ _ r k (by first | omega | (dsimp only; omega)) ?_
  exact hit _ _ _ r k ⟨r.val - 512, by omega⟩ ⟨k.val - 0, by omega⟩ (by first | omega | (dsimp only; omega)) (by first | omega | (dsimp only; omega))
      (acc_of (p17 _ _ _ ⟨r.val - 512, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))) (ld2 _ _ _ _ _ _ (by first | omega | (dsimp only; omega)) (by first | omega | (dsimp only; omega))))

/-- The last block: the post-norm of the finished sums, row by row. -/
theorem last_at (r : Fin 1024) (k : Fin 2048) : last a w h gt g b o (ix2 r k)
    = post (fun x => h (ix2 r x)) (fun x => gt (ix3 0 0 x)) (fun x => o (ix2 r x) + prod a w r x) (fun x => g (ix2 0 x)) (fun x => b (ix2 0 x)) k := by
  unfold last
  by_cases h3 : 768 ≤ r.val
  · exact hit _ _ _ r k ⟨r.val - 768, by omega⟩ k (by first | omega | (dsimp only; omega)) (by first | omega | (dsimp only; omega))
      (post_of (n6 _ _ _ _ _ ⟨r.val - 768, by omega⟩ k) (fun x => ld2 _ _ _ _ r x (by first | omega | (dsimp only; omega)) (by first | omega | (dsimp only; omega)))
        (fun x => (rd2 _ _ _ _ r (by first | omega | (dsimp only; omega))).trans (miss _ _ _ r x (by first | omega | (dsimp only; omega)) (lower_at a w h gt g b o r x (by first | omega | (dsimp only; omega))))))
  refine miss _ _ _ r k (by first | omega | (dsimp only; omega)) ?_
  by_cases h2 : 512 ≤ r.val
  · exact hit _ _ _ r k ⟨r.val - 512, by omega⟩ k (by first | omega | (dsimp only; omega)) (by first | omega | (dsimp only; omega))
      (post_of (n23 _ _ _ _ _ ⟨r.val - 512, by omega⟩ k) (fun x => ld2 _ _ _ _ r x (by first | omega | (dsimp only; omega)) (by first | omega | (dsimp only; omega)))
        (fun x => (rd2 _ _ _ _ r (by first | omega | (dsimp only; omega))).trans (lower_at a w h gt g b o r x (by first | omega | (dsimp only; omega)))))
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  by_cases h1 : 256 ≤ r.val
  · exact hit _ _ _ r k ⟨r.val - 256, by omega⟩ k (by first | omega | (dsimp only; omega)) (by first | omega | (dsimp only; omega))
      (post_of (n16 _ _ _ _ _ ⟨r.val - 256, by omega⟩ k) (fun x => ld2 _ _ _ _ r x (by first | omega | (dsimp only; omega)) (by first | omega | (dsimp only; omega)))
        (fun x => (rd2 _ _ _ _ r (by first | omega | (dsimp only; omega))).trans (miss _ _ _ r x (by first | omega | (dsimp only; omega)) (upper_at a w o r x (by first | omega | (dsimp only; omega))))))
  refine miss _ _ _ r k (by first | omega | (dsimp only; omega)) ?_
  exact hit _ _ _ r k ⟨r.val - 0, by omega⟩ k (by first | omega | (dsimp only; omega)) (by first | omega | (dsimp only; omega))
      (post_of (n15 _ _ _ _ _ ⟨r.val - 0, by omega⟩ k) (fun x => ld2 _ _ _ _ r x (by first | omega | (dsimp only; omega)) (by first | omega | (dsimp only; omega)))
        (fun x => (rd2 _ _ _ _ r (by first | omega | (dsimp only; omega))).trans (upper_at a w o r x (by first | omega | (dsimp only; omega)))))

end Cert.Proof.Down

end
-- ==== Proof.DownRef.lean ====
/- The reference of the feed-forward's second half, element by element. -/
module

public import proofs.«01_k».proof.Proof.Gen.ReferenceDownIdeal.Read
public import proofs.«01_k».proof.Proof.DownRow
public import Idealize.ShloMosaic.Lib.Pointwise

@[expose] public section

set_option maxRecDepth 16384

noncomputable section

namespace Cert.Proof.Down

open Cert.ReferenceDownIdeal Cert.ReferenceDownIdeal.Read
open Idealize.ShloMosaic Idealize.ShloMosaic.TcCoe

variable (x0 : (⟨S16384x5632, .bf16⟩ : BufTy).Contents (Elt Ideal)) (x1 : (⟨S8x2048x2048, .f32⟩ : BufTy).Contents (Elt Ideal))
  (x2 : (⟨S16x12288, .f32⟩ : BufTy).Contents (Elt Ideal)) (x3 : (⟨S5504x2048, .f32⟩ : BufTy).Contents (Elt Ideal))
  (x4 x5 : (⟨S2048, .f32⟩ : BufTy).Contents (Elt Ideal))

/-- The latent row `q` of batch `b`, and the batch's gate. -/
def hrow (b : Fin 8) (q : Fin 2048) (k : Fin 2048) : EReal := x1 (ix3 b q k)
def gate (b : Fin 8) (k : Fin 2048) : EReal := x2 (ix2 ⟨b.val, by omega⟩ ⟨10240 + k.val, by omega⟩)
/-- Row `r` of the gated product against column `k` of the weights, term by term. -/
def term (r : Fin 16384) (k : Fin 2048) (x : Fin 5504) : EReal := x0 (ix2 r ⟨x.val, by omega⟩) * x3 (ix2 x k)
/-- The norm's weight and bias. -/
def vec (k : Fin 2048) : EReal := x4 (ix1 k)

/-- The flattened row of batch `b` and position `q`. -/
def flat (b : Fin 8) (q : Fin 2048) : Fin 16384 := ⟨b.val * 2048 + q.val, by omega⟩

theorem d11 (b : Fin 8) (q k : Fin 2048) : val_main_v11 (F := Ideal) x0 x3 (ix3 b q k) = ∑ x, term x0 x3 (flat b q) k x := by
  pointwise [val_main_v8, val_main_v9, val_main_v10, val_main_v11]
  rfl

theorem d16 (b : Fin 8) (q k : Fin 2048) : val_main_v16 (F := Ideal) x0 x1 x2 x3 (ix3 b q k)
    = Ideal.ofBits .f32 0x3FB504F3#32 * hrow x1 b q k + gate x2 b k * ∑ x, term x0 x3 (flat b q) k x := by
  pointwise [val_main_v0, val_main_v1, val_main_v7, val_main_v12, val_main_v13, val_main_cst, val_main_v14, val_main_v15, val_main_v16]
  rw [d11]
  rfl

theorem d41 (b : Fin 8) (q k : Fin 2048) (r : Fin 16384) (hr : r.val = b.val * 2048 + q.val) :
    val_main_v41 (F := Ideal) x0 x1 x2 x3 x4 x5 (ix2 r k)
      = post (hrow x1 b q) (gate x2 b) (fun k => ∑ x, term x0 x3 r k x) (vec x4) (vec x5) k := by
  obtain rfl : r = flat b q := Fin.ext hr
  unfold flat
  pointwise [val_main_cst_0, val_main_v17, val_main_v18, val_main_cst_1, val_main_v19, val_main_v20, val_main_v21, val_main_v22, val_main_v23, val_main_cst_2, val_main_v24, val_main_v25, val_main_cst_3, val_main_v26, val_main_v27, val_main_v28, val_main_v29, val_main_cst_4, val_main_v30, val_main_v31, val_main_v32, val_main_v33, val_main_v34, val_main_v35, val_main_v36, val_main_v37, val_main_v38, val_main_v39, val_main_v40, val_main_v41]
  simp only [d16]
  rfl

end Cert.Proof.Down

end
-- ==== Proof.DownWin.lean ====
/- The arrays the feed-forward's second launch stages, and its windows' blocks, as entries of the arguments. -/
module

public import proofs.«01_k».proof.Proof.DownBody
public import proofs.«01_k».proof.Proof.DownRef

@[expose] public section

set_option maxRecDepth 16384

noncomputable section

namespace Cert.Proof.Down

open Cert.KernelDownIdeal Cert.KernelDownIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 64 := lt_of_lt_of_eq t.isLt N_0

theorem idx : ∀ t : Fin cfg0.N, win0_0.index t = ![t.val / 4, t.val % 4] ∧ win0_1.index t = ![t.val % 4, 0]
    ∧ win0_2.index t = ![t.val / 4, 0] ∧ win0_3.index t = ![t.val / 8, 0, 5]
    ∧ win0_4.index t = ![0, 0] ∧ win0_5.index t = ![0, 0] ∧ win0_6.index t = ![t.val / 4, 0] :=
  (by decide +kernel : ∀ t : Fin grid0.N, _)

theorem V1 : V m c main_v1 = pad S5632x2048 ![0, 0] ![128, 0] ![0, 0] (truncf .bf16 (m ((c.tc : Thread nD τ).loc main_arg3)) bitsLt_bf16_f32) (sitofp (F := Ideal) .bf16 (constantI S_ 32 0#32)) pads_S5504x2048_S5632x2048_01280_000 h_S_ := by
  unfold V; simp only [hostOps0, hostOps0_1, hostOps0_2, List.flatten_cons, List.flatten_nil, List.append_nil, List.cons_append, List.nil_append]; after_results; try rfl
theorem V2 : V m c main_v2 = shapeCast S16384x2048 (m ((c.tc : Thread nD τ).loc main_arg1)) shapeCasts_S8x2048x2048_S16384x2048 := by
  unfold V; simp only [hostOps0, hostOps0_1, hostOps0_2, List.flatten_cons, List.flatten_nil, List.append_nil, List.cons_append, List.nil_append]; after_results; try rfl
theorem V3 : V m c main_v3 = shapeCast S16x1x12288 (m ((c.tc : Thread nD τ).loc main_arg2)) shapeCasts_S16x12288_S16x1x12288 := by
  unfold V; simp only [hostOps0, hostOps0_1, hostOps0_2, List.flatten_cons, List.flatten_nil, List.append_nil, List.cons_append, List.nil_append]; after_results; try rfl
theorem V4 : V m c main_v4 = shapeCast S1x2048 (m ((c.tc : Thread nD τ).loc main_arg4)) shapeCasts_S2048_S1x2048 := by
  unfold V; simp only [hostOps0, hostOps0_1, hostOps0_2, List.flatten_cons, List.flatten_nil, List.append_nil, List.cons_append, List.nil_append]; after_results; try rfl
theorem V5 : V m c main_v5 = shapeCast S1x2048 (m ((c.tc : Thread nD τ).loc main_arg5)) shapeCasts_S2048_S1x2048 := by
  unfold V; simp only [hostOps0, hostOps0_1, hostOps0_2, List.flatten_cons, List.flatten_nil, List.append_nil, List.cons_append, List.nil_append]; after_results; try rfl
theorem V0 : V m c main_arg0 = m ((c.tc : Thread nD τ).loc main_arg0) := by
  unfold V; simp only [hostOps0, hostOps0_1, hostOps0_2, List.flatten_cons, List.flatten_nil, List.append_nil, List.cons_append, List.nil_append]; after_results; try rfl

/-! The arrays at an index. -/

variable (X1 : Vec Ideal S8x2048x2048 .f32) (X2 : Vec Ideal S16x12288 .f32) (X3 : Vec Ideal S5504x2048 .f32) (X4 : Vec Ideal S2048 .f32)

theorem padb : FloatOps.sitofp (F := Ideal) .bf16 0#32 = (0 : EReal) := by
  show (((0#32 : BitVec 32).toInt : ℝ) : EReal) = 0
  simp

theorem a1 (x : Fin 5632) (k : Fin 2048) :
    pad S5632x2048 ![0, 0] ![128, 0] ![0, 0] (truncf .bf16 X3 bitsLt_bf16_f32) (sitofp (F := Ideal) .bf16 (constantI S_ 32 0#32)) pads_S5504x2048_S5632x2048_01280_000 h_S_ (ix2 x k)
      = if h : x.val < 5504 then X3 (ix2 ⟨x.val, h⟩ k) else 0 := by
  pointwise []
  split
  · rfl
  · exact padb

theorem a2 (b : Fin 8) (q k : Fin 2048) (r : Fin 16384) (hr : r.val = b.val * 2048 + q.val) :
    shapeCast S16384x2048 X1 shapeCasts_S8x2048x2048_S16384x2048 (ix2 r k) = X1 (ix3 b q k) := by
  refine shapeCast_apply X1 shapeCasts_S8x2048x2048_S16384x2048 (ix2 r k) (ix3 b q k) ?_
  rewrite [Shape.rowMajor_val_three, Shape.rowMajor_val_two]
  show (b.val * 2048 + q.val) * 2048 + k.val = r.val * 2048 + k.val
  rw [hr]

theorem a3 (b : Fin 16) (k : Fin 12288) :
    shapeCast S16x1x12288 X2 shapeCasts_S16x12288_S16x1x12288 (ix3 b 0 k) = X2 (ix2 b k) := by
  refine shapeCast_apply X2 shapeCasts_S16x12288_S16x1x12288 (ix3 b 0 k) (ix2 b k) ?_
  rewrite [Shape.rowMajor_val_three, Shape.rowMajor_val_two]
  show b.val * 12288 + k.val = (b.val * 1 + 0) * 12288 + k.val
  omega

theorem a4 (k : Fin 2048) : shapeCast S1x2048 X4 shapeCasts_S2048_S1x2048 (ix2 0 k) = vec X4 k := by
  pointwise []
  rfl

/-! ## The windows' blocks -/

/-- A point's batch, its row `r`'s number in the batch and among all rows, and its column `x`'s number among the products. -/
def bOf (t : Fin cfg0.N) : Fin 8 := ⟨t.val / 8, by have := lt_N t; omega⟩
def qOf (t : Fin cfg0.N) (r : Fin 1024) : Fin 2048 := ⟨t.val / 4 % 2 * 1024 + r.val, by omega⟩
def rOf (t : Fin cfg0.N) (r : Fin 1024) : Fin 16384 := ⟨t.val / 4 * 1024 + r.val, by have := lt_N t; omega⟩
def xOf (t : Fin cfg0.N) (x : Fin 1408) : Fin 5632 := ⟨t.val % 4 * 1408 + x.val, by omega⟩

theorem blk0 (t : Fin cfg0.N) (r : Fin 1024) (x : Fin 1408) : iblk m c 0 t (ix2 r x) = m ((c.tc : Thread nD τ).loc main_arg0) (ix2 (rOf t r) (xOf t x)) := by
  have := lt_N t
  blk_simp [iblk]
  refine (congrFun (V0 m c) _).trans (congrArg _ ?_)
  blk_ext [idx t, rOf, xOf]
theorem blk1 (t : Fin cfg0.N) (x : Fin 1408) (k : Fin 2048) : iblk m c 1 t (ix2 x k)
    = if h : (xOf t x).val < 5504 then m ((c.tc : Thread nD τ).loc main_arg3) (ix2 ⟨(xOf t x).val, h⟩ k) else (0 : EReal) := by
  have := lt_N t
  blk_simp [iblk]
  refine (congrFun (V1 m c) _).trans (Eq.trans (congrArg _ ?_) (a1 _ (xOf t x) k))
  blk_ext [idx t, xOf]
theorem blk2 (t : Fin cfg0.N) (r : Fin 1024) (k : Fin 2048) : iblk m c 2 t (ix2 r k) = hrow (m ((c.tc : Thread nD τ).loc main_arg1)) (bOf t) (qOf t r) k := by
  have := lt_N t
  blk_simp [iblk]
  refine (congrFun (V2 m c) _).trans (Eq.trans (congrArg _ ?_) (a2 _ (bOf t) (qOf t r) k (rOf t r) (by simp only [rOf, bOf, qOf]; omega)))
  blk_ext [idx t, rOf]
theorem blk3 (t : Fin cfg0.N) (k : Fin 2048) : iblk m c 3 t (ix3 0 0 k) = gate (m ((c.tc : Thread nD τ).loc main_arg2)) (bOf t) k := by
  have := lt_N t
  blk_simp [iblk]
  refine (congrFun (V3 m c) _).trans (Eq.trans (congrArg _ ?_) (a3 _ ⟨(bOf t).val, by omega⟩ ⟨10240 + k.val, by omega⟩))
  blk_ext [idx t, bOf]
theorem blk4 (t : Fin cfg0.N) (k : Fin 2048) : iblk m c 4 t (ix2 0 k) = vec (m ((c.tc : Thread nD τ).loc main_arg4)) k := by
  blk_simp [iblk]
  refine (congrFun (V4 m c) _).trans (Eq.trans (congrArg _ ?_) (a4 _ k))
  blk_ext [idx t]
theorem blk5 (t : Fin cfg0.N) (k : Fin 2048) : iblk m c 5 t (ix2 0 k) = vec (m ((c.tc : Thread nD τ).loc main_arg5)) k := by
  blk_simp [iblk]
  refine (congrFun (V5 m c) _).trans (Eq.trans (congrArg _ ?_) (a4 _ k))
  blk_ext [idx t]

theorem emb6 (t : Fin cfg0.N) (r : Fin 1024) (k : Fin 2048) : ((cfg0.win 6).blk t).view.emb (ix2 r k) = ix2 (rOf t r) k := by
  have := lt_N t
  blk_ext [idx t, rOf]

/-! ## A point's sums -/

/-- The row's product with the weights' column, term by term, from the launch's arguments. -/
abbrev terms (r : Fin 16384) (k : Fin 2048) : Fin 5504 → EReal :=
  term (m ((c.tc : Thread nD τ).loc main_arg0)) (m ((c.tc : Thread nD τ).loc main_arg3)) r k

/-- A point sums its 1408 terms. -/
theorem prod_eq (t : Fin cfg0.N) (r : Fin 1024) (k : Fin 2048) : prod (iblk m c 0 t) (iblk m c 1 t) r k
    = ∑ x : Fin 1408, ext (terms m c (rOf t r) k) (t.val % 4 * 1408 + x.val) := by
  refine Finset.sum_congr rfl fun x _ => ?_
  rw [blk0, blk1, ext]
  by_cases h : t.val % 4 * 1408 + x.val < 5504
  · rw [dif_pos h, dif_pos (show (xOf t x).val < 5504 from h)]
    rfl
  · rw [dif_neg h, dif_neg (show ¬ (xOf t x).val < 5504 from h)]
    exact mul_zero _

end Cert.Proof.Down

end
-- ==== Proof.DownValue.lean ====
/- The feed-forward's second launch leaves what its reference computes. -/
module

public import proofs.«01_k».proof.Proof.DownWin

@[expose] public section

set_option maxRecDepth 16384

noncomputable section

namespace Cert.Proof.Down

open Cert.KernelDownIdeal Cert.KernelDownIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves -/

theorem after_A (t : Fin cfg0.N) (h : t.val % 4 = 0) : outsAt0 m c t.val t.isLt = first (iblk m c 0 t) (iblk m c 1 t) := by
  rw [outsAt0_A m c t (by omega) (by omega) (by omega)]
  frame_out

theorem after_B (t : Fin cfg0.N) (h0 : ¬ t.val % 4 = 0) (h3 : ¬ t.val % 4 = 3) : outsAt0 m c t.val t.isLt
    = middle (iblk m c 0 t) (iblk m c 1 t) (outsAt0 m c (t.val - 1) (by omega)) := by
  rw [outsAt0_B m c t (by omega) (by omega) (by omega)]
  frame_out

theorem after_C (t : Fin cfg0.N) (h : t.val % 4 = 3) : outsAt0 m c t.val t.isLt
    = last (iblk m c 0 t) (iblk m c 1 t) (iblk m c 2 t) (iblk m c 3 t) (iblk m c 4 t) (iblk m c 5 t) (outsAt0 m c (t.val - 1) (by omega)) := by
  rw [outsAt0_C m c t (by omega) (by omega) (by omega)]
  frame_out
  simp only [View.readCov_eq_canon']
  rfl

theorem val_of {s a : Vec Ideal S1024x2048 .f32} {y : S1024x2048.Idx} {w : EReal} (e : s = a) (h : a y = w) : s y = w := by
  subst e
  exact h

/-! ## The sums kept between points -/

/-- What a point before the last of its row tile leaves: the sum of the terms so far. -/
def Sums (t : Fin cfg0.N) (s : Vec Ideal S1024x2048 .f32) : Prop :=
  ∀ r k, s (ix2 r k) = parts (ext (terms m c (rOf t r) k)) (t.val % 4 + 1)

/-- One more point's terms. -/
theorem parts_step (t s : Fin cfg0.N) (h : ¬ t.val % 4 = 0) (hs : s.val = t.val - 1) (o : Vec Ideal S1024x2048 .f32) (H : Sums m c s o)
    (r : Fin 1024) (k : Fin 2048) : o (ix2 r k) + prod (iblk m c 0 t) (iblk m c 1 t) r k = parts (ext (terms m c (rOf t r) k)) (t.val % 4 + 1) := by
  have hr : rOf s r = rOf t r := Fin.ext (by show s.val / 4 * 1024 + r.val = t.val / 4 * 1024 + r.val; omega)
  have hn : s.val % 4 + 1 = t.val % 4 := by omega
  rw [H r k, prod_eq, hr, hn, parts]

theorem sums_A (t : Fin cfg0.N) (h : t.val % 4 = 0) : Sums m c t (first (iblk m c 0 t) (iblk m c 1 t)) := by
  intro r k
  rw [first_at, prod_eq, h, parts, parts, zero_add]

theorem sums_of {t : Fin cfg0.N} {s a : Vec Ideal S1024x2048 .f32} (e : s = a) (h : Sums m c t a) : Sums m c t s := by
  subst e
  exact h

theorem sums : ∀ (n : ℕ) (hn : n < cfg0.N), ¬ n % 4 = 3 → Sums m c ⟨n, hn⟩ (outsAt0 m c n hn) := by
  intro n
  induction n with
  | zero =>
    intro hn _
    exact sums_of m c (after_A m c ⟨0, hn⟩ rfl) (sums_A m c ⟨0, hn⟩ rfl)
  | succ n ih =>
    intro hn h3
    by_cases h : (n + 1) % 4 = 0
    · exact sums_of m c (after_A m c ⟨n + 1, hn⟩ h) (sums_A m c ⟨n + 1, hn⟩ h)
    · exact sums_of m c (after_B m c ⟨n + 1, hn⟩ h h3) fun r k =>
        (middle_at _ _ _ r k).trans (parts_step m c ⟨n + 1, hn⟩ ⟨n, by omega⟩ h rfl _ (ih (by omega) (by omega)) r k)

/-! ## The result -/

/-- The reference's result, from the launch's arguments. -/
abbrev want : Vec Ideal S16384x2048 .f32 := Cert.ReferenceDownIdeal.Read.val_main_v41 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5))

theorem last_eq (t s : Fin cfg0.N) (h : t.val % 4 = 3) (hs : s.val = t.val - 1) (o : Vec Ideal S1024x2048 .f32) (H : Sums m c s o)
    (r : Fin 1024) (k : Fin 2048) :
    last (iblk m c 0 t) (iblk m c 1 t) (iblk m c 2 t) (iblk m c 3 t) (iblk m c 4 t) (iblk m c 5 t) o (ix2 r k) = want m c (ix2 (rOf t r) k) := by
  have e : ∀ x, o (ix2 r x) + prod (iblk m c 0 t) (iblk m c 1 t) r x = ∑ y, terms m c (rOf t r) x y := fun x => by
    rw [parts_step m c t s (by omega) hs o H r x, h]
    exact parts_four _
  rw [last_at, funext (blk2 m c t r), funext (blk3 m c t), funext (blk4 m c t), funext (blk5 m c t), funext e]
  exact (d41 _ _ _ _ _ _ (bOf t) (qOf t r) k (rOf t r) (by simp only [rOf, bOf, qOf]; omega)).symm

theorem at_t (t : Fin cfg0.N) (h : t.val % 4 = 3) (r : Fin 1024) (k : Fin 2048) :
    outsAt0 m c t.val t.isLt (ix2 r k) = want m c (ix2 (rOf t r) k) :=
  val_of (after_C m c t h) (last_eq m c t ⟨t.val - 1, by omega⟩ h rfl _ (sums m c (t.val - 1) (by omega) (by omega)) r k)

theorem row6 (y : S1024x2048.Idx) : ∃ (r : Fin 1024) (d : Fin 2048), y = ix2 r d :=
  ⟨y 0, y 1, by
    funext a
    match a with
    | ⟨0, _⟩ => rfl
    | ⟨1, _⟩ => rfl⟩

theorem final6 : (dats m 0 c).arrAt 6 (cfgs 0).N = want m c := by
  refine (dats m 0 c).arrAt_eq_of_covers 6 _ (by decide +kernel) fun t hf y => ?_
  have h := (flush0_6 t).mp hf
  blk_simp
  rw [after0_6]
  obtain ⟨r, d, rfl⟩ := row6 y
  rw [emb6]
  exact at_t m c t h r d

end Cert.Proof.Down

end
-- ==== Proof.DownClaim.lean ====
/- The claims of the feed-forward's second launch. -/
module

public import proofs.«01_k».proof.Defs
public import proofs.«01_k».proof.Proof.DownValue
public import proofs.«01_k».proof.Proof.Gen.KernelDown
public import proofs.«01_k».proof.Proof.Gen.KernelDown.Launch
public import proofs.«01_k».proof.Proof.Gen.ReferenceDownIdeal.Run
public import Idealize.ShloMosaic.Lib.Claim

@[expose] public section

set_option maxRecDepth 16384

noncomputable section

namespace Cert.Proof.Down

open Idealize.ShloMosaic Idealize.ShloMosaic.TcCoe Idealize.SL.Sem

theorem defs₀_eq : @KernelDown.defs₀ Bits _ _ = @KernelDownIdeal.defs₀ Bits _ _ := by
  unfold KernelDown.defs₀ KernelDownIdeal.defs₀
  refine congrArg Defs.onTc ?_
  funext x y
  match x, y with
  | 0, (t, s) => rfl
theorem defs_eq : @KernelDown.defs Bits _ _ = @KernelDownIdeal.defs Bits _ _ :=
  congrArg (Pipeline.defs (KernelDown.pcfgs (F := Bits))) defs₀_eq

/-- The kernel's frame: its text is the ideal kernel's. -/
theorem frame_kernel : Cert.quiescent_KernelDown (hKernelDown := Cert.KernelDown.Gen.facts) := by
  intro m ρ _
  rw [defs_eq]
  exact Cert.KernelDownIdeal.Gen.frame (F := Bits) m ρ

theorem frame_ideal : Cert.quiescent_KernelDownIdeal (hKernelDownIdeal := Cert.KernelDownIdeal.Gen.facts) :=
  fun m ρ _ => Cert.KernelDownIdeal.Gen.frame (F := Ideal) m ρ

theorem frame_ref : Cert.quiescent_ReferenceDownIdeal (hReferenceDownIdeal := Cert.ReferenceDownIdeal.Gen.facts) := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem preserves : Cert.preserves_KernelDown_KernelDownIdeal := trivial

open Cert.KernelDownIdeal Cert.KernelDownIdeal.Gen in
theorem algebraic : Cert.algebraic_KernelDownIdeal_ReferenceDownIdeal (hKernelDownIdeal := Cert.KernelDownIdeal.Gen.facts)
    (hReferenceDownIdeal := Cert.ReferenceDownIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v6) = want m c) :=
    (θ_run defs _ _).mono (fun r h c => ((h c).1 6).trans (final6 m c)) (run_main m g)
  refine ⟨want m, (θ_run defs _ _).mono (fun r h c => ⟨h.1 c, h.2.1 c⟩) (θ_run_and run (frame m g)), ?_⟩
  refine (θ_run Cert.ReferenceDownIdeal.defs _ _).mono (fun r h c => ?_) (Cert.ReferenceDownIdeal.Value.run m' g')
  obtain ⟨a, rest⟩ := h c
  obtain ⟨g0, g1, g2, g3, g4, g5⟩ := hag c
  refine ⟨a.trans ?_, rest⟩
  rw [Cert.ReferenceDownIdeal.Read.val_main_v41_eq, g0, g1, g2, g3, g4, g5]

end Cert.Proof.Down

end
-- ==== Proof.MixRow.lean ====
/- The odd layer's projections as functions of a row: the modulated rows from the arguments, and what is made of a row's
   product with a weight column. -/
module

public import proofs.«01_k».proof.Proof.UpRow
public import Idealize.ShloMosaic.Lib.Pointwise

@[expose] public section

noncomputable section

namespace Cert.Proof.Mix

open Idealize.ShloMosaic

variable (x0 : (⟨3, ![8, 2048, 2048]⟩ : Shape).Idx → EReal) (x1 : (⟨2, ![16, 12288]⟩ : Shape).Idx → EReal)
  (x2 : (⟨2, ![2048, 10240]⟩ : Shape).Idx → EReal)

/-- The latent row `q` of batch `b`, and the batch's shift and scale before the mixer. -/
def hrow (b : Fin 8) (q : Fin 2048) (k : Fin 2048) : EReal := x0 (ix3 b q k)
def shrow (b : Fin 8) (k : Fin 2048) : EReal := x1 (ix2 ⟨b.val, by omega⟩ ⟨k.val, by omega⟩)
def scrow (b : Fin 8) (k : Fin 2048) : EReal := x1 (ix2 ⟨b.val, by omega⟩ ⟨2048 + k.val, by omega⟩)
/-- The batch's gate after the mixer. -/
def gtrow (b : Fin 8) (k : Fin 2048) : EReal := x1 (ix2 ⟨b.val, by omega⟩ ⟨4096 + k.val, by omega⟩)
/-- The batch's modulated rows. -/
def urow (b : Fin 8) (q : Fin 2048) (k : Fin 2048) : EReal := Up.modu (hrow x0 b q) (scrow x1 b) (shrow x1 b) k
/-- A column of the weights. -/
def wcol (k : Fin 10240) (x : Fin 2048) : EReal := x2 (ix2 x k)

/-- The logistic function times its argument. -/
def silu (z : EReal) : EReal := z * Ideal.logistic z

/-- The column of the weights behind column `k` of the activations: the queries', then the values' and the output gate's. -/
def actCol (k : Fin 6144) : Fin 10240 := if h : k.val < 2048 then ⟨k.val, by omega⟩ else ⟨k.val + 4096, by omega⟩

/-- What is made of a product in column `k`: the values stay, the queries and the output gate take the logistic unit. -/
def act (k : Fin 6144) (z : EReal) : EReal := if 2048 ≤ k.val ∧ k.val < 4096 then z else silu z

/-- The batches' rows in one array, and the modulation vectors as rows of their own, at an index. -/
theorem rows_in (hc) (b : Fin 8) (q k : Fin 2048) (r : Fin 16384) (hr : r.val = b.val * 2048 + q.val) :
    shapeCast ⟨2, ![16384, 2048]⟩ x0 hc (ix2 r k) = x0 (ix3 b q k) := by
  refine shapeCast_apply x0 hc (ix2 r k) (ix3 b q k) ?_
  rewrite [Shape.rowMajor_val_three, Shape.rowMajor_val_two]
  show (b.val * 2048 + q.val) * 2048 + k.val = r.val * 2048 + k.val
  rw [hr]
theorem chunks_in (hc) (b : Fin 16) (k : Fin 12288) : shapeCast ⟨3, ![16, 1, 12288]⟩ x1 hc (ix3 b 0 k) = x1 (ix2 b k) := by
  refine shapeCast_apply x1 hc (ix3 b 0 k) (ix2 b k) ?_
  rewrite [Shape.rowMajor_val_three, Shape.rowMajor_val_two]
  show b.val * 12288 + k.val = (b.val * 1 + 0) * 12288 + k.val
  omega

theorem vec_in (x : (⟨1, ![2048]⟩ : Shape).Idx → EReal) (hc) (k : Fin 2048) : shapeCast ⟨2, ![1, 2048]⟩ x hc (ix2 0 k) = x (ix1 k) := by
  pointwise []

/-- An index of an array of two axes. -/
theorem row_ix {n l : ℕ} (y : (⟨2, ![n, l]⟩ : Shape).Idx) : ∃ (r : Fin n) (d : Fin l), y = ix2 r d :=
  ⟨y 0, y 1, by
    funext a
    match a with
    | ⟨0, _⟩ => rfl
    | ⟨1, _⟩ => rfl⟩

end Cert.Proof.Mix

end
-- ==== Proof.ActBody.lean ====
/- The odd layer's activations: a point's rows, and its block of columns. -/
module

public import proofs.«01_k».proof.Proof.Gen.KernelActIdeal.Frame
public import proofs.«01_k».proof.Proof.MixRow
public import proofs.«01_k».proof.Proof.Pieces
public import Idealize.ShloMosaic.Lib.Pipeline.ReadBack

@[expose] public section

set_option maxRecDepth 16384

noncomputable section

namespace Cert.Proof.Act

open Cert.KernelActIdeal Cert.KernelActIdeal.Gen
open Idealize.ShloMosaic Idealize.ShloMosaic.TcCoe Idealize.SL.Sem

theorem rows_at (h : Vec Ideal S1024x2048 .f32) (sc sh : Vec Ideal S1x1x2048 .f32) (r : Fin 1024) (k : Fin 2048) :
    k0_pay1 h sc sh (ix2 r k) = Up.modu (fun x => h (ix2 r x)) (fun x => sc (ix3 0 0 x)) (fun x => sh (ix3 0 0 x)) k := by
  pointwise [k0_pay1]
  rfl

section
variable (u : Vec Ideal S1024x2048 .bf16) (w : Vec Ideal S2048x256 .bf16) (r : Fin 1024) (k : Fin 256)
theorem p2 : k0_pay2 u w (ix2 r k) = Up.dot (fun x => u (ix2 r x)) (fun x => w (ix2 x k)) := by
  pointwise [k0_pay2]
  rfl
theorem p3 : k0_pay3 u w (ix2 r k) = Up.dot (fun x => u (ix2 r x)) (fun x => w (ix2 x k)) := by
  pointwise [k0_pay3]
  rfl
theorem p4 : k0_pay4 u w (ix2 r k) = Up.dot (fun x => u (ix2 r x)) (fun x => w (ix2 x k)) := by
  pointwise [k0_pay4]
  rfl
theorem p5 : k0_pay5 u w (ix2 r k) = Up.dot (fun x => u (ix2 r x)) (fun x => w (ix2 x k)) := by
  pointwise [k0_pay5]
  rfl
theorem p6 : k0_pay6 u w (ix2 r k) = Mix.silu (Up.dot (fun x => u (ix2 r x)) (fun x => w (ix2 x k))) := by
  pointwise [k0_pay6]
  rfl
theorem p7 : k0_pay7 u w (ix2 r k) = Mix.silu (Up.dot (fun x => u (ix2 r x)) (fun x => w (ix2 x k))) := by
  pointwise [k0_pay7]
  rfl
theorem p8 : k0_pay8 u w (ix2 r k) = Mix.silu (Up.dot (fun x => u (ix2 r x)) (fun x => w (ix2 x k))) := by
  pointwise [k0_pay8]
  rfl
theorem p9 : k0_pay9 u w (ix2 r k) = Mix.silu (Up.dot (fun x => u (ix2 r x)) (fun x => w (ix2 x k))) := by
  pointwise [k0_pay9]
  rfl
end

variable (u : Vec Ideal S1024x2048 .bf16) (w : Vec Ideal S2048x1024 .bf16)

/-- A block of values, and one of queries or output gates. -/
def linear : Vec Ideal S1024x1024 .bf16 := View.canon
    [⟨Rect.unit ![0, 768] ![1024, 256] inb_S1024x1024_S1024x256_0_768, k0_pay5 u (View.ld w (Rect.unit ![0, 768] ![2048, 256] inb_S2048x1024_S2048x256_0_768))⟩,
     ⟨Rect.unit ![0, 512] ![1024, 256] inb_S1024x1024_S1024x256_0_512, k0_pay4 u (View.ld w (Rect.unit ![0, 512] ![2048, 256] inb_S2048x1024_S2048x256_0_512))⟩,
     ⟨Rect.unit ![0, 256] ![1024, 256] inb_S1024x1024_S1024x256_0_256, k0_pay3 u (View.ld w (Rect.unit ![0, 256] ![2048, 256] inb_S2048x1024_S2048x256_0_256))⟩,
     ⟨Rect.unit ![0, 0] ![1024, 256] inb_S1024x1024_S1024x256_0_0, k0_pay2 u (View.ld w (Rect.unit ![0, 0] ![2048, 256] inb_S2048x1024_S2048x256_0_0))⟩]
def gates : Vec Ideal S1024x1024 .bf16 := View.canon
    [⟨Rect.unit ![0, 768] ![1024, 256] inb_S1024x1024_S1024x256_0_768, k0_pay9 u (View.ld w (Rect.unit ![0, 768] ![2048, 256] inb_S2048x1024_S2048x256_0_768))⟩,
     ⟨Rect.unit ![0, 512] ![1024, 256] inb_S1024x1024_S1024x256_0_512, k0_pay8 u (View.ld w (Rect.unit ![0, 512] ![2048, 256] inb_S2048x1024_S2048x256_0_512))⟩,
     ⟨Rect.unit ![0, 256] ![1024, 256] inb_S1024x1024_S1024x256_0_256, k0_pay7 u (View.ld w (Rect.unit ![0, 256] ![2048, 256] inb_S2048x1024_S2048x256_0_256))⟩,
     ⟨Rect.unit ![0, 0] ![1024, 256] inb_S1024x1024_S1024x256_0_0, k0_pay6 u (View.ld w (Rect.unit ![0, 0] ![2048, 256] inb_S2048x1024_S2048x256_0_0))⟩]

/-- A column of the weights' block through one of its four loads. -/
theorem col {C : ℕ} (inb) (k : Fin 256) (k' : Fin 1024) (hk : k'.val = C + k.val) :
    (fun x : Fin 2048 => View.ld w (Rect.unit ![0, C] ![2048, 256] inb) (ix2 x k)) = fun x => w (ix2 x k') :=
  funext fun x => ld2 w inb x k x k' (Nat.zero_add _).symm hk

theorem linear_at (r : Fin 1024) (k : Fin 1024) : linear u w (ix2 r k) = Up.dot (fun x => u (ix2 r x)) (fun x => w (ix2 x k)) := by
  unfold linear
  by_cases h0 : 768 ≤ k.val
  · exact hit _ _ _ r k r ⟨k.val - 768, by omega⟩ (by omega) (by first | omega | (dsimp only; omega)) ((p5 _ _ _ _).trans (congrArg _ (col w _ _ k (by first | omega | (dsimp only; omega)))))
  refine miss _ _ _ r k (by omega) ?_
  by_cases h1 : 512 ≤ k.val
  · exact hit _ _ _ r k r ⟨k.val - 512, by omega⟩ (by omega) (by first | omega | (dsimp only; omega)) ((p4 _ _ _ _).trans (congrArg _ (col w _ _ k (by first | omega | (dsimp only; omega)))))
  refine miss _ _ _ r k (by omega) ?_
  by_cases h2 : 256 ≤ k.val
  · exact hit _ _ _ r k r ⟨k.val - 256, by omega⟩ (by omega) (by first | omega | (dsimp only; omega)) ((p3 _ _ _ _).trans (congrArg _ (col w _ _ k (by first | omega | (dsimp only; omega)))))
  refine miss _ _ _ r k (by omega) ?_
  exact hit _ _ _ r k r ⟨k.val, by omega⟩ (by omega) (by first | omega | (dsimp only; omega)) ((p2 _ _ _ _).trans (congrArg _ (col w _ _ k (by first | omega | (dsimp only; omega)))))

theorem gates_at (r : Fin 1024) (k : Fin 1024) : gates u w (ix2 r k) = Mix.silu (Up.dot (fun x => u (ix2 r x)) (fun x => w (ix2 x k))) := by
  unfold gates
  by_cases h0 : 768 ≤ k.val
  · exact hit _ _ _ r k r ⟨k.val - 768, by omega⟩ (by omega) (by first | omega | (dsimp only; omega)) ((p9 _ _ _ _).trans (congrArg (fun v => Mix.silu (Up.dot _ v)) (col w _ _ k (by first | omega | (dsimp only; omega)))))
  refine miss _ _ _ r k (by omega) ?_
  by_cases h1 : 512 ≤ k.val
  · exact hit _ _ _ r k r ⟨k.val - 512, by omega⟩ (by omega) (by first | omega | (dsimp only; omega)) ((p8 _ _ _ _).trans (congrArg (fun v => Mix.silu (Up.dot _ v)) (col w _ _ k (by first | omega | (dsimp only; omega)))))
  refine miss _ _ _ r k (by omega) ?_
  by_cases h2 : 256 ≤ k.val
  · exact hit _ _ _ r k r ⟨k.val - 256, by omega⟩ (by omega) (by first | omega | (dsimp only; omega)) ((p7 _ _ _ _).trans (congrArg (fun v => Mix.silu (Up.dot _ v)) (col w _ _ k (by first | omega | (dsimp only; omega)))))
  refine miss _ _ _ r k (by omega) ?_
  exact hit _ _ _ r k r ⟨k.val, by omega⟩ (by omega) (by first | omega | (dsimp only; omega)) ((p6 _ _ _ _).trans (congrArg (fun v => Mix.silu (Up.dot _ v)) (col w _ _ k (by first | omega | (dsimp only; omega)))))

end Cert.Proof.Act

end
-- ==== Proof.ActRef.lean ====
/- The reference of the odd layer's activations, element by element. -/
module

public import proofs.«01_k».proof.Proof.Gen.ReferenceActIdeal.Read
public import proofs.«01_k».proof.Proof.MixRow

@[expose] public section

set_option maxRecDepth 16384

noncomputable section

namespace Cert.Proof.Act

open Cert.ReferenceActIdeal Cert.ReferenceActIdeal.Read
open Idealize.ShloMosaic Idealize.ShloMosaic.TcCoe

variable (x0 : (⟨S8x2048x2048, .f32⟩ : BufTy).Contents (Elt Ideal)) (x1 : (⟨S16x12288, .f32⟩ : BufTy).Contents (Elt Ideal))
  (x2 : (⟨S2048x10240, .f32⟩ : BufTy).Contents (Elt Ideal))

theorem r31 (b : Fin 8) (q k : Fin 2048) : val_main_v31 (F := Ideal) x0 x1 (ix3 b q k) = Mix.urow x0 x1 b q k := by
  pointwise [val_main_v0, val_main_v1, val_main_v2, val_main_v3, val_main_cst, val_main_v8, val_main_v9, val_main_cst_0, val_main_v10, val_main_v11, val_main_v12, val_main_v13, val_main_v14, val_main_cst_1, val_main_v15, val_main_v16, val_main_cst_2, val_main_v17, val_main_v18, val_main_v19, val_main_v20, val_main_cst_3, val_main_v21, val_main_v22, val_main_v23, val_main_v24, val_main_v25, val_main_cst_4, val_main_v26, val_main_v27, val_main_v28, val_main_v29, val_main_v30, val_main_v31]
  try simp only [Nat.zero_add]
  rfl

theorem r32 (b : Fin 8) (q : Fin 2048) (k : Fin 10240) : val_main_v32 (F := Ideal) x0 x1 x2 (ix3 b q k) = Up.dot (Mix.urow x0 x1 b q) (Mix.wcol x2 k) := by
  pointwise [val_main_v32]
  exact Finset.sum_congr rfl fun x _ => congrArg (· * _) (r31 x0 x1 b q x)

/-- The three kinds of columns. -/
theorem r38 (b : Fin 8) (q k : Fin 2048) : val_main_v38 (F := Ideal) x0 x1 x2 (ix3 b q k)
    = Mix.silu (Up.dot (Mix.urow x0 x1 b q) (Mix.wcol x2 ⟨k.val, by omega⟩)) := by
  pointwise [val_main_v33, val_main_call0_v0, val_main_call0_v1, val_main_call0_cst, val_main_call0_v2, val_main_call0_v3, val_main_call0_cst_0, val_main_call0_v4, val_main_call0_v5, val_main_v38]
  try simp only [Nat.zero_add]
  rw [r32]
  rfl
theorem r36 (b : Fin 8) (q k : Fin 2048) : val_main_v36 (F := Ideal) x0 x1 x2 (ix3 b q k)
    = Up.dot (Mix.urow x0 x1 b q) (Mix.wcol x2 ⟨6144 + k.val, by omega⟩) := by
  pointwise [val_main_v36]
  exact r32 ..
theorem r39 (b : Fin 8) (q k : Fin 2048) : val_main_v39 (F := Ideal) x0 x1 x2 (ix3 b q k)
    = Mix.silu (Up.dot (Mix.urow x0 x1 b q) (Mix.wcol x2 ⟨8192 + k.val, by omega⟩)) := by
  pointwise [val_main_v37, val_main_call1_v0, val_main_call1_v1, val_main_call1_cst, val_main_call1_v2, val_main_call1_v3, val_main_call1_cst_0, val_main_call1_v4, val_main_call1_v5, val_main_v39]
  rw [r32]
  rfl

/-- The row number's batch and the row's number in it. -/
theorem row_of (b : Fin 8) (q : Fin 2048) (r : Fin 16384) (hr : r.val = b.val * 2048 + q.val) (X : Fin 8 → Fin 2048 → EReal) (h1 h2) :
    X ⟨r.val / 2048, h1⟩ ⟨r.val % 2048, h2⟩ = X b q := by
  obtain ⟨r, hlt⟩ := r
  obtain ⟨b, hb⟩ := b
  obtain ⟨q, hq⟩ := q
  dsimp only at hr ⊢
  have e1 : r / 2048 = b := by omega
  have e2 : r % 2048 = q := by omega
  subst e1 e2
  rfl

theorem r42 (b : Fin 8) (q : Fin 2048) (k : Fin 6144) (r : Fin 16384) (hr : r.val = b.val * 2048 + q.val) :
    val_main_v42 (F := Ideal) x0 x1 x2 (ix2 r k) = Mix.act k (Up.dot (Mix.urow x0 x1 b q) (Mix.wcol x2 (Mix.actCol k))) := by
  pointwise [val_main_v40, val_main_v41, val_main_v42]
  unfold Mix.act Mix.actCol
  split
  · rename_i h
    refine (row_of b q r hr (fun b q => val_main_v38 (F := Ideal) x0 x1 x2 (ix3 b q ⟨k.val, h⟩)) _ _).trans ?_
    rw [if_neg (by omega)]
    exact r38 ..
  · rename_i h
    split
    · rename_i h'
      refine (row_of b q r hr (fun b q => val_main_v36 (F := Ideal) x0 x1 x2 (ix3 b q ⟨k.val - 2048, h'⟩)) _ _).trans ?_
      rw [if_pos (by omega)]
      refine (r36 ..).trans (congrArg (fun k => Up.dot _ (Mix.wcol x2 k)) (Fin.ext ?_))
      dsimp only; omega
    · rename_i h'
      refine (row_of b q r hr (fun b q => val_main_v39 (F := Ideal) x0 x1 x2 (ix3 b q ⟨k.val - 2048 - 2048, by omega⟩)) _ _).trans ?_
      rw [if_neg (by omega)]
      refine (r39 ..).trans (congrArg (fun k => Mix.silu (Up.dot _ (Mix.wcol x2 k))) (Fin.ext ?_))
      dsimp only; omega

end Cert.Proof.Act

end
-- ==== Proof.ActWin.lean ====
/- The arrays the activations' launch stages, and its windows' blocks, as entries of the arguments. -/
module

public import proofs.«01_k».proof.Proof.ActBody
public import proofs.«01_k».proof.Proof.ActRef

@[expose] public section

set_option maxRecDepth 16384

noncomputable section

namespace Cert.Proof.Act

open Cert.KernelActIdeal Cert.KernelActIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 96 := lt_of_lt_of_eq t.isLt N_0

/-- The block of the weights' columns a point works on. -/
def jOf (t : ℕ) : ℕ := if t % 6 < 2 then t % 6 else t % 6 + 4

theorem idx : ∀ t : Fin cfg0.N, win0_0.index t = ![t.val / 6, 0] ∧ win0_1.index t = ![t.val / 12, 0, 0]
    ∧ win0_2.index t = ![t.val / 12, 0, 1] ∧ win0_3.index t = ![0, jOf t.val] ∧ win0_4.index t = ![t.val / 6, t.val % 6] :=
  (by decide +kernel : ∀ t : Fin grid0.N, _)

theorem V0 : V m c main_v0 = shapeCast S16384x2048 (m ((c.tc : Thread nD τ).loc main_arg0)) shapeCasts_S8x2048x2048_S16384x2048 := by
  unfold V; simp only [hostOps0]; after_results; try rfl
theorem V1 : V m c main_v1 = shapeCast S16x1x12288 (m ((c.tc : Thread nD τ).loc main_arg1)) shapeCasts_S16x12288_S16x1x12288 := by
  unfold V; simp only [hostOps0]; after_results; try rfl
theorem V2 : V m c main_v2 = truncf (F := Ideal) .bf16 (m ((c.tc : Thread nD τ).loc main_arg2)) bitsLt_bf16_f32 := by
  unfold V; simp only [hostOps0]; after_results; try rfl

/-- A point's batch, its row `r`'s number in the batch, and its column `k`'s number. -/
def bOf (t : Fin cfg0.N) : Fin 8 := ⟨t.val / 12, by have := lt_N t; omega⟩
def qOf (t : Fin cfg0.N) (r : Fin 1024) : Fin 2048 := ⟨t.val / 6 % 2 * 1024 + r.val, by omega⟩
def kOf (t : Fin cfg0.N) (k : Fin 1024) : Fin 6144 := ⟨t.val % 6 * 1024 + k.val, by omega⟩

theorem col_of (t : Fin cfg0.N) (k : Fin 1024) : (Mix.actCol (kOf t k)).val = jOf t.val * 1024 + k.val := by
  have := k.isLt
  unfold Mix.actCol jOf kOf
  dsimp only
  split <;> split <;> dsimp only <;> omega

theorem blk0 (t : Fin cfg0.N) (r : Fin 1024) (k : Fin 2048) : iblk m c 0 t (ix2 r k) = Mix.hrow (m ((c.tc : Thread nD τ).loc main_arg0)) (bOf t) (qOf t r) k := by
  have := lt_N t
  blk_simp [iblk]
  refine (congrFun (V0 m c) _).trans (Eq.trans (congrArg _ ?_) (Mix.rows_in _ _ (bOf t) (qOf t r) k ⟨t.val / 6 * 1024 + r.val, by omega⟩ (by simp only [bOf, qOf]; omega)))
  blk_ext [idx t]
theorem blk1 (t : Fin cfg0.N) (k : Fin 2048) : iblk m c 1 t (ix3 0 0 k) = Mix.shrow (m ((c.tc : Thread nD τ).loc main_arg1)) (bOf t) k := by
  have := lt_N t
  blk_simp [iblk]
  refine (congrFun (V1 m c) _).trans (Eq.trans (congrArg _ ?_) (Mix.chunks_in _ _ ⟨(bOf t).val, by omega⟩ ⟨k.val, by omega⟩))
  blk_ext [idx t, bOf]
theorem blk2 (t : Fin cfg0.N) (k : Fin 2048) : iblk m c 2 t (ix3 0 0 k) = Mix.scrow (m ((c.tc : Thread nD τ).loc main_arg1)) (bOf t) k := by
  have := lt_N t
  blk_simp [iblk]
  refine (congrFun (V1 m c) _).trans (Eq.trans (congrArg _ ?_) (Mix.chunks_in _ _ ⟨(bOf t).val, by omega⟩ ⟨2048 + k.val, by omega⟩))
  blk_ext [idx t, bOf]
theorem blk3 (t : Fin cfg0.N) (x : Fin 2048) (k : Fin 1024) : iblk m c 3 t (ix2 x k) = Mix.wcol (m ((c.tc : Thread nD τ).loc main_arg2)) (Mix.actCol (kOf t k)) x := by
  have := lt_N t
  have hc := col_of t k
  blk_simp [iblk]
  refine (congrFun (V2 m c) _).trans (congrArg (m ((c.tc : Thread nD τ).loc main_arg2)) ?_)
  blk_ext [idx t]

theorem emb4 (t : Fin cfg0.N) (r : Fin 1024) (k : Fin 1024) : ((cfg0.win 4).blk t).view.emb (ix2 r k)
    = ix2 ⟨t.val / 6 * 1024 + r.val, by have := lt_N t; omega⟩ (kOf t k) := by
  have := lt_N t
  blk_ext [idx t, kOf]

end Cert.Proof.Act

end
-- ==== Proof.ActValue.lean ====
/- The activations' launch leaves what its reference computes. -/
module

public import proofs.«01_k».proof.Proof.ActWin

@[expose] public section

set_option maxRecDepth 16384

noncomputable section

namespace Cert.Proof.Act

open Cert.KernelActIdeal Cert.KernelActIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves -/

theorem after_A (t : Fin cfg0.N) (h0 : t.val % 6 = 0) : outsAt0 m c t.val t.isLt
    = (gates (k0_pay1 (iblk m c 0 t) (iblk m c 2 t) (iblk m c 1 t)) (iblk m c 3 t), k0_pay1 (iblk m c 0 t) (iblk m c 2 t) (iblk m c 1 t)) := by
  rw [outsAt0_A m c t h0 (by omega) (by omega)]
  refine Prod.ext ?_ ?_
  · frame_out
    try rfl
  · frame_out

theorem after_B (t : Fin cfg0.N) (h0 : ¬ t.val % 6 = 0) (h1 : ¬ (2 ≤ t.val % 6 ∧ t.val % 6 ≤ 3)) : outsAt0 m c t.val t.isLt
    = (gates (outsAt0 m c (t.val - 1) (by omega)).2 (iblk m c 3 t), (outsAt0 m c (t.val - 1) (by omega)).2) := by
  rw [outsAt0_B m c t h0 h1 h1]
  refine Prod.ext ?_ ?_
  · frame_out
    simp only [read_unread_whole]
  · frame_out
    try rfl

theorem after_C (t : Fin cfg0.N) (h0 : ¬ t.val % 6 = 0) (h1 : 2 ≤ t.val % 6 ∧ t.val % 6 ≤ 3) : outsAt0 m c t.val t.isLt
    = (linear (outsAt0 m c (t.val - 1) (by omega)).2 (iblk m c 3 t), (outsAt0 m c (t.val - 1) (by omega)).2) := by
  rw [outsAt0_C m c t h0 h1 (not_not.mpr h1)]
  refine Prod.ext ?_ ?_
  · frame_out
    simp only [read_unread_whole]
  · frame_out
    try rfl

/-! ## The rows kept between points -/

/-- The rows a point holds are its tile's, whatever its column coordinate. -/
def Kept (t : Fin cfg0.N) (u : Vec Ideal S1024x2048 .bf16) : Prop :=
  ∀ r k, u (ix2 r k) = Mix.urow (m ((c.tc : Thread nD τ).loc main_arg0)) (m ((c.tc : Thread nD τ).loc main_arg1)) (bOf t) (qOf t r) k

theorem kept_A (t : Fin cfg0.N) : Kept m c t (k0_pay1 (iblk m c 0 t) (iblk m c 2 t) (iblk m c 1 t)) := by
  intro r k
  rw [rows_at, funext (blk0 m c t r), funext (blk1 m c t), funext (blk2 m c t)]
  rfl

/-- The same, of what the launch leaves after a point. -/
theorem kept_of {t : Fin cfg0.N} {s : Vec Ideal S1024x1024 .bf16 × Vec Ideal S1024x2048 .bf16} {a : Vec Ideal S1024x1024 .bf16} {b : Vec Ideal S1024x2048 .bf16}
    (e : s = (a, b)) (K : Kept m c t b) : Kept m c t s.2 := by
  subst e
  exact K

/-- Within a row tile a point keeps what the one before it kept. -/
theorem kept_step (t s : Fin cfg0.N) (h : ¬ t.val % 6 = 0) (hs : s.val = t.val - 1) (u : Vec Ideal S1024x2048 .bf16)
    (K : Kept m c s u) : Kept m c t u := by
  have hb : bOf t = bOf s := Fin.ext (by show t.val / 12 = s.val / 12; omega)
  have hq : ∀ r, qOf t r = qOf s r := fun r => Fin.ext (by show t.val / 6 % 2 * 1024 + r.val = s.val / 6 % 2 * 1024 + r.val; omega)
  intro r k
  rw [hb, hq]
  exact K r k

theorem kept : ∀ (n : ℕ) (hn : n < cfg0.N), Kept m c ⟨n, hn⟩ (outsAt0 m c n hn).2 := by
  intro n
  induction n with
  | zero =>
    intro hn
    exact kept_of m c (after_A m c ⟨0, hn⟩ rfl) (kept_A m c ⟨0, hn⟩)
  | succ n ih =>
    intro hn
    by_cases h : (n + 1) % 6 = 0
    · exact kept_of m c (after_A m c ⟨n + 1, hn⟩ h) (kept_A m c ⟨n + 1, hn⟩)
    · by_cases h1 : 2 ≤ (n + 1) % 6 ∧ (n + 1) % 6 ≤ 3
      · exact kept_of m c (after_C m c ⟨n + 1, hn⟩ h h1) (kept_step m c ⟨n + 1, hn⟩ ⟨n, by omega⟩ h rfl _ (ih (by omega)))
      · exact kept_of m c (after_B m c ⟨n + 1, hn⟩ h h1) (kept_step m c ⟨n + 1, hn⟩ ⟨n, by omega⟩ h rfl _ (ih (by omega)))

/-! ## The block -/

/-- The reference's result, from the launch's arguments. -/
abbrev want : Vec Ideal S16384x6144 .bf16 := Cert.ReferenceActIdeal.Read.val_main_v42 (F := Ideal) (m ((c.tc : Thread nD τ).loc main_arg0))
  (m ((c.tc : Thread nD τ).loc main_arg1)) (m ((c.tc : Thread nD τ).loc main_arg2))

theorem product_eq (t : Fin cfg0.N) (u : Vec Ideal S1024x2048 .bf16) (K : Kept m c t u) (r : Fin 1024) (k : Fin 1024) (f : EReal → EReal)
    (hf : Mix.act (kOf t k) = f) : f (Up.dot (fun x => u (ix2 r x)) (fun x => iblk m c 3 t (ix2 x k)))
      = want m c (ix2 ⟨t.val / 6 * 1024 + r.val, by have := lt_N t; omega⟩ (kOf t k)) := by
  rw [funext (K r), funext fun x => blk3 m c t x k, ← hf]
  exact (r42 _ _ _ (bOf t) (qOf t r) (kOf t k) _ (by simp only [bOf, qOf]; omega)).symm

theorem gates_eq (t : Fin cfg0.N) (h1 : ¬ (2 ≤ t.val % 6 ∧ t.val % 6 ≤ 3)) (u : Vec Ideal S1024x2048 .bf16) (K : Kept m c t u) (r : Fin 1024) (k : Fin 1024) :
    gates u (iblk m c 3 t) (ix2 r k) = want m c (ix2 ⟨t.val / 6 * 1024 + r.val, by have := lt_N t; omega⟩ (kOf t k)) :=
  (gates_at _ _ r k).trans (product_eq m c t u K r k _ (funext fun z => if_neg (by simp only [kOf]; omega)))

theorem linear_eq (t : Fin cfg0.N) (h1 : 2 ≤ t.val % 6 ∧ t.val % 6 ≤ 3) (u : Vec Ideal S1024x2048 .bf16) (K : Kept m c t u) (r : Fin 1024) (k : Fin 1024) :
    linear u (iblk m c 3 t) (ix2 r k) = want m c (ix2 ⟨t.val / 6 * 1024 + r.val, by have := lt_N t; omega⟩ (kOf t k)) :=
  (linear_at _ _ r k).trans (product_eq m c t u K r k (fun z => z) (funext fun z => if_pos (by simp only [kOf]; omega)))

theorem val_of {s : Vec Ideal S1024x1024 .bf16 × Vec Ideal S1024x2048 .bf16} {a : Vec Ideal S1024x1024 .bf16} {b : Vec Ideal S1024x2048 .bf16}
    {y : S1024x1024.Idx} {w : EReal} (e : s = (a, b)) (h : a y = w) : s.1 y = w := by
  subst e
  exact h

theorem at_t (t : Fin cfg0.N) (r : Fin 1024) (k : Fin 1024) : (outsAt0 m c t.val t.isLt).1 (ix2 r k)
    = want m c (ix2 ⟨t.val / 6 * 1024 + r.val, by have := lt_N t; omega⟩ (kOf t k)) := by
  by_cases h : t.val % 6 = 0
  · exact val_of (after_A m c t h) (gates_eq m c t (by omega) _ (kept_A m c t) r k)
  · have K := kept_step m c t ⟨t.val - 1, by omega⟩ h rfl _ (kept m c (t.val - 1) (by omega))
    by_cases h1 : 2 ≤ t.val % 6 ∧ t.val % 6 ≤ 3
    · exact val_of (after_C m c t h h1) (linear_eq m c t h1 _ K r k)
    · exact val_of (after_B m c t h h1) (gates_eq m c t h1 _ K r k)

theorem final4 : (dats m 0 c).arrAt 4 (cfgs 0).N = want m c := by
  refine (dats m 0 c).arrAt_eq_of_covers 4 _ (by decide +kernel) fun t _ y => ?_
  blk_simp
  rw [after0_4]
  obtain ⟨r, d, rfl⟩ := Mix.row_ix y
  rw [emb4]
  exact at_t m c t r d

end Cert.Proof.Act

end
-- ==== Proof.ActClaim.lean ====
/- The claims of the odd layer's activations. -/
module

public import proofs.«01_k».proof.Defs
public import proofs.«01_k».proof.Proof.ActValue
public import proofs.«01_k».proof.Proof.Gen.KernelAct
public import proofs.«01_k».proof.Proof.Gen.KernelAct.Launch
public import proofs.«01_k».proof.Proof.Gen.ReferenceActIdeal.Run
public import Idealize.ShloMosaic.Lib.Claim

@[expose] public section

set_option maxRecDepth 16384

noncomputable section

namespace Cert.Proof.Act

open Idealize.ShloMosaic Idealize.ShloMosaic.TcCoe Idealize.SL.Sem

theorem defs₀_eq : @KernelAct.defs₀ Bits _ _ = @KernelActIdeal.defs₀ Bits _ _ := by
  unfold KernelAct.defs₀ KernelActIdeal.defs₀
  refine congrArg Defs.onTc ?_
  funext x y
  match x, y with
  | 0, (t, s) => rfl
theorem defs_eq : @KernelAct.defs Bits _ _ = @KernelActIdeal.defs Bits _ _ :=
  congrArg (Pipeline.defs (KernelAct.pcfgs (F := Bits))) defs₀_eq

/-- The kernel's frame: its text is the ideal kernel's. -/
theorem frame_kernel : Cert.quiescent_KernelAct (hKernelAct := Cert.KernelAct.Gen.facts) := by
  intro m ρ _
  rw [defs_eq]
  exact Cert.KernelActIdeal.Gen.frame (F := Bits) m ρ

theorem frame_ideal : Cert.quiescent_KernelActIdeal (hKernelActIdeal := Cert.KernelActIdeal.Gen.facts) :=
  fun m ρ _ => Cert.KernelActIdeal.Gen.frame (F := Ideal) m ρ

theorem frame_ref : Cert.quiescent_ReferenceActIdeal (hReferenceActIdeal := Cert.ReferenceActIdeal.Gen.facts) := fun m ρ _ =>
  (θ_run Cert.ReferenceActIdeal.defs _ _).mono (fun r h => ⟨fun c => (h c).2, sem_eq_zero_of_no_sems (by decide) r.2⟩)
    (Cert.ReferenceActIdeal.Value.run (F := Ideal) m ρ)

theorem preserves : Cert.preserves_KernelAct_KernelActIdeal := trivial

open Cert.KernelActIdeal Cert.KernelActIdeal.Gen in
theorem algebraic : Cert.algebraic_KernelActIdeal_ReferenceActIdeal (hKernelActIdeal := Cert.KernelActIdeal.Gen.facts)
    (hReferenceActIdeal := Cert.ReferenceActIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v3) = want m c) :=
    (θ_run defs _ _).mono (fun r h c => ((h c).1 4).trans (final4 m c)) (run_main m g)
  refine ⟨want m, (θ_run defs _ _).mono (fun r h c => ⟨h.1 c, h.2.1 c⟩) (θ_run_and run (frame m g)), ?_⟩
  refine (θ_run Cert.ReferenceActIdeal.defs _ _).mono (fun r h c => ?_) (Cert.ReferenceActIdeal.Value.run m' g')
  obtain ⟨a, rest⟩ := h c
  obtain ⟨g0, g1, g2⟩ := hag c
  refine ⟨a.trans ?_, rest⟩
  rw [Cert.ReferenceActIdeal.Read.val_main_v42_eq, g0, g1, g2]

end Cert.Proof.Act

end
-- ==== Proof.GateRow.lean ====
/- The odd layer's forget gates as functions of a column: the lower bound from its two logits, and what is made of a row's
   product with a weight column. -/
module

public import proofs.«01_k».proof.Proof.MixRow

@[expose] public section

noncomputable section

namespace Cert.Proof.Gate

open Idealize.ShloMosaic

/-- The larger of the two logits of a column. -/
def top (f : Fin 2 → EReal) : EReal := Finset.fold max (Ideal.ofBits FTy.f32 0xFF800000#32) f Finset.univ
/-- The share of the logit `j` in a column. -/
def share (f : Fin 2 → EReal) (j : Fin 2) : EReal := Ideal.div (Ideal.exp (f j - top f)) (∑ x, Ideal.exp (f x - top f))
/-- The second layer's lower bound. -/
def lower (f : Fin 2 → EReal) : EReal := share f 1

/-- The two results from a lower bound and a product. -/
def keep (l z : EReal) : EReal := (1 - l) * (1 - Ideal.logistic z)
def logf (l z : EReal) : EReal := Ideal.log (l + (1 - l) * Ideal.logistic z)

theorem exp_nonneg (x : EReal) : 0 ≤ Ideal.exp x := by
  induction x with
  | bot => exact le_refl _
  | top => exact le_top
  | coe r => exact EReal.coe_nonneg.mpr (Real.exp_pos r).le

/-- The two shares' sum less the first is the second, also where the sum the shares are of is zero or infinite. -/
theorem share_sub (a b : EReal) (ha : 0 ≤ a) (hb : 0 ≤ b) :
    (0 + Ideal.div a (a + b) + Ideal.div b (a + b)) - (0 + 0 + Ideal.div a (a + b)) = Ideal.div b (a + b) := by
  rw [zero_add, zero_add, zero_add]
  unfold Ideal.div
  by_cases h : a + b = 0
  · obtain ⟨rfl, rfl⟩ := (add_eq_zero_iff_of_nonneg ha hb).mp h
    simp
  · rw [if_neg h, if_neg h]
    induction a with
    | bot => exact absurd ha (by simp)
    | top =>
      rw [EReal.top_add_of_ne_bot (fun e => by rw [e] at hb; exact absurd hb (by simp))]
      simp
    | coe x =>
      induction b with
      | bot => exact absurd hb (by simp)
      | top =>
        rw [EReal.coe_add_top]
        simp
      | coe y =>
        rw [← EReal.coe_add, ← EReal.coe_inv, ← EReal.coe_mul, ← EReal.coe_mul, ← EReal.coe_add, ← EReal.coe_sub]
        exact congrArg _ (add_sub_cancel_left _ _)

theorem lower_of (f : Fin 2 → EReal) : (0 + share f 0 + share f 1) - (0 + 0 + share f 0) = lower f := by
  unfold lower share
  rw [Fin.sum_univ_two]
  exact share_sub _ _ (exp_nonneg _) (exp_nonneg _)

theorem top_max (f : Fin 2 → EReal) : max (Ideal.ofBits FTy.f32 0xFF800000#32) (top f) = top f :=
  max_eq_right ((Finset.le_fold_max _).mpr (Or.inl (le_refl _)))

/-- What the logistic function leaves of one. -/
theorem one_sub_logistic (z : EReal) : 1 - Ideal.logistic z = Ideal.logistic (-z) := by
  induction z with
  | bot =>
    rw [Ideal.logistic_bot, EReal.neg_bot, Ideal.logistic_top]
    exact sub_zero _
  | top =>
    rw [Ideal.logistic_top, EReal.neg_top, Ideal.logistic_bot]
    exact EReal.sub_self (by decide) (by decide)
  | coe r =>
    rw [Ideal.logistic_coe, ← EReal.coe_neg, Ideal.logistic_coe, ← EReal.coe_one, ← EReal.coe_sub]
    refine congrArg _ ?_
    have h1 : (0 : ℝ) < 1 + Real.exp (-r) := add_pos one_pos (Real.exp_pos _)
    have h2 : (0 : ℝ) < 1 + Real.exp r := add_pos one_pos (Real.exp_pos _)
    have h3 : Real.exp (-r) * Real.exp r = 1 := by rw [← Real.exp_add, neg_add_cancel, Real.exp_zero]
    rw [neg_neg]
    field_simp
    nlinarith

end Cert.Proof.Gate

end
-- ==== Proof.GateBody.lean ====
/- The odd layer's forget gates: a point's rows, and its blocks of columns. -/
module

public import proofs.«01_k».proof.Proof.Gen.KernelGateIdeal.Frame
public import proofs.«01_k».proof.Proof.GateRow
public import proofs.«01_k».proof.Proof.Pieces
public import Idealize.ShloMosaic.Lib.Pipeline.ReadBack

@[expose] public section

set_option maxRecDepth 16384

noncomputable section

namespace Cert.Proof.Gate

open Cert.KernelGateIdeal Cert.KernelGateIdeal.Gen
open Idealize.ShloMosaic Idealize.ShloMosaic.TcCoe Idealize.SL.Sem

theorem rows_at (h : Vec Ideal S1024x2048 .f32) (sc sh : Vec Ideal S1x1x2048 .f32) (r : Fin 1024) (k : Fin 2048) :
    k0_pay5 h sc sh (ix2 r k) = Up.modu (fun x => h (ix2 r x)) (fun x => sc (ix3 0 0 x)) (fun x => sh (ix3 0 0 x)) k := by
  pointwise [k0_pay5]
  rfl

section
variable (b : Vec Ideal S1x2x256 .f32) (u : Vec Ideal S1024x2048 .bf16) (w : Vec Ideal S2048x256 .bf16) (r : Fin 1024) (k : Fin 256)

/-! ## The lower bounds of the four loads -/

theorem l1 : k0_pay1 (k0_pay18 b) (ix2 0 k) = lower fun x => b (ix3 0 x k) := by
  pointwise [k0_pay1, k0_pay18]
  rw [Fintype.sum_unique]
  rfl
theorem l6 : k0_pay6 b (ix2 0 k) = lower fun x => b (ix3 0 x k) := by
  pointwise [k0_pay6]
  rw [Fintype.sum_unique]
  rfl
theorem l10 : k0_pay10 b (ix2 0 k) = lower fun x => b (ix3 0 x k) := by
  pointwise [k0_pay10]
  rw [Fintype.sum_unique]
  rfl
theorem l14 : k0_pay14 b (ix2 0 k) = lower fun x => b (ix3 0 x k) := by
  pointwise [k0_pay14]
  rw [Fintype.sum_unique]
  rfl

/-! ## What is made of a product -/

theorem q3 : k0_pay3 (k0_pay18 b) u w (ix2 r k) = keep (lower fun x => b (ix3 0 x k)) (Up.dot (fun x => u (ix2 r x)) (fun x => w (ix2 x k))) := by
  pointwise [k0_pay3, k0_pay2]
  rw [l1]
  rfl
theorem q4 : k0_pay4 (k0_pay18 b) u w (ix2 r k) = logf (lower fun x => b (ix3 0 x k)) (Up.dot (fun x => u (ix2 r x)) (fun x => w (ix2 x k))) := by
  pointwise [k0_pay4, k0_pay2]
  rw [l1]
  rfl
theorem q8 : k0_pay8 b u w (ix2 r k) = keep (lower fun x => b (ix3 0 x k)) (Up.dot (fun x => u (ix2 r x)) (fun x => w (ix2 x k))) := by
  pointwise [k0_pay8, k0_pay7]
  rw [l6]
  rfl
theorem q9 : k0_pay9 b u w (ix2 r k) = logf (lower fun x => b (ix3 0 x k)) (Up.dot (fun x => u (ix2 r x)) (fun x => w (ix2 x k))) := by
  pointwise [k0_pay9, k0_pay7]
  rw [l6]
  rfl
theorem q12 : k0_pay12 b u w (ix2 r k) = keep (lower fun x => b (ix3 0 x k)) (Up.dot (fun x => u (ix2 r x)) (fun x => w (ix2 x k))) := by
  pointwise [k0_pay12, k0_pay11]
  rw [l10]
  rfl
theorem q13 : k0_pay13 b u w (ix2 r k) = logf (lower fun x => b (ix3 0 x k)) (Up.dot (fun x => u (ix2 r x)) (fun x => w (ix2 x k))) := by
  pointwise [k0_pay13, k0_pay11]
  rw [l10]
  rfl
theorem q16 : k0_pay16 b u w (ix2 r k) = keep (lower fun x => b (ix3 0 x k)) (Up.dot (fun x => u (ix2 r x)) (fun x => w (ix2 x k))) := by
  pointwise [k0_pay16, k0_pay15]
  rw [l14]
  rfl
theorem q17 : k0_pay17 b u w (ix2 r k) = logf (lower fun x => b (ix3 0 x k)) (Up.dot (fun x => u (ix2 r x)) (fun x => w (ix2 x k))) := by
  pointwise [k0_pay17, k0_pay15]
  rw [l14]
  rfl
end

variable (u : Vec Ideal S1024x2048 .bf16) (w : Vec Ideal S2048x1024 .bf16) (b : Vec Ideal S1x2x1024 .f32)

/-- A block of each of the two results. -/
def keeps : Vec Ideal S1024x1024 .bf16 := View.canon
    [⟨Rect.unit ![0, 768] ![1024, 256] inb_S1024x1024_S1024x256_0_768, k0_pay3 (k0_pay18 (View.ld b (Rect.unit ![0, 0, 768] ![1, 2, 256] inb_S1x2x1024_S1x2x256_0_0_768))) u (View.ld w (Rect.unit ![0, 768] ![2048, 256] inb_S2048x1024_S2048x256_0_768))⟩,
     ⟨Rect.unit ![0, 512] ![1024, 256] inb_S1024x1024_S1024x256_0_512, k0_pay16 (View.ld b (Rect.unit ![0, 0, 512] ![1, 2, 256] inb_S1x2x1024_S1x2x256_0_0_512)) u (View.ld w (Rect.unit ![0, 512] ![2048, 256] inb_S2048x1024_S2048x256_0_512))⟩,
     ⟨Rect.unit ![0, 256] ![1024, 256] inb_S1024x1024_S1024x256_0_256, k0_pay12 (View.ld b (Rect.unit ![0, 0, 256] ![1, 2, 256] inb_S1x2x1024_S1x2x256_0_0_256)) u (View.ld w (Rect.unit ![0, 256] ![2048, 256] inb_S2048x1024_S2048x256_0_256))⟩,
     ⟨Rect.unit ![0, 0] ![1024, 256] inb_S1024x1024_S1024x256_0_0, k0_pay8 (View.ld b (Rect.unit ![0, 0, 0] ![1, 2, 256] inb_S1x2x1024_S1x2x256_0_0_0)) u (View.ld w (Rect.unit ![0, 0] ![2048, 256] inb_S2048x1024_S2048x256_0_0))⟩]
def logfs : Vec Ideal S1024x1024 .f32 := View.canon
    [⟨Rect.unit ![0, 768] ![1024, 256] inb_S1024x1024_S1024x256_0_768, k0_pay4 (k0_pay18 (View.ld b (Rect.unit ![0, 0, 768] ![1, 2, 256] inb_S1x2x1024_S1x2x256_0_0_768))) u (View.ld w (Rect.unit ![0, 768] ![2048, 256] inb_S2048x1024_S2048x256_0_768))⟩,
     ⟨Rect.unit ![0, 512] ![1024, 256] inb_S1024x1024_S1024x256_0_512, k0_pay17 (View.ld b (Rect.unit ![0, 0, 512] ![1, 2, 256] inb_S1x2x1024_S1x2x256_0_0_512)) u (View.ld w (Rect.unit ![0, 512] ![2048, 256] inb_S2048x1024_S2048x256_0_512))⟩,
     ⟨Rect.unit ![0, 256] ![1024, 256] inb_S1024x1024_S1024x256_0_256, k0_pay13 (View.ld b (Rect.unit ![0, 0, 256] ![1, 2, 256] inb_S1x2x1024_S1x2x256_0_0_256)) u (View.ld w (Rect.unit ![0, 256] ![2048, 256] inb_S2048x1024_S2048x256_0_256))⟩,
     ⟨Rect.unit ![0, 0] ![1024, 256] inb_S1024x1024_S1024x256_0_0, k0_pay9 (View.ld b (Rect.unit ![0, 0, 0] ![1, 2, 256] inb_S1x2x1024_S1x2x256_0_0_0)) u (View.ld w (Rect.unit ![0, 0] ![2048, 256] inb_S2048x1024_S2048x256_0_0))⟩]

/-- A column of the weights' block and of the logits' through one of their four loads. -/
theorem at_cols {C : ℕ} (inb) (inb') {f : EReal → EReal → EReal} {v : Fin 2048 → EReal} (k : Fin 256) (k' : Fin 1024) (hk : k'.val = C + k.val) :
    f (lower fun x => View.ld b (Rect.unit ![0, 0, C] ![1, 2, 256] inb') (ix3 0 x k)) (Up.dot v (fun x => View.ld w (Rect.unit ![0, C] ![2048, 256] inb) (ix2 x k)))
      = f (lower fun x => b (ix3 0 x k')) (Up.dot v (fun x => w (ix2 x k'))) := by
  have e1 : (fun x : Fin 2048 => View.ld w (Rect.unit ![0, C] ![2048, 256] inb) (ix2 x k)) = fun x => w (ix2 x k') :=
    funext fun x => ld2 w inb x k x k' (Nat.zero_add _).symm hk
  have e2 : (fun x : Fin 2 => View.ld b (Rect.unit ![0, 0, C] ![1, 2, 256] inb') (ix3 0 x k)) = fun x => b (ix3 0 x k') :=
    funext fun x => ld3 b inb' 0 x k k' hk
  exact congrArg₂ (fun y z => f (lower y) (Up.dot v z)) e2 e1

theorem keeps_at (r : Fin 1024) (k : Fin 1024) : keeps u w b (ix2 r k)
    = keep (lower fun x => b (ix3 0 x k)) (Up.dot (fun x => u (ix2 r x)) (fun x => w (ix2 x k))) := by
  unfold keeps
  by_cases h0 : 768 ≤ k.val
  · exact hit _ _ _ r k r ⟨k.val - 768, by omega⟩ (by omega) (by first | omega | (dsimp only; omega)) ((q3 _ _ _ _ _).trans (at_cols w b _ _ _ k (by first | omega | (dsimp only; omega))))
  refine miss _ _ _ r k (by omega) ?_
  by_cases h1 : 512 ≤ k.val
  · exact hit _ _ _ r k r ⟨k.val - 512, by omega⟩ (by omega) (by first | omega | (dsimp only; omega)) ((q16 _ _ _ _ _).trans (at_cols w b _ _ _ k (by first | omega | (dsimp only; omega))))
  refine miss _ _ _ r k (by omega) ?_
  by_cases h2 : 256 ≤ k.val
  · exact hit _ _ _ r k r ⟨k.val - 256, by omega⟩ (by omega) (by first | omega | (dsimp only; omega)) ((q12 _ _ _ _ _).trans (at_cols w b _ _ _ k (by first | omega | (dsimp only; omega))))
  refine miss _ _ _ r k (by omega) ?_
  exact hit _ _ _ r k r ⟨k.val, by omega⟩ (by omega) (by first | omega | (dsimp only; omega)) ((q8 _ _ _ _ _).trans (at_cols w b _ _ _ k (by first | omega | (dsimp only; omega))))
theorem logfs_at (r : Fin 1024) (k : Fin 1024) : logfs u w b (ix2 r k)
    = logf (lower fun x => b (ix3 0 x k)) (Up.dot (fun x => u (ix2 r x)) (fun x => w (ix2 x k))) := by
  unfold logfs
  by_cases h0 : 768 ≤ k.val
  · exact hit _ _ _ r k r ⟨k.val - 768, by omega⟩ (by omega) (by first | omega | (dsimp only; omega)) ((q4 _ _ _ _ _).trans (at_cols w b _ _ _ k (by first | omega | (dsimp only; omega))))
  refine miss _ _ _ r k (by omega) ?_
  by_cases h1 : 512 ≤ k.val
  · exact hit _ _ _ r k r ⟨k.val - 512, by omega⟩ (by omega) (by first | omega | (dsimp only; omega)) ((q17 _ _ _ _ _).trans (at_cols w b _ _ _ k (by first | omega | (dsimp only; omega))))
  refine miss _ _ _ r k (by omega) ?_
  by_cases h2 : 256 ≤ k.val
  · exact hit _ _ _ r k r ⟨k.val - 256, by omega⟩ (by omega) (by first | omega | (dsimp only; omega)) ((q13 _ _ _ _ _).trans (at_cols w b _ _ _ k (by first | omega | (dsimp only; omega))))
  refine miss _ _ _ r k (by omega) ?_
  exact hit _ _ _ r k r ⟨k.val, by omega⟩ (by omega) (by first | omega | (dsimp only; omega)) ((q9 _ _ _ _ _).trans (at_cols w b _ _ _ k (by first | omega | (dsimp only; omega))))

end Cert.Proof.Gate

end
-- ==== Proof.GateRef.lean ====
/- The reference of the odd layer's forget gates, element by element. -/
module

public import proofs.«01_k».proof.Proof.Gen.ReferenceGateIdeal.Read
public import proofs.«01_k».proof.Proof.GateRow

@[expose] public section

set_option maxRecDepth 16384

noncomputable section

namespace Cert.Proof.Gate

open Cert.ReferenceGateIdeal Cert.ReferenceGateIdeal.Read
open Idealize.ShloMosaic Idealize.ShloMosaic.TcCoe

variable (x0 : (⟨S8x2048x2048, .f32⟩ : BufTy).Contents (Elt Ideal)) (x1 : (⟨S16x12288, .f32⟩ : BufTy).Contents (Elt Ideal))
  (x2 : (⟨S2048x10240, .f32⟩ : BufTy).Contents (Elt Ideal)) (x3 : (⟨S2x2x2048, .f32⟩ : BufTy).Contents (Elt Ideal))

theorem r31 (b : Fin 8) (q k : Fin 2048) : val_main_v31 (F := Ideal) x0 x1 (ix3 b q k) = Mix.urow x0 x1 b q k := by
  pointwise [val_main_v0, val_main_v1, val_main_v2, val_main_v3, val_main_cst, val_main_v8, val_main_v9, val_main_cst_0, val_main_v10, val_main_v11, val_main_v12, val_main_v13, val_main_v14, val_main_cst_1, val_main_v15, val_main_v16, val_main_cst_2, val_main_v17, val_main_v18, val_main_v19, val_main_v20, val_main_cst_3, val_main_v21, val_main_v22, val_main_v23, val_main_v24, val_main_v25, val_main_cst_4, val_main_v26, val_main_v27, val_main_v28, val_main_v29, val_main_v30, val_main_v31]
  try simp only [Nat.zero_add]
  rfl

theorem r32 (b : Fin 8) (q : Fin 2048) (k : Fin 10240) : val_main_v32 (F := Ideal) x0 x1 x2 (ix3 b q k) = Up.dot (Mix.urow x0 x1 b q) (Mix.wcol x2 k) := by
  pointwise [val_main_v32]
  exact Finset.sum_congr rfl fun x _ => congrArg (· * _) (r31 x0 x1 b q x)

/-! ## The lower bounds -/

/-- The two logits of a direction's column. -/
def logits (d : Fin 2) (k : Fin 2048) (j : Fin 2) : EReal := x3 (ix3 d j k)

theorem r48 (d j : Fin 2) (k : Fin 2048) : val_main_v48 (F := Ideal) x3 (ix3 d j k) = share (logits x3 d k) j := by
  pointwise [val_main_cst_5, val_main_v38, val_main_cst_6, val_main_v39, val_main_v40, val_main_v41, val_main_v42, val_main_v43, val_main_v44, val_main_cst_7, val_main_v45, val_main_v46, val_main_v47, val_main_v48]
  have e := top_max (logits x3 d k)
  unfold share
  rw [← e]
  rfl

/-- A running sum's window of two entries, by its positions. -/
theorem window_at (n : Fin 2) : (⟨3, ![1, 2, 1]⟩ : Shape).rowMajor.symm (Fin.cast (by decide) n) = ix3 0 n 0 := by
  rw [Equiv.symm_apply_eq]
  refine Fin.ext ?_
  rw [Shape.rowMajor_val_three]
  show n.val = (0 * 2 + n.val) * 1 + 0
  omega

theorem positions : List.finRange (⟨3, ![1, 2, 1]⟩ : Shape).numel = [Fin.cast (by decide) (0 : Fin 2), Fin.cast (by decide) (1 : Fin 2)] := by
  decide

/-- The entry at the window's position `n` around `j`, or zero before the first. -/
theorem before (x : S2x2x2048.Idx → EReal) (d j : Fin 2) (k : Fin 2048) (n : Fin 2) (hj : j.val + n.val = 0) (p : Fin 3 → ℕ) (h)
    (hp : ∀ a, p a = (ix3 d j k a).val * (![1, 1, 1] : Fin 3 → ℕ) a + ((⟨3, ![1, 2, 1]⟩ : Shape).rowMajor.symm (Fin.cast h n) a).val)
    (y : (∀ a : Fin 3, (![0, 1, 0] : Fin 3 → ℕ) a ≤ p a ∧ p a - (![0, 1, 0] : Fin 3 → ℕ) a < S2x2x2048.size a) → EReal) :
    (if hin : _ then y hin else (0 : EReal)) = 0 := by
  refine dif_neg fun hin => ?_
  have h1 := (hin 1).1
  rw [hp 1, window_at n] at h1
  change 1 ≤ j.val * 1 + n.val at h1
  omega

theorem inside (x : S2x2x2048.Idx → EReal) (d j : Fin 2) (k : Fin 2048) (n i : Fin 2) (hj : j.val + n.val = i.val + 1) (p : Fin 3 → ℕ) (h)
    (hp : ∀ a, p a = (ix3 d j k a).val * (![1, 1, 1] : Fin 3 → ℕ) a + ((⟨3, ![1, 2, 1]⟩ : Shape).rowMajor.symm (Fin.cast h n) a).val) :
    (if hin : ∀ a : Fin 3, (![0, 1, 0] : Fin 3 → ℕ) a ≤ p a ∧ p a - (![0, 1, 0] : Fin 3 → ℕ) a < S2x2x2048.size a then
      x (fun a => ⟨p a - (![0, 1, 0] : Fin 3 → ℕ) a, (hin a).2⟩) else (0 : EReal)) = x (ix3 d i k) := by
  have p0 : p 0 = d.val := by rw [hp 0, window_at n]; show d.val * 1 + 0 = _; omega
  have p1 : p 1 = i.val + 1 := by rw [hp 1, window_at n]; show j.val * 1 + n.val = _; omega
  have p2 : p 2 = k.val := by rw [hp 2, window_at n]; show k.val * 1 + 0 = _; omega
  have hd := d.isLt
  have hi := i.isLt
  have hk := k.isLt
  have hin : ∀ a : Fin 3, (![0, 1, 0] : Fin 3 → ℕ) a ≤ p a ∧ p a - (![0, 1, 0] : Fin 3 → ℕ) a < S2x2x2048.size a := by
    intro a
    match a with
    | ⟨0, _⟩ => show 0 ≤ p 0 ∧ p 0 - 0 < 2; omega
    | ⟨1, _⟩ => show 1 ≤ p 1 ∧ p 1 - 1 < 2; omega
    | ⟨2, _⟩ => show 0 ≤ p 2 ∧ p 2 - 0 < 2048; omega
  rw [dif_pos hin]
  refine congrArg x (funext fun a => Fin.ext ?_)
  match a with
  | ⟨0, _⟩ => show p 0 - 0 = d.val; omega
  | ⟨1, _⟩ => show p 1 - 1 = i.val; omega
  | ⟨2, _⟩ => show p 2 - 0 = k.val; omega

theorem running (x : S2x2x2048.Idx → EReal) (h) (d : Fin 2) (k : Fin 2048) :
    Ideal.hostReduceWindowAdd (t := S2x2x2048) ![1, 2, 1] ![1, 1, 1] ![0, 1, 0] ![0, 0, 0] h x 0 (ix3 d 0 k) = 0 + 0 + x (ix3 d 0 k)
    ∧ Ideal.hostReduceWindowAdd (t := S2x2x2048) ![1, 2, 1] ![1, 1, 1] ![0, 1, 0] ![0, 0, 0] h x 0 (ix3 d 1 k) = 0 + x (ix3 d 0 k) + x (ix3 d 1 k) := by
  unfold Ideal.hostReduceWindowAdd Host.reduceWindow
  constructor
  · refine (congrArg (List.foldl _ _) positions).trans ?_
    simp only [List.foldl_cons, List.foldl_nil]
    exact congrArg₂ (· + ·) (congrArg (0 + ·) (before x d 0 k 0 rfl _ _ (fun _ => rfl) _)) (inside x d 0 k 1 0 rfl _ _ fun _ => rfl)
  · refine (congrArg (List.foldl _ _) positions).trans ?_
    simp only [List.foldl_cons, List.foldl_nil]
    exact congrArg₂ (· + ·) (congrArg (0 + ·) (inside x d 1 k 0 0 rfl _ _ fun _ => rfl)) (inside x d 1 k 1 1 rfl _ _ fun _ => rfl)

theorem r49 (d : Fin 2) (k : Fin 2048) : val_main_v49 (F := Ideal) x3 (ix3 d 0 k) = 0 + 0 + share (logits x3 d k) 0
    ∧ val_main_v49 (F := Ideal) x3 (ix3 d 1 k) = 0 + share (logits x3 d k) 0 + share (logits x3 d k) 1 := by
  have hz : val_main_call0_call0_v0 (F := Ideal) (Shape.Idx.first Cert.ReferenceGateIdeal.Gen.h_S_) = (0 : EReal) := by
    pointwise [val_main_call0_call0_cst, val_main_call0_call0_v0]
  have e := running (val_main_v48 (F := Ideal) x3) Cert.ReferenceGateIdeal.Gen.reduceWindows_S2x2x2048_S2x2x2048_w1s1p0_0_w2s1p1_0_w1s1p0_0 d k
  rw [r48, r48] at e
  have z : val_main_v49 (F := Ideal) x3
      = Ideal.hostReduceWindowAdd (t := S2x2x2048) ![1, 2, 1] ![1, 1, 1] ![0, 1, 0] ![0, 0, 0] Cert.ReferenceGateIdeal.Gen.reduceWindows_S2x2x2048_S2x2x2048_w1s1p0_0_w2s1p1_0_w1s1p0_0 (val_main_v48 (F := Ideal) x3)
        (val_main_call0_call0_v0 (F := Ideal) (Shape.Idx.first Cert.ReferenceGateIdeal.Gen.h_S_)) := rfl
  rw [hz] at z
  rw [z]
  exact e

theorem r54 (d : Fin 2) (k : Fin 2048) : val_main_v54 (F := Ideal) x3 (ix2 d k) = lower (logits x3 d k) := by
  pointwise [val_main_v50, val_main_v51, val_main_v52, val_main_v53, val_main_v54]
  rw [← lower_of, ← (r49 x3 d k).1, ← (r49 x3 d k).2]

/-! ## The results -/

theorem r87 (b : Fin 8) (q k : Fin 2048) : val_main_v87 (F := Ideal) x0 x1 x2 x3 (ix3 b q k)
    = keep (lower (logits x3 0 k)) (Up.dot (Mix.urow x0 x1 b q) (Mix.wcol x2 ⟨2048 + k.val, by omega⟩)) := by
  pointwise [val_main_v74, val_main_v75, val_main_v76, val_main_v77, val_main_v78, val_main_v79, val_main_v80, val_main_v81, val_main_v82, val_main_v83, val_main_v84, val_main_v85, val_main_v86, val_main_v87, val_main_v34, val_main_cst_11, val_main_cst_12, val_main_cst_13]
  rw [r54, r32]
  unfold keep
  rw [one_sub_logistic]
  rfl
theorem r73 (b : Fin 8) (q k : Fin 2048) : val_main_v73 (F := Ideal) x0 x1 x2 x3 (ix3 b q k)
    = logf (lower (logits x3 0 k)) (Up.dot (Mix.urow x0 x1 b q) (Mix.wcol x2 ⟨2048 + k.val, by omega⟩)) := by
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v34, val_main_cst_8, val_main_cst_9, val_main_cst_10]
  rw [r54, r32]
  rfl
theorem r120 (b : Fin 8) (q k : Fin 2048) : val_main_v120 (F := Ideal) x0 x1 x2 x3 (ix3 b q k)
    = keep (lower (logits x3 1 k)) (Up.dot (Mix.urow x0 x1 b q) (Mix.wcol x2 ⟨4096 + k.val, by omega⟩)) := by
  pointwise [val_main_v107, val_main_v108, val_main_v109, val_main_v110, val_main_v111, val_main_v112, val_main_v113, val_main_v114, val_main_v115, val_main_v116, val_main_v117, val_main_v118, val_main_v119, val_main_v120, val_main_v35, val_main_cst_17, val_main_cst_18, val_main_cst_19]
  rw [r54, r32]
  unfold keep
  rw [one_sub_logistic]
  rfl
theorem r106 (b : Fin 8) (q k : Fin 2048) : val_main_v106 (F := Ideal) x0 x1 x2 x3 (ix3 b q k)
    = logf (lower (logits x3 1 k)) (Up.dot (Mix.urow x0 x1 b q) (Mix.wcol x2 ⟨4096 + k.val, by omega⟩)) := by
  pointwise [val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v35, val_main_cst_14, val_main_cst_15, val_main_cst_16]
  rw [r54, r32]
  rfl

/-- The column of the weights behind column `k` of the gates, and the column's two logits. -/
def gateCol (k : Fin 4096) : Fin 10240 := ⟨2048 + k.val, by omega⟩
def colLogits (k : Fin 4096) : Fin 2 → EReal := logits x3 ⟨k.val / 2048, by omega⟩ ⟨k.val % 2048, by omega⟩

/-- The row number's batch and the row's number in it. -/
theorem row_of (b : Fin 8) (q : Fin 2048) (r : Fin 16384) (hr : r.val = b.val * 2048 + q.val) (X : Fin 8 → Fin 2048 → EReal) (h1 h2) :
    X ⟨r.val / 2048, h1⟩ ⟨r.val % 2048, h2⟩ = X b q := by
  obtain ⟨r, hlt⟩ := r
  obtain ⟨b, hb⟩ := b
  obtain ⟨q, hq⟩ := q
  dsimp only at hr ⊢
  have e1 : r / 2048 = b := by omega
  have e2 : r % 2048 = q := by omega
  subst e1 e2
  rfl

theorem logits_of (k : Fin 4096) (d : Fin 2) (k' : Fin 2048) (h : k.val = d.val * 2048 + k'.val) : logits x3 d k' = colLogits x3 k :=
  congrArg₂ (logits x3) (Fin.ext (by show d.val = k.val / 2048; omega)) (Fin.ext (by show k'.val = k.val % 2048; omega))

theorem col_eq (f : EReal → EReal → EReal) (b : Fin 8) (q : Fin 2048) (k : Fin 4096) (d : Fin 2) (k' : Fin 2048) (h : k.val = d.val * 2048 + k'.val)
    (c : Fin 10240) (hc : c.val = 2048 + k.val) : f (lower (logits x3 d k')) (Up.dot (Mix.urow x0 x1 b q) (Mix.wcol x2 c))
      = f (lower (colLogits x3 k)) (Up.dot (Mix.urow x0 x1 b q) (Mix.wcol x2 (gateCol k))) := by
  rw [logits_of x3 k d k' h, show c = gateCol k from Fin.ext hc]

theorem r123 (b : Fin 8) (q : Fin 2048) (k : Fin 4096) (r : Fin 16384) (hr : r.val = b.val * 2048 + q.val) :
    val_main_v123 (F := Ideal) x0 x1 x2 x3 (ix2 r k) = keep (lower (colLogits x3 k)) (Up.dot (Mix.urow x0 x1 b q) (Mix.wcol x2 (gateCol k))) := by
  pointwise [val_main_v121, val_main_v122, val_main_v123]
  split
  · rename_i h
    refine (row_of b q r hr (fun b q => val_main_v87 (F := Ideal) x0 x1 x2 x3 (ix3 b q ⟨k.val, h⟩)) _ _).trans ?_
    exact (r87 ..).trans (col_eq _ _ _ _ keep b q k 0 _ (by dsimp only; omega) _ rfl)
  · rename_i h
    refine (row_of b q r hr (fun b q => val_main_v120 (F := Ideal) x0 x1 x2 x3 (ix3 b q ⟨k.val - 2048, by omega⟩)) _ _).trans ?_
    exact (r120 ..).trans (col_eq _ _ _ _ keep b q k 1 _ (by dsimp only; omega) _ (by dsimp only; omega))
theorem r125 (b : Fin 8) (q : Fin 2048) (k : Fin 4096) (r : Fin 16384) (hr : r.val = b.val * 2048 + q.val) :
    val_main_v125 (F := Ideal) x0 x1 x2 x3 (ix2 r k) = logf (lower (colLogits x3 k)) (Up.dot (Mix.urow x0 x1 b q) (Mix.wcol x2 (gateCol k))) := by
  pointwise [val_main_v124, val_main_v125]
  split
  · rename_i h
    refine (row_of b q r hr (fun b q => val_main_v73 (F := Ideal) x0 x1 x2 x3 (ix3 b q ⟨k.val, h⟩)) _ _).trans ?_
    exact (r73 ..).trans (col_eq _ _ _ _ logf b q k 0 _ (by dsimp only; omega) _ rfl)
  · rename_i h
    refine (row_of b q r hr (fun b q => val_main_v106 (F := Ideal) x0 x1 x2 x3 (ix3 b q ⟨k.val - 2048, by omega⟩)) _ _).trans ?_
    exact (r106 ..).trans (col_eq _ _ _ _ logf b q k 1 _ (by dsimp only; omega) _ (by dsimp only; omega))

end Cert.Proof.Gate

end
-- ==== Proof.GateWin.lean ====
/- The arrays the gates' launch stages, and its windows' blocks, as entries of the arguments. -/
module

public import proofs.«01_k».proof.Proof.GateBody
public import proofs.«01_k».proof.Proof.GateRef

@[expose] public section

set_option maxRecDepth 16384

noncomputable section

namespace Cert.Proof.Gate

open Cert.KernelGateIdeal Cert.KernelGateIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 64 := lt_of_lt_of_eq t.isLt N_0

theorem idx : ∀ t : Fin cfg0.N, win0_0.index t = ![t.val / 4, 0] ∧ win0_1.index t = ![t.val / 8, 0, 0]
    ∧ win0_2.index t = ![t.val / 8, 0, 1] ∧ win0_3.index t = ![0, t.val % 4 + 2] ∧ win0_4.index t = ![t.val % 4 / 2, 0, t.val % 4 % 2]
    ∧ win0_5.index t = ![t.val / 4, t.val % 4] ∧ win0_6.index t = ![t.val / 4, t.val % 4] :=
  (by decide +kernel : ∀ t : Fin grid0.N, _)

theorem V0 : V m c main_v0 = shapeCast S16384x2048 (m ((c.tc : Thread nD τ).loc main_arg0)) shapeCasts_S8x2048x2048_S16384x2048 := by
  unfold V; simp only [hostOps0]; after_results; try rfl
theorem V1 : V m c main_v1 = shapeCast S16x1x12288 (m ((c.tc : Thread nD τ).loc main_arg1)) shapeCasts_S16x12288_S16x1x12288 := by
  unfold V; simp only [hostOps0]; after_results; try rfl
theorem V2 : V m c main_v2 = truncf (F := Ideal) .bf16 (m ((c.tc : Thread nD τ).loc main_arg2)) bitsLt_bf16_f32 := by
  unfold V; simp only [hostOps0]; after_results; try rfl

/-- A point's batch, its row `r`'s number in the batch, and its column `k`'s number. -/
def bOf (t : Fin cfg0.N) : Fin 8 := ⟨t.val / 8, by have := lt_N t; omega⟩
def qOf (t : Fin cfg0.N) (r : Fin 1024) : Fin 2048 := ⟨t.val / 4 % 2 * 1024 + r.val, by omega⟩
def kOf (t : Fin cfg0.N) (k : Fin 1024) : Fin 4096 := ⟨t.val % 4 * 1024 + k.val, by omega⟩

theorem blk0 (t : Fin cfg0.N) (r : Fin 1024) (k : Fin 2048) : iblk m c 0 t (ix2 r k) = Mix.hrow (m ((c.tc : Thread nD τ).loc main_arg0)) (bOf t) (qOf t r) k := by
  have := lt_N t
  blk_simp [iblk]
  refine (congrFun (V0 m c) _).trans (Eq.trans (congrArg _ ?_) (Mix.rows_in _ _ (bOf t) (qOf t r) k ⟨t.val / 4 * 1024 + r.val, by omega⟩ (by simp only [bOf, qOf]; omega)))
  blk_ext [idx t]
theorem blk1 (t : Fin cfg0.N) (k : Fin 2048) : iblk m c 1 t (ix3 0 0 k) = Mix.shrow (m ((c.tc : Thread nD τ).loc main_arg1)) (bOf t) k := by
  have := lt_N t
  blk_simp [iblk]
  refine (congrFun (V1 m c) _).trans (Eq.trans (congrArg _ ?_) (Mix.chunks_in _ _ ⟨(bOf t).val, by omega⟩ ⟨k.val, by omega⟩))
  blk_ext [idx t, bOf]
theorem blk2 (t : Fin cfg0.N) (k : Fin 2048) : iblk m c 2 t (ix3 0 0 k) = Mix.scrow (m ((c.tc : Thread nD τ).loc main_arg1)) (bOf t) k := by
  have := lt_N t
  blk_simp [iblk]
  refine (congrFun (V1 m c) _).trans (Eq.trans (congrArg _ ?_) (Mix.chunks_in _ _ ⟨(bOf t).val, by omega⟩ ⟨2048 + k.val, by omega⟩))
  blk_ext [idx t, bOf]
theorem blk3 (t : Fin cfg0.N) (x : Fin 2048) (k : Fin 1024) : iblk m c 3 t (ix2 x k) = Mix.wcol (m ((c.tc : Thread nD τ).loc main_arg2)) (gateCol (kOf t k)) x := by
  have := lt_N t
  blk_simp [iblk]
  refine (congrFun (V2 m c) _).trans (congrArg (m ((c.tc : Thread nD τ).loc main_arg2)) ?_)
  blk_ext [idx t, gateCol, kOf]

theorem V3 : V m c main_arg3 = m ((c.tc : Thread nD τ).loc main_arg3) := by
  unfold V; simp only [hostOps0]; after_results; try rfl
theorem blk4 (t : Fin cfg0.N) (x : Fin 2) (k : Fin 1024) : iblk m c 4 t (ix3 0 x k) = colLogits (m ((c.tc : Thread nD τ).loc main_arg3)) (kOf t k) x := by
  have := lt_N t
  blk_simp [iblk]
  refine (congrFun (V3 m c) _).trans (congrArg (m ((c.tc : Thread nD τ).loc main_arg3)) ?_)
  blk_ext [idx t, kOf]

theorem emb5 (t : Fin cfg0.N) (r : Fin 1024) (k : Fin 1024) : ((cfg0.win 5).blk t).view.emb (ix2 r k)
    = ix2 ⟨t.val / 4 * 1024 + r.val, by have := lt_N t; omega⟩ (kOf t k) := by
  have := lt_N t
  blk_ext [idx t, kOf]
theorem emb6 (t : Fin cfg0.N) (r : Fin 1024) (k : Fin 1024) : ((cfg0.win 6).blk t).view.emb (ix2 r k)
    = ix2 ⟨t.val / 4 * 1024 + r.val, by have := lt_N t; omega⟩ (kOf t k) := by
  have := lt_N t
  blk_ext [idx t, kOf]

end Cert.Proof.Gate

end
-- ==== Proof.GateValue.lean ====
/- The gates' launch leaves what its reference computes. -/
module

public import proofs.«01_k».proof.Proof.GateWin

@[expose] public section

set_option maxRecDepth 16384

noncomputable section

namespace Cert.Proof.Gate

open Cert.KernelGateIdeal Cert.KernelGateIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves -/

theorem after_A (t : Fin cfg0.N) (h0 : t.val % 4 = 0) : outsAt0 m c t.val t.isLt
    = (keeps (k0_pay5 (iblk m c 0 t) (iblk m c 2 t) (iblk m c 1 t)) (iblk m c 3 t) (iblk m c 4 t), logfs (k0_pay5 (iblk m c 0 t) (iblk m c 2 t) (iblk m c 1 t)) (iblk m c 3 t) (iblk m c 4 t), k0_pay5 (iblk m c 0 t) (iblk m c 2 t) (iblk m c 1 t)) := by
  rw [outsAt0_A m c t h0]
  refine Prod.ext ?_ (Prod.ext ?_ ?_)
  · frame_out
    try rfl
  · frame_out
    try rfl
  · frame_out

theorem after_B (t : Fin cfg0.N) (h0 : ¬ t.val % 4 = 0) : outsAt0 m c t.val t.isLt
    = (keeps (outsAt0 m c (t.val - 1) (by omega)).2.2 (iblk m c 3 t) (iblk m c 4 t), logfs (outsAt0 m c (t.val - 1) (by omega)).2.2 (iblk m c 3 t) (iblk m c 4 t), (outsAt0 m c (t.val - 1) (by omega)).2.2) := by
  rw [outsAt0_B m c t h0]
  refine Prod.ext ?_ (Prod.ext ?_ ?_)
  · frame_out
    simp only [read_unread_whole]
  · frame_out
    simp only [read_unread_whole]
  · frame_out
    try rfl

/-! ## The rows kept between points -/

/-- The rows a point holds are its tile's, whatever its column coordinate. -/
def Kept (t : Fin cfg0.N) (u : Vec Ideal S1024x2048 .bf16) : Prop :=
  ∀ r k, u (ix2 r k) = Mix.urow (m ((c.tc : Thread nD τ).loc main_arg0)) (m ((c.tc : Thread nD τ).loc main_arg1)) (bOf t) (qOf t r) k

theorem kept_A (t : Fin cfg0.N) : Kept m c t (k0_pay5 (iblk m c 0 t) (iblk m c 2 t) (iblk m c 1 t)) := by
  intro r k
  rw [rows_at, funext (blk0 m c t r), funext (blk1 m c t), funext (blk2 m c t)]
  rfl

/-- The same, of what the launch leaves after a point. -/
theorem kept_of {t : Fin cfg0.N} {s : Vec Ideal S1024x1024 .bf16 × Vec Ideal S1024x1024 .f32 × Vec Ideal S1024x2048 .bf16} {a : Vec Ideal S1024x1024 .bf16} {d : Vec Ideal S1024x1024 .f32} {b : Vec Ideal S1024x2048 .bf16}
    (e : s = (a, d, b)) (K : Kept m c t b) : Kept m c t s.2.2 := by
  subst e
  exact K

/-- Within a row tile a point keeps what the one before it kept. -/
theorem kept_step (t s : Fin cfg0.N) (h : ¬ t.val % 4 = 0) (hs : s.val = t.val - 1) (u : Vec Ideal S1024x2048 .bf16)
    (K : Kept m c s u) : Kept m c t u := by
  have hb : bOf t = bOf s := Fin.ext (by show t.val / 8 = s.val / 8; omega)
  have hq : ∀ r, qOf t r = qOf s r := fun r => Fin.ext (by show t.val / 4 % 2 * 1024 + r.val = s.val / 4 % 2 * 1024 + r.val; omega)
  intro r k
  rw [hb, hq]
  exact K r k

theorem kept : ∀ (n : ℕ) (hn : n < cfg0.N), Kept m c ⟨n, hn⟩ (outsAt0 m c n hn).2.2 := by
  intro n
  induction n with
  | zero =>
    intro hn
    exact kept_of m c (after_A m c ⟨0, hn⟩ rfl) (kept_A m c ⟨0, hn⟩)
  | succ n ih =>
    intro hn
    by_cases h : (n + 1) % 4 = 0
    · exact kept_of m c (after_A m c ⟨n + 1, hn⟩ h) (kept_A m c ⟨n + 1, hn⟩)
    · exact kept_of m c (after_B m c ⟨n + 1, hn⟩ h) (kept_step m c ⟨n + 1, hn⟩ ⟨n, by omega⟩ h rfl _ (ih (by omega)))

/-! ## The blocks -/

/-- The reference's results, from the launch's arguments. -/
abbrev wantK : Vec Ideal S16384x4096 .bf16 := Cert.ReferenceGateIdeal.Read.val_main_v123 (F := Ideal) (m ((c.tc : Thread nD τ).loc main_arg0))
  (m ((c.tc : Thread nD τ).loc main_arg1)) (m ((c.tc : Thread nD τ).loc main_arg2)) (m ((c.tc : Thread nD τ).loc main_arg3))
abbrev wantF : Vec Ideal S16384x4096 .f32 := Cert.ReferenceGateIdeal.Read.val_main_v125 (F := Ideal) (m ((c.tc : Thread nD τ).loc main_arg0))
  (m ((c.tc : Thread nD τ).loc main_arg1)) (m ((c.tc : Thread nD τ).loc main_arg2)) (m ((c.tc : Thread nD τ).loc main_arg3))

theorem keeps_eq (t : Fin cfg0.N) (u : Vec Ideal S1024x2048 .bf16) (K : Kept m c t u) (r : Fin 1024) (k : Fin 1024) :
    keeps u (iblk m c 3 t) (iblk m c 4 t) (ix2 r k) = wantK m c (ix2 ⟨t.val / 4 * 1024 + r.val, by have := lt_N t; omega⟩ (kOf t k)) := by
  rw [keeps_at, funext (K r), funext fun x => blk3 m c t x k, funext fun x => blk4 m c t x k]
  exact (r123 _ _ _ _ (bOf t) (qOf t r) (kOf t k) _ (by simp only [bOf, qOf]; omega)).symm

theorem logfs_eq (t : Fin cfg0.N) (u : Vec Ideal S1024x2048 .bf16) (K : Kept m c t u) (r : Fin 1024) (k : Fin 1024) :
    logfs u (iblk m c 3 t) (iblk m c 4 t) (ix2 r k) = wantF m c (ix2 ⟨t.val / 4 * 1024 + r.val, by have := lt_N t; omega⟩ (kOf t k)) := by
  rw [logfs_at, funext (K r), funext fun x => blk3 m c t x k, funext fun x => blk4 m c t x k]
  exact (r125 _ _ _ _ (bOf t) (qOf t r) (kOf t k) _ (by simp only [bOf, qOf]; omega)).symm

theorem vals_of {s : Vec Ideal S1024x1024 .bf16 × Vec Ideal S1024x1024 .f32 × Vec Ideal S1024x2048 .bf16} {a : Vec Ideal S1024x1024 .bf16} {d : Vec Ideal S1024x1024 .f32} {b : Vec Ideal S1024x2048 .bf16}
    {y : S1024x1024.Idx} {v w : EReal} (e : s = (a, d, b)) (h : a y = v) (h' : d y = w) : s.1 y = v ∧ s.2.1 y = w := by
  subst e
  exact ⟨h, h'⟩

theorem at_t (t : Fin cfg0.N) (r : Fin 1024) (k : Fin 1024) :
    (outsAt0 m c t.val t.isLt).1 (ix2 r k) = wantK m c (ix2 ⟨t.val / 4 * 1024 + r.val, by have := lt_N t; omega⟩ (kOf t k))
    ∧ (outsAt0 m c t.val t.isLt).2.1 (ix2 r k) = wantF m c (ix2 ⟨t.val / 4 * 1024 + r.val, by have := lt_N t; omega⟩ (kOf t k)) := by
  by_cases h : t.val % 4 = 0
  · exact vals_of (after_A m c t h) (keeps_eq m c t _ (kept_A m c t) r k) (logfs_eq m c t _ (kept_A m c t) r k)
  · have K := kept_step m c t ⟨t.val - 1, by omega⟩ h rfl _ (kept m c (t.val - 1) (by omega))
    exact vals_of (after_B m c t h) (keeps_eq m c t _ K r k) (logfs_eq m c t _ K r k)

theorem final5 : (dats m 0 c).arrAt 5 (cfgs 0).N = wantK m c := by
  refine (dats m 0 c).arrAt_eq_of_covers 5 _ (by decide +kernel) fun t _ y => ?_
  blk_simp
  rw [after0_5]
  obtain ⟨r, d, rfl⟩ := Mix.row_ix y
  rw [emb5]
  exact (at_t m c t r d).1

theorem final6 : (dats m 0 c).arrAt 6 (cfgs 0).N = wantF m c := by
  refine (dats m 0 c).arrAt_eq_of_covers 6 _ (by decide +kernel) fun t _ y => ?_
  blk_simp
  rw [after0_6]
  obtain ⟨r, d, rfl⟩ := Mix.row_ix y
  rw [emb6]
  exact (at_t m c t r d).2

end Cert.Proof.Gate

end
-- ==== Proof.GateClaim.lean ====
/- The claims of the odd layer's forget gates. -/
module

public import proofs.«01_k».proof.Defs
public import proofs.«01_k».proof.Proof.GateValue
public import proofs.«01_k».proof.Proof.Gen.KernelGate
public import proofs.«01_k».proof.Proof.Gen.KernelGate.Launch
public import proofs.«01_k».proof.Proof.Gen.ReferenceGateIdeal.Run
public import Idealize.ShloMosaic.Lib.Claim

@[expose] public section

set_option maxRecDepth 16384

noncomputable section

namespace Cert.Proof.Gate

open Idealize.ShloMosaic Idealize.ShloMosaic.TcCoe Idealize.SL.Sem

theorem defs₀_eq : @KernelGate.defs₀ Bits _ _ = @KernelGateIdeal.defs₀ Bits _ _ := by
  unfold KernelGate.defs₀ KernelGateIdeal.defs₀
  refine congrArg Defs.onTc ?_
  funext x y
  match x, y with
  | 0, (t, s) => rfl
theorem defs_eq : @KernelGate.defs Bits _ _ = @KernelGateIdeal.defs Bits _ _ :=
  congrArg (Pipeline.defs (KernelGate.pcfgs (F := Bits))) defs₀_eq

/-- The kernel's frame: its text is the ideal kernel's. -/
theorem frame_kernel : Cert.quiescent_KernelGate (hKernelGate := Cert.KernelGate.Gen.facts) := by
  intro m ρ _
  rw [defs_eq]
  exact Cert.KernelGateIdeal.Gen.frame (F := Bits) m ρ

theorem frame_ideal : Cert.quiescent_KernelGateIdeal (hKernelGateIdeal := Cert.KernelGateIdeal.Gen.facts) :=
  fun m ρ _ => Cert.KernelGateIdeal.Gen.frame (F := Ideal) m ρ

theorem frame_ref : Cert.quiescent_ReferenceGateIdeal (hReferenceGateIdeal := Cert.ReferenceGateIdeal.Gen.facts) := fun m ρ _ =>
  (θ_run Cert.ReferenceGateIdeal.defs _ _).mono (fun r h => ⟨fun c => (h c).2.2, sem_eq_zero_of_no_sems (by decide) r.2⟩)
    (Cert.ReferenceGateIdeal.Value.run (F := Ideal) m ρ)

theorem preserves : Cert.preserves_KernelGate_KernelGateIdeal := trivial

open Cert.KernelGateIdeal Cert.KernelGateIdeal.Gen in
theorem algebraic : Cert.algebraic_KernelGateIdeal_ReferenceGateIdeal (hKernelGateIdeal := Cert.KernelGateIdeal.Gen.facts)
    (hReferenceGateIdeal := Cert.ReferenceGateIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v3_0) = wantK m c ∧ r.2.mem ((c.tc : Thread nD τ).loc main_v3_1) = wantF m c) :=
    (θ_run defs _ _).mono (fun r h c => ⟨((h c).1 5).trans (final5 m c), ((h c).1 6).trans (final6 m c)⟩) (run_main m g)
  refine ⟨wantK m, wantF m, (θ_run defs _ _).mono (fun r h c => ⟨(h.1 c).1, (h.1 c).2, h.2.1 c⟩) (θ_run_and run (frame m g)), ?_⟩
  refine (θ_run Cert.ReferenceGateIdeal.defs _ _).mono (fun r h c => ?_) (Cert.ReferenceGateIdeal.Value.run m' g')
  obtain ⟨a, b, rest⟩ := h c
  obtain ⟨g0, g1, g2, g3⟩ := hag c
  refine ⟨a.trans ?_, b.trans ?_, rest⟩
  · rw [Cert.ReferenceGateIdeal.Read.val_main_v123_eq, g0, g1, g2, g3]
  · rw [Cert.ReferenceGateIdeal.Read.val_main_v125_eq, g0, g1, g2, g3]

end Cert.Proof.Gate

end
-- ==== Proof.OutBody.lean ====
/- The odd layer's output projection, what one grid point computes. -/
module

public import proofs.«01_k».proof.Proof.Gen.KernelOutIdeal.Frame
public import proofs.«01_k».proof.Proof.DownBody

@[expose] public section

set_option maxRecDepth 16384

noncomputable section

namespace Cert.Proof.Out

open Cert.KernelOutIdeal Cert.KernelOutIdeal.Gen
open Idealize.ShloMosaic Idealize.ShloMosaic.TcCoe Idealize.SL.Sem

/-! ## A column block of a product -/

section
variable (a : Vec Ideal S256x2048 .bf16) (w : Vec Ideal S2048x512 .bf16) (r : Fin 256) (k : Fin 512)

theorem p0_0 : k0_pay2 a w (ix2 r k) = ∑ x, a (ix2 r x) * w (ix2 x k) := by pointwise [k0_pay2]
theorem p0_512 : k0_pay3 a w (ix2 r k) = ∑ x, a (ix2 r x) * w (ix2 x k) := by pointwise [k0_pay3]
theorem p0_1024 : k0_pay4 a w (ix2 r k) = ∑ x, a (ix2 r x) * w (ix2 x k) := by pointwise [k0_pay4]
theorem p0_1536 : k0_pay5 a w (ix2 r k) = ∑ x, a (ix2 r x) * w (ix2 x k) := by pointwise [k0_pay5]
theorem p256_0 : k0_pay9 a w (ix2 r k) = ∑ x, a (ix2 r x) * w (ix2 x k) := by pointwise [k0_pay9]
theorem p256_512 : k0_pay10 a w (ix2 r k) = ∑ x, a (ix2 r x) * w (ix2 x k) := by pointwise [k0_pay10]
theorem p256_1024 : k0_pay11 a w (ix2 r k) = ∑ x, a (ix2 r x) * w (ix2 x k) := by pointwise [k0_pay11]
theorem p256_1536 : k0_pay12 a w (ix2 r k) = ∑ x, a (ix2 r x) * w (ix2 x k) := by pointwise [k0_pay12]
end

/-! ## The post-norm of 256 rows -/

section
variable (h : Vec Ideal S256x2048 .f32) (gt : Vec Ideal S1x1x2048 .f32) (o : Vec Ideal S256x2048 .f32) (g b : Vec Ideal S1x2048 .f32) (r : Fin 256) (k : Fin 2048)

theorem n0 : k0_pay8 (k0_pay6 h) k0_pay7 gt o g b (ix2 r k) = Down.rowPost h gt o g b r k := by
  pointwise [k0_pay8, k0_pay7, k0_pay6]
  rfl
theorem n256 : k0_pay1 (k0_pay13 h) (k0_pay14 gt o) g b (ix2 r k) = Down.rowPost h gt o g b r k := by
  pointwise [k0_pay1, k0_pay13, k0_pay14]
  rfl
end

/-- A column block's element from what it was computed of. -/
theorem sum_of {n : ℕ} {z : EReal} {a : (⟨2, ![n, 2048]⟩ : Shape).Idx → EReal} {w : (⟨2, ![2048, 512]⟩ : Shape).Idx → EReal}
    {r : Fin n} {k : Fin 512} {A W : Fin 2048 → EReal} (p : z = ∑ x, a (ix2 r x) * w (ix2 x k))
    (ha : ∀ x, a (ix2 r x) = A x) (hw : ∀ x, w (ix2 x k) = W x) : z = ∑ x, A x * W x := by
  rw [p]
  simp only [ha, hw]

/-! ## The block -/

variable (a : Vec Ideal S512x2048 .bf16) (w : Vec Ideal S2048x2048 .bf16) (h : Vec Ideal S512x2048 .f32) (gt : Vec Ideal S1x1x2048 .f32) (g b : Vec Ideal S1x2048 .f32)

/-- Row `r` of the rows against column `k` of the weights. -/
abbrev prod (r : Fin 512) (k : Fin 2048) : EReal := ∑ x, a (ix2 r x) * w (ix2 x k)

/-- The products of the first 256 rows, as stored, and their post-norm; then the last 256 rows' products and theirs. -/
abbrev upper : List (View.Piece (Elt Ideal) S512x2048 .f32) :=
    [⟨Rect.unit ![0, 1536] ![256, 512] inb_S512x2048_S256x512_0_1536, k0_pay5 (View.ld a (Rect.unit ![0, 0] ![256, 2048] inb_S512x2048_S256x2048_0_0)) (View.ld w (Rect.unit ![0, 1536] ![2048, 512] inb_S2048x2048_S2048x512_0_1536))⟩,
     ⟨Rect.unit ![0, 1024] ![256, 512] inb_S512x2048_S256x512_0_1024, k0_pay4 (View.ld a (Rect.unit ![0, 0] ![256, 2048] inb_S512x2048_S256x2048_0_0)) (View.ld w (Rect.unit ![0, 1024] ![2048, 512] inb_S2048x2048_S2048x512_0_1024))⟩,
     ⟨Rect.unit ![0, 512] ![256, 512] inb_S512x2048_S256x512_0_512, k0_pay3 (View.ld a (Rect.unit ![0, 0] ![256, 2048] inb_S512x2048_S256x2048_0_0)) (View.ld w (Rect.unit ![0, 512] ![2048, 512] inb_S2048x2048_S2048x512_0_512))⟩,
     ⟨Rect.unit ![0, 0] ![256, 512] inb_S512x2048_S256x512_0_0, k0_pay2 (View.ld a (Rect.unit ![0, 0] ![256, 2048] inb_S512x2048_S256x2048_0_0)) (View.ld w (Rect.unit ![0, 0] ![2048, 512] inb_S2048x2048_S2048x512_0_0))⟩]
abbrev f0 : View.Piece (Elt Ideal) S512x2048 .f32 :=
  ⟨Rect.unit ![0, 0] ![256, 2048] inb_S512x2048_S256x2048_0_0, k0_pay8 (k0_pay6 (View.ld h (Rect.unit ![0, 0] ![256, 2048] inb_S512x2048_S256x2048_0_0))) k0_pay7 gt (fun j => View.canon (upper a w) ((Rect.unit (s := S512x2048) ![0, 0] ![256, 2048] inb_S512x2048_S256x2048_0_0).toLoadRect.idx j)) g b⟩
abbrev lower : List (View.Piece (Elt Ideal) S512x2048 .f32) :=
    [⟨Rect.unit ![256, 1536] ![256, 512] inb_S512x2048_S256x512_256_1536, k0_pay12 (View.ld a (Rect.unit ![256, 0] ![256, 2048] inb_S512x2048_S256x2048_256_0)) (View.ld w (Rect.unit ![0, 1536] ![2048, 512] inb_S2048x2048_S2048x512_0_1536))⟩,
     ⟨Rect.unit ![256, 1024] ![256, 512] inb_S512x2048_S256x512_256_1024, k0_pay11 (View.ld a (Rect.unit ![256, 0] ![256, 2048] inb_S512x2048_S256x2048_256_0)) (View.ld w (Rect.unit ![0, 1024] ![2048, 512] inb_S2048x2048_S2048x512_0_1024))⟩,
     ⟨Rect.unit ![256, 512] ![256, 512] inb_S512x2048_S256x512_256_512, k0_pay10 (View.ld a (Rect.unit ![256, 0] ![256, 2048] inb_S512x2048_S256x2048_256_0)) (View.ld w (Rect.unit ![0, 512] ![2048, 512] inb_S2048x2048_S2048x512_0_512))⟩,
     ⟨Rect.unit ![256, 0] ![256, 512] inb_S512x2048_S256x512_256_0, k0_pay9 (View.ld a (Rect.unit ![256, 0] ![256, 2048] inb_S512x2048_S256x2048_256_0)) (View.ld w (Rect.unit ![0, 0] ![2048, 512] inb_S2048x2048_S2048x512_0_0))⟩,
     f0 a w h gt g b] ++ upper a w
abbrev f1 : View.Piece (Elt Ideal) S512x2048 .f32 :=
  ⟨Rect.unit ![256, 0] ![256, 2048] inb_S512x2048_S256x2048_256_0, k0_pay1 (k0_pay13 (View.ld h (Rect.unit ![256, 0] ![256, 2048] inb_S512x2048_S256x2048_256_0))) (k0_pay14 gt (fun j => View.canon (lower a w h gt g b) ((Rect.unit (s := S512x2048) ![256, 0] ![256, 2048] inb_S512x2048_S256x2048_256_0).toLoadRect.idx j))) g b⟩

/-- The block a point leaves. -/
def block : Vec Ideal S512x2048 .f32 := View.canon (f1 a w h gt g b :: lower a w h gt g b)

theorem upper_at (r : Fin 512) (k : Fin 2048) (hr : r.val < 256) : View.canon (upper a w) (ix2 r k) = prod a w r k := by
  by_cases h0 : 1536 ≤ k.val
  · exact hit _ _ _ r k ⟨r.val - 0, by omega⟩ ⟨k.val - 1536, by omega⟩ (by first | omega | (dsimp only; omega)) (by first | omega | (dsimp only; omega))
      (sum_of (p0_1536 _ _ ⟨r.val - 0, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 0, by omega⟩ ⟨k.val - 1024, by omega⟩ (by first | omega | (dsimp only; omega)) (by first | omega | (dsimp only; omega))
      (sum_of (p0_1024 _ _ ⟨r.val - 0, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 0, by omega⟩ ⟨k.val - 512, by omega⟩ (by first | omega | (dsimp only; omega)) (by first | omega | (dsimp only; omega))
      (sum_of (p0_512 _ _ ⟨r.val - 0, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  exact hit _ _ _ r k ⟨r.val - 0, by omega⟩ ⟨k.val - 0, by omega⟩ (by first | omega | (dsimp only; omega)) (by first | omega | (dsimp only; omega))
      (sum_of (p0_0 _ _ ⟨r.val - 0, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))))

theorem lower_at (r : Fin 512) (k : Fin 2048) (hr : 256 ≤ r.val) : View.canon (lower a w h gt g b) (ix2 r k) = prod a w r k := by
  by_cases h0 : 1536 ≤ k.val
  · exact hit _ _ _ r k ⟨r.val - 256, by omega⟩ ⟨k.val - 1536, by omega⟩ (by first | omega | (dsimp only; omega)) (by first | omega | (dsimp only; omega))
      (sum_of (p256_1536 _ _ ⟨r.val - 256, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 256, by omega⟩ ⟨k.val - 1024, by omega⟩ (by first | omega | (dsimp only; omega)) (by first | omega | (dsimp only; omega))
      (sum_of (p256_1024 _ _ ⟨r.val - 256, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 256, by omega⟩ ⟨k.val - 512, by omega⟩ (by first | omega | (dsimp only; omega)) (by first | omega | (dsimp only; omega))
      (sum_of (p256_512 _ _ ⟨r.val - 256, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  exact hit _ _ _ r k ⟨r.val - 256, by omega⟩ ⟨k.val - 0, by omega⟩ (by first | omega | (dsimp only; omega)) (by first | omega | (dsimp only; omega))
      (sum_of (p256_0 _ _ ⟨r.val - 256, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))))

theorem block_at (r : Fin 512) (k : Fin 2048) : block a w h gt g b (ix2 r k)
    = Down.post (fun x => h (ix2 r x)) (fun x => gt (ix3 0 0 x)) (fun x => prod a w r x) (fun x => g (ix2 0 x)) (fun x => b (ix2 0 x)) k := by
  unfold block
  by_cases h1 : 256 ≤ r.val
  · exact hit _ _ _ r k ⟨r.val - 256, by omega⟩ k (by first | omega | (dsimp only; omega)) (by first | omega | (dsimp only; omega))
      (Down.post_of (n256 _ _ _ _ _ ⟨r.val - 256, by omega⟩ k) (fun x => ld2 _ _ _ _ r x (by first | omega | (dsimp only; omega)) (by first | omega | (dsimp only; omega)))
        (fun x => (rd2 _ _ _ _ r (by first | omega | (dsimp only; omega))).trans (lower_at a w h gt g b r x h1)))
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  exact hit _ _ _ r k ⟨r.val - 0, by omega⟩ k (by first | omega | (dsimp only; omega)) (by first | omega | (dsimp only; omega))
      (Down.post_of (n0 _ _ _ _ _ ⟨r.val - 0, by omega⟩ k) (fun x => ld2 _ _ _ _ r x (by first | omega | (dsimp only; omega)) (by first | omega | (dsimp only; omega)))
        (fun x => (rd2 _ _ _ _ r (by first | omega | (dsimp only; omega))).trans (upper_at a w r x (by omega))))

end Cert.Proof.Out

end
-- ==== Proof.OutRef.lean ====
/- The reference of the odd layer's output projection, element by element. -/
module

public import proofs.«01_k».proof.Proof.Gen.ReferenceOutIdeal.Read
public import proofs.«01_k».proof.Proof.DownRow
public import proofs.«01_k».proof.Proof.MixRow

@[expose] public section

set_option maxRecDepth 16384

noncomputable section

namespace Cert.Proof.Out

open Cert.ReferenceOutIdeal Cert.ReferenceOutIdeal.Read
open Idealize.ShloMosaic Idealize.ShloMosaic.TcCoe

variable (x0 : (⟨S16384x2048, .bf16⟩ : BufTy).Contents (Elt Ideal)) (x1 : (⟨S8x2048x2048, .f32⟩ : BufTy).Contents (Elt Ideal))
  (x2 : (⟨S16x12288, .f32⟩ : BufTy).Contents (Elt Ideal)) (x3 : (⟨S2048x2048, .f32⟩ : BufTy).Contents (Elt Ideal))
  (x4 x5 : (⟨S2048, .f32⟩ : BufTy).Contents (Elt Ideal))

/-- Row `r` of the mixer's output against column `k` of the weights. -/
def mix (r : Fin 16384) (k : Fin 2048) : EReal := ∑ x, x0 (ix2 r x) * x3 (ix2 x k)

/-- The flattened row of batch `b` and position `q`. -/
def flat (b : Fin 8) (q : Fin 2048) : Fin 16384 := ⟨b.val * 2048 + q.val, by omega⟩

theorem e10 (b : Fin 8) (q k : Fin 2048) : val_main_v10 (F := Ideal) x0 x3 (ix3 b q k) = mix x0 x3 (flat b q) k := by
  pointwise [val_main_v8, val_main_v9, val_main_v10]
  rfl

theorem e15 (b : Fin 8) (q k : Fin 2048) : val_main_v15 (F := Ideal) x0 x1 x2 x3 (ix3 b q k)
    = Ideal.ofBits .f32 0x3FB504F3#32 * Mix.hrow x1 b q k + Mix.gtrow x2 b k * mix x0 x3 (flat b q) k := by
  pointwise [val_main_v0, val_main_v1, val_main_v4, val_main_v11, val_main_v12, val_main_v13, val_main_v14, val_main_v15, val_main_cst]
  rw [e10]
  rfl

theorem e40 (b : Fin 8) (q k : Fin 2048) (r : Fin 16384) (hr : r.val = b.val * 2048 + q.val) :
    val_main_v40 (F := Ideal) x0 x1 x2 x3 x4 x5 (ix2 r k)
      = Down.post (Mix.hrow x1 b q) (Mix.gtrow x2 b) (mix x0 x3 r) (fun k => x4 (ix1 k)) (fun k => x5 (ix1 k)) k := by
  obtain rfl : r = flat b q := Fin.ext hr
  unfold flat
  pointwise [val_main_cst_0, val_main_cst_1, val_main_cst_2, val_main_cst_3, val_main_cst_4, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40]
  simp only [e15]
  rfl

end Cert.Proof.Out

end
-- ==== Proof.OutWin.lean ====
/- The arrays the odd layer's output projection stages, and its windows' blocks, as entries of the arguments. -/
module

public import proofs.«01_k».proof.Proof.OutBody
public import proofs.«01_k».proof.Proof.OutRef

@[expose] public section

set_option maxRecDepth 16384

noncomputable section

namespace Cert.Proof.Out

open Cert.KernelOutIdeal Cert.KernelOutIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 32 := lt_of_lt_of_eq t.isLt N_0

theorem idx : ∀ t : Fin cfg0.N, win0_0.index t = ![t.val, 0] ∧ win0_1.index t = ![0, 0] ∧ win0_2.index t = ![t.val, 0] ∧ win0_3.index t = ![t.val / 4, 0, 2] ∧ win0_4.index t = ![0, 0] ∧ win0_5.index t = ![0, 0] ∧ win0_6.index t = ![t.val, 0] :=
  (by decide +kernel : ∀ t : Fin grid0.N, _)

theorem V0 : V m c main_v0 = truncf (F := Ideal) .bf16 (m ((c.tc : Thread nD τ).loc main_arg3)) bitsLt_bf16_f32 := by
  unfold V; simp only [hostOps0]; after_results; try rfl
theorem V1 : V m c main_v1 = shapeCast S16384x2048 (m ((c.tc : Thread nD τ).loc main_arg1)) shapeCasts_S8x2048x2048_S16384x2048 := by
  unfold V; simp only [hostOps0]; after_results; try rfl
theorem V2 : V m c main_v2 = shapeCast S16x1x12288 (m ((c.tc : Thread nD τ).loc main_arg2)) shapeCasts_S16x12288_S16x1x12288 := by
  unfold V; simp only [hostOps0]; after_results; try rfl
theorem V3 : V m c main_v3 = shapeCast S1x2048 (m ((c.tc : Thread nD τ).loc main_arg4)) shapeCasts_S2048_S1x2048 := by
  unfold V; simp only [hostOps0]; after_results; try rfl
theorem V4 : V m c main_v4 = shapeCast S1x2048 (m ((c.tc : Thread nD τ).loc main_arg5)) shapeCasts_S2048_S1x2048 := by
  unfold V; simp only [hostOps0]; after_results; try rfl
theorem Va : V m c main_arg0 = m ((c.tc : Thread nD τ).loc main_arg0) := by
  unfold V; simp only [hostOps0]; after_results; try rfl

/-- A point's batch, its row `r`'s number in the batch and among all rows. -/
def bOf (t : Fin cfg0.N) : Fin 8 := ⟨t.val / 4, by have := lt_N t; omega⟩
def qOf (t : Fin cfg0.N) (r : Fin 512) : Fin 2048 := ⟨t.val % 4 * 512 + r.val, by omega⟩
def rOf (t : Fin cfg0.N) (r : Fin 512) : Fin 16384 := ⟨t.val * 512 + r.val, by have := lt_N t; omega⟩

theorem blk0 (t : Fin cfg0.N) (r : Fin 512) (x : Fin 2048) : iblk m c 0 t (ix2 r x) = m ((c.tc : Thread nD τ).loc main_arg0) (ix2 (rOf t r) x) := by
  have := lt_N t
  blk_simp [iblk]
  refine (congrFun (Va m c) _).trans (congrArg (m ((c.tc : Thread nD τ).loc main_arg0)) ?_)
  blk_ext [idx t, rOf]
theorem blk1 (t : Fin cfg0.N) (x k : Fin 2048) : iblk m c 1 t (ix2 x k) = m ((c.tc : Thread nD τ).loc main_arg3) (ix2 x k) := by
  blk_simp [iblk]
  refine (congrFun (V0 m c) _).trans (congrArg (m ((c.tc : Thread nD τ).loc main_arg3)) ?_)
  blk_ext [idx t]
theorem blk2 (t : Fin cfg0.N) (r : Fin 512) (k : Fin 2048) : iblk m c 2 t (ix2 r k) = Mix.hrow (m ((c.tc : Thread nD τ).loc main_arg1)) (bOf t) (qOf t r) k := by
  have := lt_N t
  blk_simp [iblk]
  refine (congrFun (V1 m c) _).trans (Eq.trans (congrArg _ ?_) (Mix.rows_in _ _ (bOf t) (qOf t r) k (rOf t r) (by simp only [bOf, qOf, rOf]; omega)))
  blk_ext [idx t, rOf]
theorem blk3 (t : Fin cfg0.N) (k : Fin 2048) : iblk m c 3 t (ix3 0 0 k) = Mix.gtrow (m ((c.tc : Thread nD τ).loc main_arg2)) (bOf t) k := by
  have := lt_N t
  blk_simp [iblk]
  refine (congrFun (V2 m c) _).trans (Eq.trans (congrArg _ ?_) (Mix.chunks_in _ _ ⟨(bOf t).val, by omega⟩ ⟨4096 + k.val, by omega⟩))
  blk_ext [idx t, bOf]
theorem blk4 (t : Fin cfg0.N) (k : Fin 2048) : iblk m c 4 t (ix2 0 k) = m ((c.tc : Thread nD τ).loc main_arg4) (ix1 k) := by
  blk_simp [iblk]
  refine (congrFun (V3 m c) _).trans (Eq.trans (congrArg _ ?_) (Mix.vec_in _ _ k))
  blk_ext [idx t]
theorem blk5 (t : Fin cfg0.N) (k : Fin 2048) : iblk m c 5 t (ix2 0 k) = m ((c.tc : Thread nD τ).loc main_arg5) (ix1 k) := by
  blk_simp [iblk]
  refine (congrFun (V4 m c) _).trans (Eq.trans (congrArg _ ?_) (Mix.vec_in _ _ k))
  blk_ext [idx t]

theorem emb6 (t : Fin cfg0.N) (r : Fin 512) (k : Fin 2048) : ((cfg0.win 6).blk t).view.emb (ix2 r k) = ix2 (rOf t r) k := by
  have := lt_N t
  blk_ext [idx t, rOf]

end Cert.Proof.Out

end
-- ==== Proof.OutValue.lean ====
/- The odd layer's output projection leaves what its reference computes. -/
module

public import proofs.«01_k».proof.Proof.OutWin

@[expose] public section

set_option maxRecDepth 16384

noncomputable section

namespace Cert.Proof.Out

open Cert.KernelOutIdeal Cert.KernelOutIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- What a point leaves. -/
theorem after (t : Fin cfg0.N) : outsAt0 m c t = block (iblk m c 0 t) (iblk m c 1 t) (iblk m c 2 t) (iblk m c 3 t) (iblk m c 4 t) (iblk m c 5 t) := by
  unfold outsAt0 out0_A_6
  frame_out
  simp only [View.readCov_eq_canon']
  rfl

/-- The reference's result, from the launch's arguments. -/
abbrev want : Vec Ideal S16384x2048 .f32 := Cert.ReferenceOutIdeal.Read.val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem prod_eq (t : Fin cfg0.N) (r : Fin 512) (k : Fin 2048) : prod (iblk m c 0 t) (iblk m c 1 t) r k = mix (m ((c.tc : Thread nD τ).loc main_arg0)) (m ((c.tc : Thread nD τ).loc main_arg3)) (rOf t r) k := by
  unfold mix
  refine Finset.sum_congr rfl fun x _ => ?_
  rw [blk0, blk1]

theorem block_eq (t : Fin cfg0.N) (r : Fin 512) (k : Fin 2048) :
    block (iblk m c 0 t) (iblk m c 1 t) (iblk m c 2 t) (iblk m c 3 t) (iblk m c 4 t) (iblk m c 5 t) (ix2 r k) = want m c (ix2 (rOf t r) k) := by
  rw [block_at, funext (blk2 m c t r), funext (blk3 m c t), funext (blk4 m c t), funext (blk5 m c t), funext (prod_eq m c t r)]
  exact (e40 _ _ _ _ _ _ (bOf t) (qOf t r) k (rOf t r) (by simp only [bOf, qOf, rOf]; omega)).symm

theorem val_of {s a : Vec Ideal S512x2048 .f32} {y : S512x2048.Idx} {w : EReal} (e : s = a) (h : a y = w) : s y = w := by
  subst e
  exact h

theorem final6 : (dats m 0 c).arrAt 6 (cfgs 0).N = want m c := by
  refine (dats m 0 c).arrAt_eq_of_covers 6 _ (by decide +kernel) fun t _ y => ?_
  blk_simp
  rw [after0_6]
  obtain ⟨r, d, rfl⟩ := Mix.row_ix y
  rw [emb6]
  exact val_of (after m c t) (block_eq m c t r d)

end Cert.Proof.Out

end
-- ==== Proof.OutClaim.lean ====
/- The claims of the odd layer's output projection. -/
module

public import proofs.«01_k».proof.Defs
public import proofs.«01_k».proof.Proof.OutValue
public import proofs.«01_k».proof.Proof.Gen.KernelOut
public import proofs.«01_k».proof.Proof.Gen.KernelOut.Launch
public import proofs.«01_k».proof.Proof.Gen.ReferenceOutIdeal.Run
public import Idealize.ShloMosaic.Lib.Claim

@[expose] public section

set_option maxRecDepth 16384

noncomputable section

namespace Cert.Proof.Out

open Idealize.ShloMosaic Idealize.ShloMosaic.TcCoe Idealize.SL.Sem

theorem defs₀_eq : @KernelOut.defs₀ Bits _ _ = @KernelOutIdeal.defs₀ Bits _ _ := by
  unfold KernelOut.defs₀ KernelOutIdeal.defs₀
  refine congrArg Defs.onTc ?_
  funext x y
  match x, y with
  | 0, (t, s) => rfl
theorem defs_eq : @KernelOut.defs Bits _ _ = @KernelOutIdeal.defs Bits _ _ :=
  congrArg (Pipeline.defs (KernelOut.pcfgs (F := Bits))) defs₀_eq

/-- The kernel's frame: its text is the ideal kernel's. -/
theorem frame_kernel : Cert.quiescent_KernelOut (hKernelOut := Cert.KernelOut.Gen.facts) := by
  intro m ρ _
  rw [defs_eq]
  exact Cert.KernelOutIdeal.Gen.frame (F := Bits) m ρ

theorem frame_ideal : Cert.quiescent_KernelOutIdeal (hKernelOutIdeal := Cert.KernelOutIdeal.Gen.facts) :=
  fun m ρ _ => Cert.KernelOutIdeal.Gen.frame (F := Ideal) m ρ

theorem frame_ref : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem preserves : Cert.preserves_KernelOut_KernelOutIdeal := trivial

open Cert.KernelOutIdeal Cert.KernelOutIdeal.Gen in
theorem algebraic : Cert.algebraic_KernelOutIdeal_ReferenceOutIdeal (hKernelOutIdeal := Cert.KernelOutIdeal.Gen.facts)
    (hReferenceOutIdeal := Cert.ReferenceOutIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v5) = want m c) :=
    (θ_run defs _ _).mono (fun r h c => ((h c).1 6).trans (final6 m c)) (run_main m g)
  refine ⟨want m, (θ_run defs _ _).mono (fun r h c => ⟨h.1 c, h.2.1 c⟩) (θ_run_and run (frame m g)), ?_⟩
  refine (θ_run Cert.ReferenceOutIdeal.defs _ _).mono (fun r h c => ?_) (Cert.ReferenceOutIdeal.Value.run m' g')
  obtain ⟨a, rest⟩ := h c
  obtain ⟨g0, g1, g2, g3, g4, g5⟩ := hag c
  refine ⟨a.trans ?_, rest⟩
  rw [Cert.ReferenceOutIdeal.Read.val_main_v40_eq, g0, g1, g2, g3, g4, g5]

end Cert.Proof.Out

end
-- ==== Proof.MergeBody.lean ====
/- The even layer's output projection, what one grid point computes. -/
module

public import proofs.«01_k».proof.Proof.Gen.KernelMergeIdeal.Frame
public import proofs.«01_k».proof.Proof.DownBody

@[expose] public section

set_option maxRecDepth 16384

noncomputable section

namespace Cert.Proof.Merge

open Cert.KernelMergeIdeal Cert.KernelMergeIdeal.Gen
open Idealize.ShloMosaic Idealize.ShloMosaic.TcCoe Idealize.SL.Sem

/-! ## A column block of a product -/

section
variable (a : Vec Ideal S256x1536 .bf16) (w : Vec Ideal S1536x512 .bf16) (f : Vec Ideal S256x512 .bf16) (v : Vec Ideal S512x512 .bf16) (r : Fin 256) (k : Fin 512)

theorem p0_0 : k0_pay1 a w f v (ix2 r k) = (∑ x, a (ix2 r x) * w (ix2 x k)) + ∑ x, f (ix2 r x) * v (ix2 x k) := by pointwise [k0_pay1]
theorem p0_512 : k0_pay2 a w f v (ix2 r k) = (∑ x, a (ix2 r x) * w (ix2 x k)) + ∑ x, f (ix2 r x) * v (ix2 x k) := by pointwise [k0_pay2]
theorem p0_1024 : k0_pay4 (k0_pay3 a w) f v (ix2 r k) = (∑ x, a (ix2 r x) * w (ix2 x k)) + ∑ x, f (ix2 r x) * v (ix2 x k) := by pointwise [k0_pay4, k0_pay3]
theorem p0_1536 : k0_pay5 a w f v (ix2 r k) = (∑ x, a (ix2 r x) * w (ix2 x k)) + ∑ x, f (ix2 r x) * v (ix2 x k) := by pointwise [k0_pay5]
theorem p256_0 : k0_pay9 a w f v (ix2 r k) = (∑ x, a (ix2 r x) * w (ix2 x k)) + ∑ x, f (ix2 r x) * v (ix2 x k) := by pointwise [k0_pay9]
theorem p256_512 : k0_pay11 a (k0_pay10 w) f v (ix2 r k) = (∑ x, a (ix2 r x) * w (ix2 x k)) + ∑ x, f (ix2 r x) * v (ix2 x k) := by pointwise [k0_pay11, k0_pay10]
theorem p256_1024 : k0_pay12 a w f v (ix2 r k) = (∑ x, a (ix2 r x) * w (ix2 x k)) + ∑ x, f (ix2 r x) * v (ix2 x k) := by pointwise [k0_pay12]
theorem p256_1536 : k0_pay13 a w f v (ix2 r k) = (∑ x, a (ix2 r x) * w (ix2 x k)) + ∑ x, f (ix2 r x) * v (ix2 x k) := by pointwise [k0_pay13]
end

/-! ## The post-norm of 256 rows -/

section
variable (h : Vec Ideal S256x2048 .f32) (gt : Vec Ideal S1x1x2048 .f32) (o : Vec Ideal S256x2048 .f32) (g b : Vec Ideal S1x2048 .f32) (r : Fin 256) (k : Fin 2048)

theorem n0 : k0_pay8 (k0_pay6 h gt o) (k0_pay7 h gt o) g b (ix2 r k) = Down.rowPost h gt o g b r k := by
  pointwise [k0_pay8, k0_pay7, k0_pay6]
  rfl
theorem n256 : k0_pay14 h gt o g b (ix2 r k) = Down.rowPost h gt o g b r k := by
  pointwise [k0_pay14]
  rfl
end

/-- A column block's element from what it was computed of. -/
theorem sum_of {n : ℕ} {z : EReal} {a : (⟨2, ![n, 1536]⟩ : Shape).Idx → EReal} {w : (⟨2, ![1536, 512]⟩ : Shape).Idx → EReal}
    {f : (⟨2, ![n, 512]⟩ : Shape).Idx → EReal} {v : (⟨2, ![512, 512]⟩ : Shape).Idx → EReal}
    {r : Fin n} {k : Fin 512} {A W : Fin 1536 → EReal} {F V : Fin 512 → EReal} (p : z = (∑ x, a (ix2 r x) * w (ix2 x k)) + ∑ x, f (ix2 r x) * v (ix2 x k))
    (ha : ∀ x, a (ix2 r x) = A x) (hw : ∀ x, w (ix2 x k) = W x) (hf : ∀ x, f (ix2 r x) = F x) (hv : ∀ x, v (ix2 x k) = V x) :
    z = (∑ x, A x * W x) + ∑ x, F x * V x := by
  rw [p]
  simp only [ha, hw, hf, hv]

/-! ## The block -/

variable (a : Vec Ideal S512x1536 .bf16) (w : Vec Ideal S1536x2048 .bf16) (f : Vec Ideal S512x512 .bf16) (v : Vec Ideal S512x2048 .bf16) (h : Vec Ideal S512x2048 .f32) (gt : Vec Ideal S1x1x2048 .f32) (g b : Vec Ideal S1x2048 .f32)

/-- Row `r` of the rows against column `k` of the weights. -/
abbrev prod (r : Fin 512) (k : Fin 2048) : EReal := (∑ x, a (ix2 r x) * w (ix2 x k)) + ∑ x, f (ix2 r x) * v (ix2 x k)

/-- The products of the first 256 rows, as stored, and their post-norm; then the last 256 rows' products and theirs. -/
abbrev upper : List (View.Piece (Elt Ideal) S512x2048 .f32) :=
    [⟨Rect.unit ![0, 1536] ![256, 512] inb_S512x2048_S256x512_0_1536, k0_pay5 (View.ld a (Rect.unit ![0, 0] ![256, 1536] inb_S512x1536_S256x1536_0_0)) (View.ld w (Rect.unit ![0, 1536] ![1536, 512] inb_S1536x2048_S1536x512_0_1536)) (View.ld f (Rect.unit ![0, 0] ![256, 512] inb_S512x512_S256x512_0_0)) (View.ld v (Rect.unit ![0, 1536] ![512, 512] inb_S512x2048_S512x512_0_1536))⟩,
     ⟨Rect.unit ![0, 1024] ![256, 512] inb_S512x2048_S256x512_0_1024, k0_pay4 (k0_pay3 (View.ld a (Rect.unit ![0, 0] ![256, 1536] inb_S512x1536_S256x1536_0_0)) (View.ld w (Rect.unit ![0, 1024] ![1536, 512] inb_S1536x2048_S1536x512_0_1024))) (View.ld f (Rect.unit ![0, 0] ![256, 512] inb_S512x512_S256x512_0_0)) (View.ld v (Rect.unit ![0, 1024] ![512, 512] inb_S512x2048_S512x512_0_1024))⟩,
     ⟨Rect.unit ![0, 512] ![256, 512] inb_S512x2048_S256x512_0_512, k0_pay2 (View.ld a (Rect.unit ![0, 0] ![256, 1536] inb_S512x1536_S256x1536_0_0)) (View.ld w (Rect.unit ![0, 512] ![1536, 512] inb_S1536x2048_S1536x512_0_512)) (View.ld f (Rect.unit ![0, 0] ![256, 512] inb_S512x512_S256x512_0_0)) (View.ld v (Rect.unit ![0, 512] ![512, 512] inb_S512x2048_S512x512_0_512))⟩,
     ⟨Rect.unit ![0, 0] ![256, 512] inb_S512x2048_S256x512_0_0, k0_pay1 (View.ld a (Rect.unit ![0, 0] ![256, 1536] inb_S512x1536_S256x1536_0_0)) (View.ld w (Rect.unit ![0, 0] ![1536, 512] inb_S1536x2048_S1536x512_0_0)) (View.ld f (Rect.unit ![0, 0] ![256, 512] inb_S512x512_S256x512_0_0)) (View.ld v (Rect.unit ![0, 0] ![512, 512] inb_S512x2048_S512x512_0_0))⟩]
abbrev f0 : View.Piece (Elt Ideal) S512x2048 .f32 :=
  ⟨Rect.unit ![0, 0] ![256, 2048] inb_S512x2048_S256x2048_0_0, k0_pay8 (k0_pay6 (View.ld h (Rect.unit ![0, 0] ![256, 2048] inb_S512x2048_S256x2048_0_0)) gt (fun j => View.canon (upper a w f v) ((Rect.unit (s := S512x2048) ![0, 0] ![256, 2048] inb_S512x2048_S256x2048_0_0).toLoadRect.idx j))) (k0_pay7 (View.ld h (Rect.unit ![0, 0] ![256, 2048] inb_S512x2048_S256x2048_0_0)) gt (fun j => View.canon (upper a w f v) ((Rect.unit (s := S512x2048) ![0, 0] ![256, 2048] inb_S512x2048_S256x2048_0_0).toLoadRect.idx j))) g b⟩
abbrev lower : List (View.Piece (Elt Ideal) S512x2048 .f32) :=
    [⟨Rect.unit ![256, 1536] ![256, 512] inb_S512x2048_S256x512_256_1536, k0_pay13 (View.ld a (Rect.unit ![256, 0] ![256, 1536] inb_S512x1536_S256x1536_256_0)) (View.ld w (Rect.unit ![0, 1536] ![1536, 512] inb_S1536x2048_S1536x512_0_1536)) (View.ld f (Rect.unit ![256, 0] ![256, 512] inb_S512x512_S256x512_256_0)) (View.ld v (Rect.unit ![0, 1536] ![512, 512] inb_S512x2048_S512x512_0_1536))⟩,
     ⟨Rect.unit ![256, 1024] ![256, 512] inb_S512x2048_S256x512_256_1024, k0_pay12 (View.ld a (Rect.unit ![256, 0] ![256, 1536] inb_S512x1536_S256x1536_256_0)) (View.ld w (Rect.unit ![0, 1024] ![1536, 512] inb_S1536x2048_S1536x512_0_1024)) (View.ld f (Rect.unit ![256, 0] ![256, 512] inb_S512x512_S256x512_256_0)) (View.ld v (Rect.unit ![0, 1024] ![512, 512] inb_S512x2048_S512x512_0_1024))⟩,
     ⟨Rect.unit ![256, 512] ![256, 512] inb_S512x2048_S256x512_256_512, k0_pay11 (View.ld a (Rect.unit ![256, 0] ![256, 1536] inb_S512x1536_S256x1536_256_0)) (k0_pay10 (View.ld w (Rect.unit ![0, 512] ![1536, 512] inb_S1536x2048_S1536x512_0_512))) (View.ld f (Rect.unit ![256, 0] ![256, 512] inb_S512x512_S256x512_256_0)) (View.ld v (Rect.unit ![0, 512] ![512, 512] inb_S512x2048_S512x512_0_512))⟩,
     ⟨Rect.unit ![256, 0] ![256, 512] inb_S512x2048_S256x512_256_0, k0_pay9 (View.ld a (Rect.unit ![256, 0] ![256, 1536] inb_S512x1536_S256x1536_256_0)) (View.ld w (Rect.unit ![0, 0] ![1536, 512] inb_S1536x2048_S1536x512_0_0)) (View.ld f (Rect.unit ![256, 0] ![256, 512] inb_S512x512_S256x512_256_0)) (View.ld v (Rect.unit ![0, 0] ![512, 512] inb_S512x2048_S512x512_0_0))⟩,
     f0 a w f v h gt g b] ++ upper a w f v
abbrev f1 : View.Piece (Elt Ideal) S512x2048 .f32 :=
  ⟨Rect.unit ![256, 0] ![256, 2048] inb_S512x2048_S256x2048_256_0, k0_pay14 (View.ld h (Rect.unit ![256, 0] ![256, 2048] inb_S512x2048_S256x2048_256_0)) gt (fun j => View.canon (lower a w f v h gt g b) ((Rect.unit (s := S512x2048) ![256, 0] ![256, 2048] inb_S512x2048_S256x2048_256_0).toLoadRect.idx j)) g b⟩

/-- The block a point leaves. -/
def block : Vec Ideal S512x2048 .f32 := View.canon (f1 a w f v h gt g b :: lower a w f v h gt g b)

theorem upper_at (r : Fin 512) (k : Fin 2048) (hr : r.val < 256) : View.canon (upper a w f v) (ix2 r k) = prod a w f v r k := by
  by_cases h0 : 1536 ≤ k.val
  · exact hit _ _ _ r k ⟨r.val - 0, by omega⟩ ⟨k.val - 1536, by omega⟩ (by first | omega | (dsimp only; omega)) (by first | omega | (dsimp only; omega))
      (sum_of (p0_1536 _ _ _ _ ⟨r.val - 0, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 0, by omega⟩ ⟨k.val - 1024, by omega⟩ (by first | omega | (dsimp only; omega)) (by first | omega | (dsimp only; omega))
      (sum_of (p0_1024 _ _ _ _ ⟨r.val - 0, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 0, by omega⟩ ⟨k.val - 512, by omega⟩ (by first | omega | (dsimp only; omega)) (by first | omega | (dsimp only; omega))
      (sum_of (p0_512 _ _ _ _ ⟨r.val - 0, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  exact hit _ _ _ r k ⟨r.val - 0, by omega⟩ ⟨k.val - 0, by omega⟩ (by first | omega | (dsimp only; omega)) (by first | omega | (dsimp only; omega))
      (sum_of (p0_0 _ _ _ _ ⟨r.val - 0, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))

theorem lower_at (r : Fin 512) (k : Fin 2048) (hr : 256 ≤ r.val) : View.canon (lower a w f v h gt g b) (ix2 r k) = prod a w f v r k := by
  by_cases h0 : 1536 ≤ k.val
  · exact hit _ _ _ r k ⟨r.val - 256, by omega⟩ ⟨k.val - 1536, by omega⟩ (by first | omega | (dsimp only; omega)) (by first | omega | (dsimp only; omega))
      (sum_of (p256_1536 _ _ _ _ ⟨r.val - 256, by omega⟩ ⟨k.val - 1536, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h1 : 1024 ≤ k.val
  · exact hit _ _ _ r k ⟨r.val - 256, by omega⟩ ⟨k.val - 1024, by omega⟩ (by first | omega | (dsimp only; omega)) (by first | omega | (dsimp only; omega))
      (sum_of (p256_1024 _ _ _ _ ⟨r.val - 256, by omega⟩ ⟨k.val - 1024, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  by_cases h2 : 512 ≤ k.val
  · exact hit _ _ _ r k ⟨r.val - 256, by omega⟩ ⟨k.val - 512, by omega⟩ (by first | omega | (dsimp only; omega)) (by first | omega | (dsimp only; omega))
      (sum_of (p256_512 _ _ _ _ ⟨r.val - 256, by omega⟩ ⟨k.val - 512, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))
  refine miss _ _ _ r k (by first | omega | (dsimp only; omega)) ?_
  exact hit _ _ _ r k ⟨r.val - 256, by omega⟩ ⟨k.val - 0, by omega⟩ (by first | omega | (dsimp only; omega)) (by first | omega | (dsimp only; omega))
      (sum_of (p256_0 _ _ _ _ ⟨r.val - 256, by omega⟩ ⟨k.val - 0, by omega⟩) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))) (fun x => ld2 _ _ _ _ _ _ (by first | omega | (dsimp only; omega)) (by first | omega | (dsimp only; omega))))

theorem block_at (r : Fin 512) (k : Fin 2048) : block a w f v h gt g b (ix2 r k)
    = Down.post (fun x => h (ix2 r x)) (fun x => gt (ix3 0 0 x)) (fun x => prod a w f v r x) (fun x => g (ix2 0 x)) (fun x => b (ix2 0 x)) k := by
  unfold block
  by_cases h1 : 256 ≤ r.val
  · exact hit _ _ _ r k ⟨r.val - 256, by omega⟩ k (by first | omega | (dsimp only; omega)) (by first | omega | (dsimp only; omega))
      (Down.post_of (n256 _ _ _ _ _ ⟨r.val - 256, by omega⟩ k) (fun x => ld2 _ _ _ _ r x (by first | omega | (dsimp only; omega)) (by first | omega | (dsimp only; omega)))
        (fun x => (rd2 _ _ _ _ r (by first | omega | (dsimp only; omega))).trans (lower_at a w f v h gt g b r x h1)))
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  refine miss _ _ _ r k (by first | omega | (dsimp only; omega)) ?_
  exact hit _ _ _ r k ⟨r.val - 0, by omega⟩ k (by first | omega | (dsimp only; omega)) (by first | omega | (dsimp only; omega))
      (Down.post_of (n0 _ _ _ _ _ ⟨r.val - 0, by omega⟩ k) (fun x => ld2 _ _ _ _ r x (by first | omega | (dsimp only; omega)) (by first | omega | (dsimp only; omega)))
        (fun x => (rd2 _ _ _ _ r (by first | omega | (dsimp only; omega))).trans (upper_at a w f v r x (by omega))))

end Cert.Proof.Merge

end
-- ==== Proof.MergeRef.lean ====
/- The reference of the even layer's output projection, element by element. -/
module

public import proofs.«01_k».proof.Proof.Gen.ReferenceMergeIdeal.Read
public import proofs.«01_k».proof.Proof.DownRow
public import proofs.«01_k».proof.Proof.MixRow

@[expose] public section

set_option maxRecDepth 16384

noncomputable section

namespace Cert.Proof.Merge

open Cert.ReferenceMergeIdeal Cert.ReferenceMergeIdeal.Read
open Idealize.ShloMosaic Idealize.ShloMosaic.TcCoe

variable (x0 : (⟨S16384x1536, .bf16⟩ : BufTy).Contents (Elt Ideal)) (x1 : (⟨S16384x512, .bf16⟩ : BufTy).Contents (Elt Ideal)) (x2 : (⟨S8x2048x2048, .f32⟩ : BufTy).Contents (Elt Ideal))
  (x3 : (⟨S16x12288, .f32⟩ : BufTy).Contents (Elt Ideal)) (x4 : (⟨S2048x2048, .f32⟩ : BufTy).Contents (Elt Ideal))
  (x5 x6 : (⟨S2048, .f32⟩ : BufTy).Contents (Elt Ideal))

/-- Row `r` of the mixer's output against column `k` of the weights. -/
def mix (r : Fin 16384) (k : Fin 2048) : EReal := (∑ x : Fin 1536, x0 (ix2 r x) * x4 (ix2 ⟨x.val, by omega⟩ k)) + ∑ x : Fin 512, x1 (ix2 r x) * x4 (ix2 ⟨1536 + x.val, by omega⟩ k)

/-- The flattened row of batch `b` and position `q`. -/
def flat (b : Fin 8) (q : Fin 2048) : Fin 16384 := ⟨b.val * 2048 + q.val, by omega⟩

/-- The two parts side by side. -/
theorem e10 (b : Fin 8) (q k : Fin 2048) : val_main_v10 (F := Ideal) x0 x1 (ix3 b q k)
    = if h : k.val < 1536 then x0 (ix2 (flat b q) ⟨k.val, h⟩) else x1 (ix2 (flat b q) ⟨k.val - 1536, by omega⟩) := by
  pointwise [val_main_v8, val_main_v9, val_main_v10]
  rfl

theorem e11 (b : Fin 8) (q k : Fin 2048) : val_main_v11 (F := Ideal) x0 x1 x4 (ix3 b q k) = mix x0 x1 x4 (flat b q) k := by
  pointwise [val_main_v11]
  unfold mix
  refine (Fin.sum_univ_add (a := 1536) (b := 512) (fun x : Fin (1536 + 512) => val_main_v10 (F := Ideal) x0 x1 (ix3 b q x) * x4 (ix2 x k))).trans ?_
  refine congrArg₂ (· + ·) (Finset.sum_congr rfl fun x _ => ?_) (Finset.sum_congr rfl fun x _ => ?_)
  · dsimp only
    rw [e10, dif_pos (show (Fin.castAdd 512 x).val < 1536 from x.isLt)]
    rfl
  · dsimp only
    rw [e10, dif_neg (show ¬ (Fin.natAdd 1536 x).val < 1536 by simp)]
    exact congrArg (fun y => x1 (ix2 (flat b q) y) * _) (Fin.ext (by simp))

theorem e16 (b : Fin 8) (q k : Fin 2048) : val_main_v16 (F := Ideal) x0 x1 x2 x3 x4 (ix3 b q k)
    = Ideal.ofBits .f32 0x3FB504F3#32 * Mix.hrow x2 b q k + Mix.gtrow x3 b k * mix x0 x1 x4 (flat b q) k := by
  pointwise [val_main_v0, val_main_v1, val_main_v4, val_main_v12, val_main_v13, val_main_v14, val_main_v15, val_main_v16, val_main_cst]
  rw [e11]
  rfl

theorem e41 (b : Fin 8) (q k : Fin 2048) (r : Fin 16384) (hr : r.val = b.val * 2048 + q.val) :
    val_main_v41 (F := Ideal) x0 x1 x2 x3 x4 x5 x6 (ix2 r k)
      = Down.post (Mix.hrow x2 b q) (Mix.gtrow x3 b) (mix x0 x1 x4 r) (fun k => x5 (ix1 k)) (fun k => x6 (ix1 k)) k := by
  obtain rfl : r = flat b q := Fin.ext hr
  unfold flat
  pointwise [val_main_cst_0, val_main_cst_1, val_main_cst_2, val_main_cst_3, val_main_cst_4, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  simp only [e16]
  rfl

end Cert.Proof.Merge

end
-- ==== Proof.MergeWin.lean ====
/- The arrays the even layer's output projection stages, and its windows' blocks, as entries of the arguments. -/
module

public import proofs.«01_k».proof.Proof.MergeBody
public import proofs.«01_k».proof.Proof.MergeRef

@[expose] public section

set_option maxRecDepth 16384

noncomputable section

namespace Cert.Proof.Merge

open Cert.KernelMergeIdeal Cert.KernelMergeIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 32 := lt_of_lt_of_eq t.isLt N_0

theorem idx : ∀ t : Fin cfg0.N, win0_0.index t = ![t.val, 0] ∧ win0_1.index t = ![t.val, 0] ∧ win0_2.index t = ![0, 0] ∧ win0_3.index t = ![3, 0] ∧ win0_4.index t = ![t.val, 0] ∧ win0_5.index t = ![t.val / 4, 0, 2] ∧ win0_6.index t = ![0, 0] ∧ win0_7.index t = ![0, 0] ∧ win0_8.index t = ![t.val, 0] :=
  (by decide +kernel : ∀ t : Fin grid0.N, _)

theorem V0 : V m c main_v0 = truncf (F := Ideal) .bf16 (m ((c.tc : Thread nD τ).loc main_arg4)) bitsLt_bf16_f32 := by
  unfold V; simp only [hostOps0]; after_results; try rfl
theorem V1 : V m c main_v1 = shapeCast S16384x2048 (m ((c.tc : Thread nD τ).loc main_arg2)) shapeCasts_S8x2048x2048_S16384x2048 := by
  unfold V; simp only [hostOps0]; after_results; try rfl
theorem V2 : V m c main_v2 = shapeCast S16x1x12288 (m ((c.tc : Thread nD τ).loc main_arg3)) shapeCasts_S16x12288_S16x1x12288 := by
  unfold V; simp only [hostOps0]; after_results; try rfl
theorem V3 : V m c main_v3 = shapeCast S1x2048 (m ((c.tc : Thread nD τ).loc main_arg5)) shapeCasts_S2048_S1x2048 := by
  unfold V; simp only [hostOps0]; after_results; try rfl
theorem V4 : V m c main_v4 = shapeCast S1x2048 (m ((c.tc : Thread nD τ).loc main_arg6)) shapeCasts_S2048_S1x2048 := by
  unfold V; simp only [hostOps0]; after_results; try rfl
theorem Va : V m c main_arg0 = m ((c.tc : Thread nD τ).loc main_arg0) := by
  unfold V; simp only [hostOps0]; after_results; try rfl
theorem Vf : V m c main_arg1 = m ((c.tc : Thread nD τ).loc main_arg1) := by
  unfold V; simp only [hostOps0]; after_results; try rfl

/-- A point's batch, its row `r`'s number in the batch and among all rows. -/
def bOf (t : Fin cfg0.N) : Fin 8 := ⟨t.val / 4, by have := lt_N t; omega⟩
def qOf (t : Fin cfg0.N) (r : Fin 512) : Fin 2048 := ⟨t.val % 4 * 512 + r.val, by omega⟩
def rOf (t : Fin cfg0.N) (r : Fin 512) : Fin 16384 := ⟨t.val * 512 + r.val, by have := lt_N t; omega⟩

theorem blk0 (t : Fin cfg0.N) (r : Fin 512) (x : Fin 1536) : iblk m c 0 t (ix2 r x) = m ((c.tc : Thread nD τ).loc main_arg0) (ix2 (rOf t r) x) := by
  have := lt_N t
  blk_simp [iblk]
  refine (congrFun (Va m c) _).trans (congrArg (m ((c.tc : Thread nD τ).loc main_arg0)) ?_)
  blk_ext [idx t, rOf]
theorem blk1 (t : Fin cfg0.N) (r : Fin 512) (x : Fin 512) : iblk m c 1 t (ix2 r x) = m ((c.tc : Thread nD τ).loc main_arg1) (ix2 (rOf t r) x) := by
  have := lt_N t
  blk_simp [iblk]
  refine (congrFun (Vf m c) _).trans (congrArg (m ((c.tc : Thread nD τ).loc main_arg1)) ?_)
  blk_ext [idx t, rOf]
theorem blk2 (t : Fin cfg0.N) (x : Fin 1536) (k : Fin 2048) : X0_2 m c t (ix2 x k) = m ((c.tc : Thread nD τ).loc main_arg4) (ix2 ⟨x.val, by omega⟩ k) := by
  unfold X0_2 Pipeline.Window.fill
  rw [dif_pos (moved0_2 t (ix2 x k))]
  blk_simp [iblk]
  refine (congrFun (V0 m c) _).trans (congrArg (m ((c.tc : Thread nD τ).loc main_arg4)) ?_)
  blk_ext [idx t]
theorem blk3 (t : Fin cfg0.N) (x : Fin 512) (k : Fin 2048) : iblk m c 3 t (ix2 x k) = m ((c.tc : Thread nD τ).loc main_arg4) (ix2 ⟨1536 + x.val, by omega⟩ k) := by
  blk_simp [iblk]
  refine (congrFun (V0 m c) _).trans (congrArg (m ((c.tc : Thread nD τ).loc main_arg4)) ?_)
  blk_ext [idx t]
theorem blk4 (t : Fin cfg0.N) (r : Fin 512) (k : Fin 2048) : iblk m c 4 t (ix2 r k) = Mix.hrow (m ((c.tc : Thread nD τ).loc main_arg2)) (bOf t) (qOf t r) k := by
  have := lt_N t
  blk_simp [iblk]
  refine (congrFun (V1 m c) _).trans (Eq.trans (congrArg _ ?_) (Mix.rows_in _ _ (bOf t) (qOf t r) k (rOf t r) (by simp only [bOf, qOf, rOf]; omega)))
  blk_ext [idx t, rOf]
theorem blk5 (t : Fin cfg0.N) (k : Fin 2048) : iblk m c 5 t (ix3 0 0 k) = Mix.gtrow (m ((c.tc : Thread nD τ).loc main_arg3)) (bOf t) k := by
  have := lt_N t
  blk_simp [iblk]
  refine (congrFun (V2 m c) _).trans (Eq.trans (congrArg _ ?_) (Mix.chunks_in _ _ ⟨(bOf t).val, by omega⟩ ⟨4096 + k.val, by omega⟩))
  blk_ext [idx t, bOf]
theorem blk6 (t : Fin cfg0.N) (k : Fin 2048) : iblk m c 6 t (ix2 0 k) = m ((c.tc : Thread nD τ).loc main_arg5) (ix1 k) := by
  blk_simp [iblk]
  refine (congrFun (V3 m c) _).trans (Eq.trans (congrArg _ ?_) (Mix.vec_in _ _ k))
  blk_ext [idx t]
theorem blk7 (t : Fin cfg0.N) (k : Fin 2048) : iblk m c 7 t (ix2 0 k) = m ((c.tc : Thread nD τ).loc main_arg6) (ix1 k) := by
  blk_simp [iblk]
  refine (congrFun (V4 m c) _).trans (Eq.trans (congrArg _ ?_) (Mix.vec_in _ _ k))
  blk_ext [idx t]

theorem emb8 (t : Fin cfg0.N) (r : Fin 512) (k : Fin 2048) : ((cfg0.win 8).blk t).view.emb (ix2 r k) = ix2 (rOf t r) k := by
  have := lt_N t
  blk_ext [idx t, rOf]

end Cert.Proof.Merge

end
-- ==== Proof.MergeValue.lean ====
/- The even layer's output projection leaves what its reference computes. -/
module

public import proofs.«01_k».proof.Proof.MergeWin

@[expose] public section

set_option maxRecDepth 16384

noncomputable section

namespace Cert.Proof.Merge

open Cert.KernelMergeIdeal Cert.KernelMergeIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- What a point leaves. -/
theorem after (t : Fin cfg0.N) : outsAt0 m c t = block (iblk m c 0 t) (X0_2 m c t) (iblk m c 1 t) (iblk m c 3 t) (iblk m c 4 t) (iblk m c 5 t) (iblk m c 6 t) (iblk m c 7 t) := by
  unfold outsAt0 out0_A_8
  frame_out
  simp only [View.readCov_eq_canon']
  rfl

/-- The reference's result, from the launch's arguments. -/
abbrev want : Vec Ideal S16384x2048 .f32 := Cert.ReferenceMergeIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem prod_eq (t : Fin cfg0.N) (r : Fin 512) (k : Fin 2048) : prod (iblk m c 0 t) (X0_2 m c t) (iblk m c 1 t) (iblk m c 3 t) r k = mix (m ((c.tc : Thread nD τ).loc main_arg0)) (m ((c.tc : Thread nD τ).loc main_arg1)) (m ((c.tc : Thread nD τ).loc main_arg4)) (rOf t r) k := by
  unfold mix
  refine congrArg₂ (· + ·) (Finset.sum_congr rfl fun x _ => ?_) (Finset.sum_congr rfl fun x _ => ?_)
  · rw [blk0, blk2]
  · rw [blk1, blk3]

theorem block_eq (t : Fin cfg0.N) (r : Fin 512) (k : Fin 2048) :
    block (iblk m c 0 t) (X0_2 m c t) (iblk m c 1 t) (iblk m c 3 t) (iblk m c 4 t) (iblk m c 5 t) (iblk m c 6 t) (iblk m c 7 t) (ix2 r k) = want m c (ix2 (rOf t r) k) := by
  rw [block_at, funext (blk4 m c t r), funext (blk5 m c t), funext (blk6 m c t), funext (blk7 m c t), funext (prod_eq m c t r)]
  exact (e41 _ _ _ _ _ _ _ (bOf t) (qOf t r) k (rOf t r) (by simp only [bOf, qOf, rOf]; omega)).symm

theorem val_of {s a : Vec Ideal S512x2048 .f32} {y : S512x2048.Idx} {w : EReal} (e : s = a) (h : a y = w) : s y = w := by
  subst e
  exact h

theorem final8 : (dats m 0 c).arrAt 8 (cfgs 0).N = want m c := by
  refine (dats m 0 c).arrAt_eq_of_covers 8 _ (by decide +kernel) fun t _ y => ?_
  blk_simp
  rw [after0_8]
  obtain ⟨r, d, rfl⟩ := Mix.row_ix y
  rw [emb8]
  exact val_of (after m c t) (block_eq m c t r d)

end Cert.Proof.Merge

end
-- ==== Proof.MergeClaim.lean ====
/- The claims of the even layer's output projection. -/
module

public import proofs.«01_k».proof.Defs
public import proofs.«01_k».proof.Proof.MergeValue
public import proofs.«01_k».proof.Proof.Gen.KernelMerge
public import proofs.«01_k».proof.Proof.Gen.KernelMerge.Launch
public import proofs.«01_k».proof.Proof.Gen.ReferenceMergeIdeal.Run
public import Idealize.ShloMosaic.Lib.Claim

@[expose] public section

set_option maxRecDepth 16384

noncomputable section

namespace Cert.Proof.Merge

open Idealize.ShloMosaic Idealize.ShloMosaic.TcCoe Idealize.SL.Sem

theorem defs₀_eq : @KernelMerge.defs₀ Bits _ _ = @KernelMergeIdeal.defs₀ Bits _ _ := by
  unfold KernelMerge.defs₀ KernelMergeIdeal.defs₀
  refine congrArg Defs.onTc ?_
  funext x y
  match x, y with
  | 0, (t, s) => rfl
theorem defs_eq : @KernelMerge.defs Bits _ _ = @KernelMergeIdeal.defs Bits _ _ :=
  congrArg (Pipeline.defs (KernelMerge.pcfgs (F := Bits))) defs₀_eq

/-- The kernel's frame: its text is the ideal kernel's. -/
theorem frame_kernel : Cert.quiescent_KernelMerge (hKernelMerge := Cert.KernelMerge.Gen.facts) := by
  intro m ρ _
  rw [defs_eq]
  exact Cert.KernelMergeIdeal.Gen.frame (F := Bits) m ρ

theorem frame_ideal : Cert.quiescent_KernelMergeIdeal (hKernelMergeIdeal := Cert.KernelMergeIdeal.Gen.facts) :=
  fun m ρ _ => Cert.KernelMergeIdeal.Gen.frame (F := Ideal) m ρ

theorem frame_ref : Cert.quiescent_ReferenceMergeIdeal (hReferenceMergeIdeal := Cert.ReferenceMergeIdeal.Gen.facts) := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

theorem preserves : Cert.preserves_KernelMerge_KernelMergeIdeal := trivial

open Cert.KernelMergeIdeal Cert.KernelMergeIdeal.Gen in
theorem algebraic : Cert.algebraic_KernelMergeIdeal_ReferenceMergeIdeal (hKernelMergeIdeal := Cert.KernelMergeIdeal.Gen.facts)
    (hReferenceMergeIdeal := Cert.ReferenceMergeIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v5) = want m c) :=
    (θ_run defs _ _).mono (fun r h c => ((h c).1 8).trans (final8 m c)) (run_main m g)
  refine ⟨want m, (θ_run defs _ _).mono (fun r h c => ⟨h.1 c, h.2.1 c⟩) (θ_run_and run (frame m g)), ?_⟩
  refine (θ_run Cert.ReferenceMergeIdeal.defs _ _).mono (fun r h c => ?_) (Cert.ReferenceMergeIdeal.Value.run m' g')
  obtain ⟨a, rest⟩ := h c
  obtain ⟨g0, g1, g2, g3, g4, g5, g6⟩ := hag c
  refine ⟨a.trans ?_, rest⟩
  rw [Cert.ReferenceMergeIdeal.Read.val_main_v41_eq, g0, g1, g2, g3, g4, g5, g6]

end Cert.Proof.Merge

end
-- ==== Proof.InRow.lean ====
/- The even layer's input projection as a function of a row: its products with the weights' columns, and the rotation by the
   rows' and columns' angles of the queries' and keys' columns. -/
module

public import proofs.«01_k».proof.Proof.MixRow

@[expose] public section

noncomputable section

namespace Cert.Proof.In

open Idealize.ShloMosaic

variable (x0 : (⟨3, ![8, 2048, 2048]⟩ : Shape).Idx → EReal) (x1 : (⟨2, ![16, 12288]⟩ : Shape).Idx → EReal)
  (x2 : (⟨2, ![2048, 5120]⟩ : Shape).Idx → EReal) (x3 x4 x5 x6 : (⟨2, ![2048, 16]⟩ : Shape).Idx → EReal)

/-- A column of the weights, and a row's product with it. -/
def wcol (k : Fin 5120) (x : Fin 2048) : EReal := x2 (ix2 x k)
def yrow (b : Fin 8) (q : Fin 2048) (k : Fin 5120) : EReal := Up.dot (Mix.urow x0 x1 b q) (wcol x2 k)

/-- The column that column `n` is turned with: sixteen before it or after it, in its half head. -/
def mate (n : ℕ) : ℕ := if 16 ≤ n % 32 then n - 16 else n + 16

/-- Column `n`'s entry of the tables: the rows' in a head's first half, the columns' in its second. -/
def entry (row col : (⟨2, ![2048, 16]⟩ : Shape).Idx → EReal) (q : Fin 2048) (n : ℕ) : EReal :=
  if n % 64 < 32 then row (ix2 q ⟨n % 16, Nat.mod_lt _ (by omega)⟩) else col (ix2 q ⟨n % 16, Nat.mod_lt _ (by omega)⟩)

/-- Column `n` of value `a`, turned with its mate's value `p`. -/
def turned (n : ℕ) (a p c s : EReal) : EReal := if 16 ≤ n % 32 then a * c + p * s else a * c - p * s

/-- The same with the sign on the sine. -/
theorem turned_eq (n : ℕ) (a p c s : EReal) : a * c + p * (if 16 ≤ n % 32 then s else -s) = turned n a p c s := by
  unfold turned
  split
  · rfl
  · rw [mul_neg, sub_eq_add_neg]

/-- A row of the result. -/
def res (b : Fin 8) (q : Fin 2048) (k : Fin 5120) : EReal :=
  if h : k.val < 3072 then
    turned k.val (yrow x0 x1 x2 b q k) (yrow x0 x1 x2 b q ⟨mate k.val, by unfold mate; split <;> omega⟩) (entry x3 x5 q k.val) (entry x4 x6 q k.val)
  else yrow x0 x1 x2 b q k

end Cert.Proof.In

end
-- ==== Proof.InBody.lean ====
/- The even layer's input projection: a point's rows, and its block of columns, turned or not. -/
module

public import proofs.«01_k».proof.Proof.Gen.KernelInIdeal.Frame
public import proofs.«01_k».proof.Proof.InRow
public import proofs.«01_k».proof.Proof.Pieces
public import Idealize.ShloMosaic.Lib.Pipeline.ReadBack

@[expose] public section

set_option maxRecDepth 16384

noncomputable section

namespace Cert.Proof.In

open Cert.KernelInIdeal Cert.KernelInIdeal.Gen
open Idealize.ShloMosaic Idealize.ShloMosaic.TcCoe Idealize.SL.Sem

theorem rows_at (h : Vec Ideal S1024x2048 .f32) (sc sh : Vec Ideal S1x1x2048 .f32) (r : Fin 1024) (k : Fin 2048) :
    k0_pay1 h sc sh (ix2 r k) = Up.modu (fun x => h (ix2 r x)) (fun x => sc (ix3 0 0 x)) (fun x => sh (ix3 0 0 x)) k := by
  pointwise [k0_pay1]
  rfl

/-- The lanes in the second half of their half head. -/
theorem mask (r : Fin 1024) (l : Fin 128) : k0_pay4 (ix2 r l) = if 16 ≤ l.val % 32 then 1#1 else 0#1 := by
  pointwise [k0_pay4]
  revert l
  decide

/-- Two head pairs side by side, each turned by its own rolls, are the block turned column by column. -/
theorem join (y : Fin 256 → EReal) (c s : Fin 128 → EReal) (M : Fin 128 → BitVec 1) (hM : ∀ l, M l = if 16 ≤ l.val % 32 then 1#1 else 0#1)
    (k k' : Fin 256) (l : Fin 128) (hk : k'.val = mate k.val) (hl : l.val = k.val % 128) (p1 p2 p3 p4 p5 p6) :
    (if h : k.val < 128 then
      y ⟨k.val, p1⟩ * c ⟨k.val, h⟩ + Scalar.select (M ⟨k.val, h⟩) (y ⟨(k.val + 128 - 16) % 128, p2⟩) (y ⟨(k.val + 128 - 112) % 128, p3⟩) * s ⟨k.val, h⟩
    else
      y ⟨128 + (k.val - 128), p4⟩ * c ⟨k.val - 128, by omega⟩
        + Scalar.select (M ⟨k.val - 128, by omega⟩) (y ⟨128 + (k.val - 128 + 128 - 16) % 128, p5⟩) (y ⟨128 + (k.val - 128 + 128 - 112) % 128, p6⟩)
          * s ⟨k.val - 128, by omega⟩)
      = y k * c l + y k' * s l := by
  have e : ∀ {n : ℕ} (f : Fin n → EReal) (a b : Fin n), a.val = b.val → f a = f b := fun f a b h => congrArg f (Fin.ext h)
  unfold mate at hk
  split
  · rename_i h
    rw [hM]
    by_cases g : 16 ≤ k.val % 32
    · rw [if_pos g] at hk ⊢
      exact congrArg₂ (· + ·) (congrArg₂ (· * ·) (e y _ _ rfl) (e c _ _ (by dsimp only; omega))) (congrArg₂ (· * ·) (e y _ _ (by dsimp only; omega)) (e s _ _ (by dsimp only; omega)))
    · rw [if_neg g] at hk ⊢
      exact congrArg₂ (· + ·) (congrArg₂ (· * ·) (e y _ _ rfl) (e c _ _ (by dsimp only; omega))) (congrArg₂ (· * ·) (e y _ _ (by dsimp only; omega)) (e s _ _ (by dsimp only; omega)))
  · rename_i h
    rw [hM]
    by_cases g : 16 ≤ k.val % 32
    · rw [if_pos (show 16 ≤ (k.val - 128) % 32 by omega)]
      rw [if_pos g] at hk
      exact congrArg₂ (· + ·) (congrArg₂ (· * ·) (e y _ _ (by dsimp only; omega)) (e c _ _ (by dsimp only; omega))) (congrArg₂ (· * ·) (e y _ _ (by dsimp only; omega)) (e s _ _ (by dsimp only; omega)))
    · rw [if_neg (show ¬ 16 ≤ (k.val - 128) % 32 by omega)]
      rw [if_neg g] at hk
      exact congrArg₂ (· + ·) (congrArg₂ (· * ·) (e y _ _ (by dsimp only; omega)) (e c _ _ (by dsimp only; omega))) (congrArg₂ (· * ·) (e y _ _ (by dsimp only; omega)) (e s _ _ (by dsimp only; omega)))

section
variable (u : Vec Ideal S1024x2048 .bf16) (W : Vec Ideal S2048x256 .bf16) (S : Vec Ideal S1x256 .f32) (cs sn : Vec Ideal S1024x128 .f32)
  (r : Fin 1024) (k k' : Fin 256) (l : Fin 128)
theorem t0 (hk : k'.val = mate k.val) (hl : l.val = k.val % 128) : k0_pay9 (k0_pay6 u W cs sn) (k0_pay7 u W) (k0_pay8 u W) cs sn S (ix2 r k)
    = (Up.dot (fun x => u (ix2 r x)) (fun x => W (ix2 x k)) * cs (ix2 r l)
      + Up.dot (fun x => u (ix2 r x)) (fun x => W (ix2 x k')) * sn (ix2 r l)) * S (ix2 0 k) := by
  pointwise [k0_pay9, k0_pay6, k0_pay7, k0_pay8, k0_pay5]
  have z := join (fun k => ∑ x, u (ix2 r x) * W (ix2 x k)) (fun l => cs (ix2 r l)) (fun l => sn (ix2 r l))
    (fun l => k0_pay4 (ix2 r l)) (mask r) k k' l hk hl (by omega) (by omega) (by omega) (by omega) (by omega) (by omega)
  unfold Up.dot
  refine congrArg (fun e => e * S (ix2 0 k)) (Eq.trans ?_ z)
  dsimp only
theorem p0 : k0_pay20 u W S (ix2 r k) = Up.dot (fun x => u (ix2 r x)) (fun x => W (ix2 x k)) * S (ix2 0 k) := by
  pointwise [k0_pay20]
  rfl
theorem t256 (hk : k'.val = mate k.val) (hl : l.val = k.val % 128) : k0_pay15 (k0_pay11 k0_pay4 u W cs sn) (k0_pay13 k0_pay4 u W) (k0_pay14 u W cs) sn S (ix2 r k)
    = (Up.dot (fun x => u (ix2 r x)) (fun x => W (ix2 x k)) * cs (ix2 r l)
      + Up.dot (fun x => u (ix2 r x)) (fun x => W (ix2 x k')) * sn (ix2 r l)) * S (ix2 0 k) := by
  pointwise [k0_pay15, k0_pay11, k0_pay13, k0_pay14, k0_pay12, k0_pay10]
  have z := join (fun k => ∑ x, u (ix2 r x) * W (ix2 x k)) (fun l => cs (ix2 r l)) (fun l => sn (ix2 r l))
    (fun l => k0_pay4 (ix2 r l)) (mask r) k k' l hk hl (by omega) (by omega) (by omega) (by omega) (by omega) (by omega)
  unfold Up.dot
  refine congrArg (fun e => e * S (ix2 0 k)) (Eq.trans ?_ z)
  dsimp only
theorem p256 : k0_pay21 u W S (ix2 r k) = Up.dot (fun x => u (ix2 r x)) (fun x => W (ix2 x k)) * S (ix2 0 k) := by
  pointwise [k0_pay21]
  rfl
theorem t512 (hk : k'.val = mate k.val) (hl : l.val = k.val % 128) : k0_pay17 (k0_pay16 k0_pay4 u W cs sn cs sn) S (ix2 r k)
    = (Up.dot (fun x => u (ix2 r x)) (fun x => W (ix2 x k)) * cs (ix2 r l)
      + Up.dot (fun x => u (ix2 r x)) (fun x => W (ix2 x k')) * sn (ix2 r l)) * S (ix2 0 k) := by
  pointwise [k0_pay17, k0_pay16]
  have z := join (fun k => ∑ x, u (ix2 r x) * W (ix2 x k)) (fun l => cs (ix2 r l)) (fun l => sn (ix2 r l))
    (fun l => k0_pay4 (ix2 r l)) (mask r) k k' l hk hl (by omega) (by omega) (by omega) (by omega) (by omega) (by omega)
  unfold Up.dot
  refine congrArg (fun e => e * S (ix2 0 k)) (Eq.trans ?_ z)
  dsimp only
theorem p512 : k0_pay22 u W S (ix2 r k) = Up.dot (fun x => u (ix2 r x)) (fun x => W (ix2 x k)) * S (ix2 0 k) := by
  pointwise [k0_pay22]
  rfl
theorem t768 (hk : k'.val = mate k.val) (hl : l.val = k.val % 128) : k0_pay2 (k0_pay18 k0_pay4 u W cs sn cs sn) (k0_pay19 S) (ix2 r k)
    = (Up.dot (fun x => u (ix2 r x)) (fun x => W (ix2 x k)) * cs (ix2 r l)
      + Up.dot (fun x => u (ix2 r x)) (fun x => W (ix2 x k')) * sn (ix2 r l)) * S (ix2 0 k) := by
  pointwise [k0_pay2, k0_pay18, k0_pay19]
  have z := join (fun k => ∑ x, u (ix2 r x) * W (ix2 x k)) (fun l => cs (ix2 r l)) (fun l => sn (ix2 r l))
    (fun l => k0_pay4 (ix2 r l)) (mask r) k k' l hk hl (by omega) (by omega) (by omega) (by omega) (by omega) (by omega)
  unfold Up.dot
  refine congrArg (fun e => e * S (ix2 0 k)) (Eq.trans ?_ z)
  dsimp only
theorem p768 : k0_pay3 u W S (ix2 r k) = Up.dot (fun x => u (ix2 r x)) (fun x => W (ix2 x k)) * S (ix2 0 k) := by
  pointwise [k0_pay3]
  rfl
end

variable (u : Vec Ideal S1024x2048 .bf16) (w : Vec Ideal S2048x1024 .bf16) (s : Vec Ideal S1x1024 .f32) (cs sn : Vec Ideal S1024x128 .f32)

/-- A block of queries' and keys' columns, and one of values' and the Fourier branch's. -/
def heads : Vec Ideal S1024x1024 .bf16 := View.canon
    [⟨Rect.unit ![0, 768] ![1024, 256] inb_S1024x1024_S1024x256_0_768, k0_pay2 (k0_pay18 k0_pay4 u (View.ld w (Rect.unit ![0, 768] ![2048, 256] inb_S2048x1024_S2048x256_0_768)) cs sn cs sn) (k0_pay19 (View.ld s (Rect.unit ![0, 768] ![1, 256] inb_S1x1024_S1x256_0_768)))⟩,
     ⟨Rect.unit ![0, 512] ![1024, 256] inb_S1024x1024_S1024x256_0_512, k0_pay17 (k0_pay16 k0_pay4 u (View.ld w (Rect.unit ![0, 512] ![2048, 256] inb_S2048x1024_S2048x256_0_512)) cs sn cs sn) (View.ld s (Rect.unit ![0, 512] ![1, 256] inb_S1x1024_S1x256_0_512))⟩,
     ⟨Rect.unit ![0, 256] ![1024, 256] inb_S1024x1024_S1024x256_0_256, k0_pay15 (k0_pay11 k0_pay4 u (View.ld w (Rect.unit ![0, 256] ![2048, 256] inb_S2048x1024_S2048x256_0_256)) cs sn) (k0_pay13 k0_pay4 u (View.ld w (Rect.unit ![0, 256] ![2048, 256] inb_S2048x1024_S2048x256_0_256))) (k0_pay14 u (View.ld w (Rect.unit ![0, 256] ![2048, 256] inb_S2048x1024_S2048x256_0_256)) cs) sn (View.ld s (Rect.unit ![0, 256] ![1, 256] inb_S1x1024_S1x256_0_256))⟩,
     ⟨Rect.unit ![0, 0] ![1024, 256] inb_S1024x1024_S1024x256_0_0, k0_pay9 (k0_pay6 u (View.ld w (Rect.unit ![0, 0] ![2048, 256] inb_S2048x1024_S2048x256_0_0)) cs sn) (k0_pay7 u (View.ld w (Rect.unit ![0, 0] ![2048, 256] inb_S2048x1024_S2048x256_0_0))) (k0_pay8 u (View.ld w (Rect.unit ![0, 0] ![2048, 256] inb_S2048x1024_S2048x256_0_0))) cs sn (View.ld s (Rect.unit ![0, 0] ![1, 256] inb_S1x1024_S1x256_0_0))⟩]
def plain : Vec Ideal S1024x1024 .bf16 := View.canon
    [⟨Rect.unit ![0, 768] ![1024, 256] inb_S1024x1024_S1024x256_0_768, k0_pay3 u (View.ld w (Rect.unit ![0, 768] ![2048, 256] inb_S2048x1024_S2048x256_0_768)) (View.ld s (Rect.unit ![0, 768] ![1, 256] inb_S1x1024_S1x256_0_768))⟩,
     ⟨Rect.unit ![0, 512] ![1024, 256] inb_S1024x1024_S1024x256_0_512, k0_pay22 u (View.ld w (Rect.unit ![0, 512] ![2048, 256] inb_S2048x1024_S2048x256_0_512)) (View.ld s (Rect.unit ![0, 512] ![1, 256] inb_S1x1024_S1x256_0_512))⟩,
     ⟨Rect.unit ![0, 256] ![1024, 256] inb_S1024x1024_S1024x256_0_256, k0_pay21 u (View.ld w (Rect.unit ![0, 256] ![2048, 256] inb_S2048x1024_S2048x256_0_256)) (View.ld s (Rect.unit ![0, 256] ![1, 256] inb_S1x1024_S1x256_0_256))⟩,
     ⟨Rect.unit ![0, 0] ![1024, 256] inb_S1024x1024_S1024x256_0_0, k0_pay20 u (View.ld w (Rect.unit ![0, 0] ![2048, 256] inb_S2048x1024_S2048x256_0_0)) (View.ld s (Rect.unit ![0, 0] ![1, 256] inb_S1x1024_S1x256_0_0))⟩]

/-- A column of the weights' block through one of its four loads, and a scale. -/
theorem col {C : ℕ} (inb) (k : Fin 256) (k' : Fin 1024) (hk : k'.val = C + k.val) :
    (fun x : Fin 2048 => View.ld w (Rect.unit ![0, C] ![2048, 256] inb) (ix2 x k)) = fun x => w (ix2 x k') :=
  funext fun x => ld2 w inb x k x k' (Nat.zero_add _).symm hk
theorem scl {C : ℕ} (inb) (k : Fin 256) (k' : Fin 1024) (hk : k'.val = C + k.val) :
    View.ld s (Rect.unit ![0, C] ![1, 256] inb) (ix2 0 k) = s (ix2 0 k') :=
  ld2 s inb 0 k 0 k' rfl hk

/-- The column of a quarter that its column is turned with. -/
def quart (C : ℕ) (k k' : Fin 1024) (h : C ≤ k.val) (h' : k.val < C + 256) (hk : k'.val = mate k.val) (hC : C % 256 = 0) :
    { j : Fin 256 // j.val = mate (k.val - C) ∧ k'.val = C + j.val } :=
  ⟨⟨mate (k.val - C), by unfold mate; split <;> omega⟩, rfl, by
    rw [hk]
    unfold mate
    dsimp only
    split <;> split <;> omega⟩

theorem turn_of {C : ℕ} (inb inb') (r : Fin 1024) (k k' : Fin 1024) (l : Fin 128) (j j' : Fin 256) (hj : k.val = C + j.val) (hj' : k'.val = C + j'.val) :
    (Up.dot (fun x => u (ix2 r x)) (fun x => View.ld w (Rect.unit ![0, C] ![2048, 256] inb) (ix2 x j)) * cs (ix2 r l)
      + Up.dot (fun x => u (ix2 r x)) (fun x => View.ld w (Rect.unit ![0, C] ![2048, 256] inb) (ix2 x j')) * sn (ix2 r l))
        * View.ld s (Rect.unit ![0, C] ![1, 256] inb') (ix2 0 j)
    = (Up.dot (fun x => u (ix2 r x)) (fun x => w (ix2 x k)) * cs (ix2 r l)
      + Up.dot (fun x => u (ix2 r x)) (fun x => w (ix2 x k')) * sn (ix2 r l)) * s (ix2 0 k) := by
  rw [col w inb j k hj, col w inb j' k' hj', scl s inb' j k hj]

theorem plain_of {C : ℕ} (inb inb') (r : Fin 1024) (k : Fin 1024) (j : Fin 256) (hj : k.val = C + j.val) :
    Up.dot (fun x => u (ix2 r x)) (fun x => View.ld w (Rect.unit ![0, C] ![2048, 256] inb) (ix2 x j))
        * View.ld s (Rect.unit ![0, C] ![1, 256] inb') (ix2 0 j)
    = Up.dot (fun x => u (ix2 r x)) (fun x => w (ix2 x k)) * s (ix2 0 k) := by
  rw [col w inb j k hj, scl s inb' j k hj]

theorem heads_at (r : Fin 1024) (k k' : Fin 1024) (l : Fin 128) (hk : k'.val = mate k.val) (hl : l.val = k.val % 128) : heads u w s cs sn (ix2 r k)
    = (Up.dot (fun x => u (ix2 r x)) (fun x => w (ix2 x k)) * cs (ix2 r l)
      + Up.dot (fun x => u (ix2 r x)) (fun x => w (ix2 x k')) * sn (ix2 r l)) * s (ix2 0 k) := by
  unfold heads
  by_cases h0 : 768 ≤ k.val
  · exact hit _ _ _ r k r ⟨k.val - 768, by omega⟩ (by omega) (by first | omega | (dsimp only; omega)) ((t768 _ _ _ _ _ _ _ (quart 768 k k' (by omega) (by omega) hk (by omega)).1 l (quart 768 k k' (by omega) (by omega) hk (by omega)).2.1 (by first | omega | (dsimp only; omega))).trans (turn_of u w s cs sn _ _ r k k' l _ _ (by first | omega | (dsimp only; omega)) (quart 768 k k' (by omega) (by omega) hk (by omega)).2.2))
  refine miss _ _ _ r k (by omega) ?_
  by_cases h1 : 512 ≤ k.val
  · exact hit _ _ _ r k r ⟨k.val - 512, by omega⟩ (by omega) (by first | omega | (dsimp only; omega)) ((t512 _ _ _ _ _ _ _ (quart 512 k k' (by omega) (by omega) hk (by omega)).1 l (quart 512 k k' (by omega) (by omega) hk (by omega)).2.1 (by first | omega | (dsimp only; omega))).trans (turn_of u w s cs sn _ _ r k k' l _ _ (by first | omega | (dsimp only; omega)) (quart 512 k k' (by omega) (by omega) hk (by omega)).2.2))
  refine miss _ _ _ r k (by omega) ?_
  by_cases h2 : 256 ≤ k.val
  · exact hit _ _ _ r k r ⟨k.val - 256, by omega⟩ (by omega) (by first | omega | (dsimp only; omega)) ((t256 _ _ _ _ _ _ _ (quart 256 k k' (by omega) (by omega) hk (by omega)).1 l (quart 256 k k' (by omega) (by omega) hk (by omega)).2.1 (by first | omega | (dsimp only; omega))).trans (turn_of u w s cs sn _ _ r k k' l _ _ (by first | omega | (dsimp only; omega)) (quart 256 k k' (by omega) (by omega) hk (by omega)).2.2))
  refine miss _ _ _ r k (by omega) ?_
  exact hit _ _ _ r k r ⟨k.val, by omega⟩ (by omega) (by first | omega | (dsimp only; omega)) ((t0 _ _ _ _ _ _ _ (quart 0 k k' (by omega) (by omega) hk (by omega)).1 l (quart 0 k k' (by omega) (by omega) hk (by omega)).2.1 (by first | omega | (dsimp only; omega))).trans (turn_of u w s cs sn _ _ r k k' l _ _ (by first | omega | (dsimp only; omega)) (quart 0 k k' (by omega) (by omega) hk (by omega)).2.2))

theorem plain_at (r : Fin 1024) (k : Fin 1024) : plain u w s (ix2 r k)
    = Up.dot (fun x => u (ix2 r x)) (fun x => w (ix2 x k)) * s (ix2 0 k) := by
  unfold plain
  by_cases h0 : 768 ≤ k.val
  · exact hit _ _ _ r k r ⟨k.val - 768, by omega⟩ (by omega) (by first | omega | (dsimp only; omega)) ((p768 _ _ _ _ _).trans (plain_of u w s _ _ r k _ (by first | omega | (dsimp only; omega))))
  refine miss _ _ _ r k (by omega) ?_
  by_cases h1 : 512 ≤ k.val
  · exact hit _ _ _ r k r ⟨k.val - 512, by omega⟩ (by omega) (by first | omega | (dsimp only; omega)) ((p512 _ _ _ _ _).trans (plain_of u w s _ _ r k _ (by first | omega | (dsimp only; omega))))
  refine miss _ _ _ r k (by omega) ?_
  by_cases h2 : 256 ≤ k.val
  · exact hit _ _ _ r k r ⟨k.val - 256, by omega⟩ (by omega) (by first | omega | (dsimp only; omega)) ((p256 _ _ _ _ _).trans (plain_of u w s _ _ r k _ (by first | omega | (dsimp only; omega))))
  refine miss _ _ _ r k (by omega) ?_
  exact hit _ _ _ r k r ⟨k.val, by omega⟩ (by omega) (by first | omega | (dsimp only; omega)) ((p0 _ _ _ _ _).trans (plain_of u w s _ _ r k _ (by first | omega | (dsimp only; omega))))

end Cert.Proof.In

end
-- ==== Proof.InRef.lean ====
/- The reference of the even layer's input projection, element by element. -/
module

public import proofs.«01_k».proof.Proof.Gen.ReferenceInIdeal.Read
public import proofs.«01_k».proof.Proof.InRow

@[expose] public section

set_option maxRecDepth 16384

noncomputable section

namespace Cert.Proof.In

open Cert.ReferenceInIdeal Cert.ReferenceInIdeal.Read
open Idealize.ShloMosaic Idealize.ShloMosaic.TcCoe

variable (x0 : (⟨S8x2048x2048, .f32⟩ : BufTy).Contents (Elt Ideal)) (x1 : (⟨S16x12288, .f32⟩ : BufTy).Contents (Elt Ideal))
  (x2 : (⟨S2048x5120, .f32⟩ : BufTy).Contents (Elt Ideal)) (x3 x4 x5 x6 : (⟨S2048x16, .f32⟩ : BufTy).Contents (Elt Ideal))

theorem r31 (b : Fin 8) (q k : Fin 2048) : val_main_v31 (F := Ideal) x0 x1 (ix3 b q k) = Mix.urow x0 x1 b q k := by
  pointwise [val_main_v0, val_main_v1, val_main_v2, val_main_v3, val_main_cst, val_main_v8, val_main_v9, val_main_cst_0, val_main_v10, val_main_v11, val_main_v12, val_main_v13, val_main_v14, val_main_cst_1, val_main_v15, val_main_v16, val_main_cst_2, val_main_v17, val_main_v18, val_main_v19, val_main_v20, val_main_cst_3, val_main_v21, val_main_v22, val_main_v23, val_main_v24, val_main_v25, val_main_cst_4, val_main_v26, val_main_v27, val_main_v28, val_main_v29, val_main_v30, val_main_v31]
  try simp only [Nat.zero_add]
  rfl

theorem r32 (b : Fin 8) (q : Fin 2048) (k : Fin 5120) : val_main_v32 (F := Ideal) x0 x1 x2 (ix3 b q k) = yrow x0 x1 x2 b q k := by
  pointwise [val_main_v32]
  exact Finset.sum_congr rfl fun x _ => congrArg (· * _) (r31 x0 x1 b q x)

/-- Functions of places agree at equal places. -/
theorem at_eq {n : ℕ} (f : Fin n → EReal) (a b : Fin n) (h : a.val = b.val) : f a = f b := congrArg f (Fin.ext h)

/-! ## The halves of a head of the queries and of the keys -/

theorem r59 (b : Fin 8) (q : Fin 2048) (h : Fin 24) (d : Fin 32) (k k' : Fin 5120) (hk : k.val = h.val * 64 + d.val) (hk' : k'.val = mate k.val) :
    val_main_v59 (F := Ideal) x0 x1 x2 x3 x4 (ix4 b q h d) = turned k.val (yrow x0 x1 x2 b q k) (yrow x0 x1 x2 b q k')
      (x3 (ix2 q ⟨k.val % 16, Nat.mod_lt _ (by omega)⟩)) (x4 (ix2 q ⟨k.val % 16, Nat.mod_lt _ (by omega)⟩)) := by
  pointwise [val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v37, val_main_v38, val_main_v33]
  simp only [r32]
  unfold mate at hk'
  unfold turned
  split
  · rename_i g
    rw [if_neg (show ¬ 16 ≤ k.val % 32 by omega)] at hk' ⊢
    exact congrArg₂ (· - ·) (congrArg₂ (· * ·) (at_eq (yrow x0 x1 x2 b q) _ _ (by dsimp only; omega)) (at_eq (fun i => x3 (ix2 q i)) _ _ (by dsimp only; omega))) (congrArg₂ (· * ·) (at_eq (yrow x0 x1 x2 b q) _ _ (by dsimp only; omega)) (at_eq (fun i => x4 (ix2 q i)) _ _ (by dsimp only; omega)))
  · rename_i g
    rw [if_pos (show 16 ≤ k.val % 32 by omega)] at hk' ⊢
    exact congrArg₂ (· + ·) (congrArg₂ (· * ·) (at_eq (yrow x0 x1 x2 b q) _ _ (by dsimp only; omega)) (at_eq (fun i => x3 (ix2 q i)) _ _ (by dsimp only; omega))) (congrArg₂ (· * ·) (at_eq (yrow x0 x1 x2 b q) _ _ (by dsimp only; omega)) (at_eq (fun i => x4 (ix2 q i)) _ _ (by dsimp only; omega)))

theorem r77 (b : Fin 8) (q : Fin 2048) (h : Fin 24) (d : Fin 32) (k k' : Fin 5120) (hk : k.val = h.val * 64 + 32 + d.val) (hk' : k'.val = mate k.val) :
    val_main_v77 (F := Ideal) x0 x1 x2 x5 x6 (ix4 b q h d) = turned k.val (yrow x0 x1 x2 b q k) (yrow x0 x1 x2 b q k')
      (x5 (ix2 q ⟨k.val % 16, Nat.mod_lt _ (by omega)⟩)) (x6 (ix2 q ⟨k.val % 16, Nat.mod_lt _ (by omega)⟩)) := by
  pointwise [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v39, val_main_v40, val_main_v41, val_main_v33]
  simp only [r32]
  unfold mate at hk'
  unfold turned
  split
  · rename_i g
    rw [if_neg (show ¬ 16 ≤ k.val % 32 by omega)] at hk' ⊢
    exact congrArg₂ (· - ·) (congrArg₂ (· * ·) (at_eq (yrow x0 x1 x2 b q) _ _ (by dsimp only; omega)) (at_eq (fun i => x5 (ix2 q i)) _ _ (by dsimp only; omega))) (congrArg₂ (· * ·) (at_eq (yrow x0 x1 x2 b q) _ _ (by dsimp only; omega)) (at_eq (fun i => x6 (ix2 q i)) _ _ (by dsimp only; omega)))
  · rename_i g
    rw [if_pos (show 16 ≤ k.val % 32 by omega)] at hk' ⊢
    exact congrArg₂ (· + ·) (congrArg₂ (· * ·) (at_eq (yrow x0 x1 x2 b q) _ _ (by dsimp only; omega)) (at_eq (fun i => x5 (ix2 q i)) _ _ (by dsimp only; omega))) (congrArg₂ (· * ·) (at_eq (yrow x0 x1 x2 b q) _ _ (by dsimp only; omega)) (at_eq (fun i => x6 (ix2 q i)) _ _ (by dsimp only; omega)))

theorem r98 (b : Fin 8) (q : Fin 2048) (h : Fin 24) (d : Fin 32) (k k' : Fin 5120) (hk : k.val = 1536 + h.val * 64 + d.val) (hk' : k'.val = mate k.val) :
    val_main_v98 (F := Ideal) x0 x1 x2 x3 x4 (ix4 b q h d) = turned k.val (yrow x0 x1 x2 b q k) (yrow x0 x1 x2 b q k')
      (x3 (ix2 q ⟨k.val % 16, Nat.mod_lt _ (by omega)⟩)) (x4 (ix2 q ⟨k.val % 16, Nat.mod_lt _ (by omega)⟩)) := by
  pointwise [val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v37, val_main_v38, val_main_v34]
  simp only [r32]
  unfold mate at hk'
  unfold turned
  split
  · rename_i g
    rw [if_neg (show ¬ 16 ≤ k.val % 32 by omega)] at hk' ⊢
    exact congrArg₂ (· - ·) (congrArg₂ (· * ·) (at_eq (yrow x0 x1 x2 b q) _ _ (by dsimp only; omega)) (at_eq (fun i => x3 (ix2 q i)) _ _ (by dsimp only; omega))) (congrArg₂ (· * ·) (at_eq (yrow x0 x1 x2 b q) _ _ (by dsimp only; omega)) (at_eq (fun i => x4 (ix2 q i)) _ _ (by dsimp only; omega)))
  · rename_i g
    rw [if_pos (show 16 ≤ k.val % 32 by omega)] at hk' ⊢
    exact congrArg₂ (· + ·) (congrArg₂ (· * ·) (at_eq (yrow x0 x1 x2 b q) _ _ (by dsimp only; omega)) (at_eq (fun i => x3 (ix2 q i)) _ _ (by dsimp only; omega))) (congrArg₂ (· * ·) (at_eq (yrow x0 x1 x2 b q) _ _ (by dsimp only; omega)) (at_eq (fun i => x4 (ix2 q i)) _ _ (by dsimp only; omega)))

theorem r116 (b : Fin 8) (q : Fin 2048) (h : Fin 24) (d : Fin 32) (k k' : Fin 5120) (hk : k.val = 1536 + h.val * 64 + 32 + d.val) (hk' : k'.val = mate k.val) :
    val_main_v116 (F := Ideal) x0 x1 x2 x5 x6 (ix4 b q h d) = turned k.val (yrow x0 x1 x2 b q k) (yrow x0 x1 x2 b q k')
      (x5 (ix2 q ⟨k.val % 16, Nat.mod_lt _ (by omega)⟩)) (x6 (ix2 q ⟨k.val % 16, Nat.mod_lt _ (by omega)⟩)) := by
  pointwise [val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v80, val_main_v39, val_main_v40, val_main_v34]
  simp only [r32]
  unfold mate at hk'
  unfold turned
  split
  · rename_i g
    rw [if_neg (show ¬ 16 ≤ k.val % 32 by omega)] at hk' ⊢
    exact congrArg₂ (· - ·) (congrArg₂ (· * ·) (at_eq (yrow x0 x1 x2 b q) _ _ (by dsimp only; omega)) (at_eq (fun i => x5 (ix2 q i)) _ _ (by dsimp only; omega))) (congrArg₂ (· * ·) (at_eq (yrow x0 x1 x2 b q) _ _ (by dsimp only; omega)) (at_eq (fun i => x6 (ix2 q i)) _ _ (by dsimp only; omega)))
  · rename_i g
    rw [if_pos (show 16 ≤ k.val % 32 by omega)] at hk' ⊢
    exact congrArg₂ (· + ·) (congrArg₂ (· * ·) (at_eq (yrow x0 x1 x2 b q) _ _ (by dsimp only; omega)) (at_eq (fun i => x5 (ix2 q i)) _ _ (by dsimp only; omega))) (congrArg₂ (· * ·) (at_eq (yrow x0 x1 x2 b q) _ _ (by dsimp only; omega)) (at_eq (fun i => x6 (ix2 q i)) _ _ (by dsimp only; omega)))

/-! ## The queries, the keys, and the other columns -/

theorem r79 (b : Fin 8) (q : Fin 2048) (j : Fin 1536) (k : Fin 5120) (hk : k.val = j.val) :
    val_main_v79 (F := Ideal) x0 x1 x2 x3 x4 x5 x6 (ix3 b q j) = res x0 x1 x2 x3 x4 x5 x6 b q k := by
  pointwise [val_main_v78, val_main_v79]
  have hj := j.isLt
  unfold res entry
  rw [dif_pos (show k.val < 3072 by omega)]
  split
  · rename_i g
    rw [if_pos (show k.val % 64 < 32 by omega), if_pos (show k.val % 64 < 32 by omega)]
    exact r59 _ _ _ _ _ _ _ _ _ _ _ (by dsimp only; omega) rfl
  · rename_i g
    rw [if_neg (show ¬ k.val % 64 < 32 by omega), if_neg (show ¬ k.val % 64 < 32 by omega)]
    exact r77 _ _ _ _ _ _ _ _ _ _ _ (by dsimp only; omega) rfl

theorem r118 (b : Fin 8) (q : Fin 2048) (j : Fin 1536) (k : Fin 5120) (hk : k.val = 1536 + j.val) :
    val_main_v118 (F := Ideal) x0 x1 x2 x3 x4 x5 x6 (ix3 b q j) = res x0 x1 x2 x3 x4 x5 x6 b q k := by
  pointwise [val_main_v117, val_main_v118]
  have hj := j.isLt
  unfold res entry
  rw [dif_pos (show k.val < 3072 by omega)]
  split
  · rename_i g
    rw [if_pos (show k.val % 64 < 32 by omega), if_pos (show k.val % 64 < 32 by omega)]
    exact r98 _ _ _ _ _ _ _ _ _ _ _ (by dsimp only; omega) rfl
  · rename_i g
    rw [if_neg (show ¬ k.val % 64 < 32 by omega), if_neg (show ¬ k.val % 64 < 32 by omega)]
    exact r116 _ _ _ _ _ _ _ _ _ _ _ (by dsimp only; omega) rfl

/-- The row number's batch and the row's number in it. -/
theorem row_of (b : Fin 8) (q : Fin 2048) (r : Fin 16384) (hr : r.val = b.val * 2048 + q.val) (X : Fin 8 → Fin 2048 → EReal) (h1 h2) :
    X ⟨r.val / 2048, h1⟩ ⟨r.val % 2048, h2⟩ = X b q := by
  obtain ⟨r, hlt⟩ := r
  obtain ⟨b, hb⟩ := b
  obtain ⟨q, hq⟩ := q
  dsimp only at hr ⊢
  have e1 : r / 2048 = b := by omega
  have e2 : r % 2048 = q := by omega
  subst e1 e2
  rfl

theorem r121 (b : Fin 8) (q : Fin 2048) (k : Fin 5120) (r : Fin 16384) (hr : r.val = b.val * 2048 + q.val) :
    val_main_v121 (F := Ideal) x0 x1 x2 x3 x4 x5 x6 (ix2 r k) = res x0 x1 x2 x3 x4 x5 x6 b q k := by
  pointwise [val_main_v119, val_main_v120, val_main_v121]
  split
  · rename_i h
    refine (row_of b q r hr (fun b q => val_main_v79 (F := Ideal) x0 x1 x2 x3 x4 x5 x6 (ix3 b q ⟨k.val, h⟩)) _ _).trans ?_
    exact r79 _ _ _ _ _ _ _ _ _ _ _ rfl
  rename_i h
  split
  · rename_i h'
    refine (row_of b q r hr (fun b q => val_main_v118 (F := Ideal) x0 x1 x2 x3 x4 x5 x6 (ix3 b q ⟨k.val - 1536, h'⟩)) _ _).trans ?_
    exact r118 _ _ _ _ _ _ _ _ _ _ _ (by dsimp only; omega)
  rename_i h'
  unfold res
  rw [dif_neg (show ¬ k.val < 3072 by omega)]
  split
  · rename_i g
    refine (row_of b q r hr (fun b q => val_main_v35 (F := Ideal) x0 x1 x2 (ix3 b q ⟨k.val - 1536 - 1536, g⟩)) _ _).trans ?_
    pointwise [val_main_v35]
    exact (r32 ..).trans (at_eq (yrow x0 x1 x2 b q) _ _ (by dsimp only; omega))
  · rename_i g
    refine (row_of b q r hr (fun b q => val_main_v36 (F := Ideal) x0 x1 x2 (ix3 b q ⟨k.val - 1536 - 1536 - 1536, by omega⟩)) _ _).trans ?_
    pointwise [val_main_v36]
    exact (r32 ..).trans (at_eq (yrow x0 x1 x2 b q) _ _ (by dsimp only; omega))

end Cert.Proof.In

end
-- ==== Proof.InWin.lean ====
/- The arrays the input projection's launch stages, and its windows' blocks, as entries of the arguments. -/
module

public import proofs.«01_k».proof.Proof.InBody
public import proofs.«01_k».proof.Proof.InRef

@[expose] public section

set_option maxRecDepth 16384

noncomputable section

namespace Cert.Proof.In

open Cert.KernelInIdeal Cert.KernelInIdeal.Gen
open Idealize.ShloMosaic Idealize.ShloMosaic.TcCoe Idealize.SL.Sem
open Idealize.ShloMosaic.Pipeline (Dat)

/-! ## The tables laid out for a pair of heads -/

section
variable (x y : Vec Ideal S2048x16 .f32) (q : Fin 2048) (l : Fin 128) (n : ℕ) (hl : l.val = n % 128)
def table (a b c d : Vec Ideal S2048x16 .f32) : Vec Ideal S2048x128 .f32 := concatenate S2048x128 1 [⟨S2048x16, a⟩, ⟨S2048x16, b⟩, ⟨S2048x16, c⟩, ⟨S2048x16, d⟩, ⟨S2048x16, a⟩, ⟨S2048x16, b⟩, ⟨S2048x16, c⟩, ⟨S2048x16, d⟩] concatenates_S2048x16_S2048x16_S2048x16_S2048x16_S2048x16_S2048x16_S2048x16_S2048x16_S2048x128_d1
def neg : Vec Ideal S2048x16 .f32 := fun i => (-(x i : EReal) : EReal)
def cosines : Vec Ideal S2048x128 .f32 := table x x y y
def sines : Vec Ideal S2048x128 .f32 := table (neg x) x (neg y) y

include hl in
theorem table_at (a b c d : Vec Ideal S2048x16 .f32) : table a b c d (ix2 q l)
    = if n % 64 < 32 then (if 16 ≤ n % 32 then b (ix2 q ⟨n % 16, Nat.mod_lt _ (by omega)⟩) else a (ix2 q ⟨n % 16, Nat.mod_lt _ (by omega)⟩))
      else (if 16 ≤ n % 32 then d (ix2 q ⟨n % 16, Nat.mod_lt _ (by omega)⟩) else c (ix2 q ⟨n % 16, Nat.mod_lt _ (by omega)⟩)) := by
  pointwise [table]
  by_cases g : n % 64 < 32 <;> by_cases g' : 16 ≤ n % 32
  · rw [if_pos g, if_pos g']
    split_ifs <;> first
      | (exfalso; omega)
      | exact at_eq (fun i => b (ix2 q i)) _ _ (by dsimp only; omega)
  · rw [if_pos g, if_neg g']
    split_ifs <;> first
      | (exfalso; omega)
      | exact at_eq (fun i => a (ix2 q i)) _ _ (by dsimp only; omega)
  · rw [if_neg g, if_pos g']
    split_ifs <;> first
      | (exfalso; omega)
      | exact at_eq (fun i => d (ix2 q i)) _ _ (by dsimp only; omega)
  · rw [if_neg g, if_neg g']
    split_ifs <;> first
      | (exfalso; omega)
      | exact at_eq (fun i => c (ix2 q i)) _ _ (by dsimp only; omega)

include hl in
theorem cosines_at : cosines x y (ix2 q l) = entry x y q n := by
  refine (table_at q l n hl x x y y).trans ?_
  rw [ite_self, ite_self]
  rfl

include hl in
theorem sines_at : sines x y (ix2 q l) = if 16 ≤ n % 32 then entry x y q n else -entry x y q n := by
  refine (table_at q l n hl (neg x) x (neg y) y).trans ?_
  unfold entry neg
  split_ifs <;> rfl
end

variable (m : (ℓ : Loc nD τ sig) → Buf (Elt Ideal) ℓ) (c : Dev nD)

theorem lt_N (t : Fin cfg0.N) : t.val < 80 := lt_of_lt_of_eq t.isLt N_0

theorem idx : ∀ t : Fin cfg0.N, win0_0.index t = ![t.val / 5, 0] ∧ win0_1.index t = ![t.val / 10, 0, 0]
    ∧ win0_2.index t = ![t.val / 10, 0, 1] ∧ win0_3.index t = ![0, t.val % 5] ∧ win0_4.index t = ![0, t.val % 5]
    ∧ win0_5.index t = ![t.val / 5 % 2, 0] ∧ win0_6.index t = ![t.val / 5 % 2, 0] ∧ win0_7.index t = ![t.val / 5, t.val % 5] :=
  (by decide +kernel : ∀ t : Fin grid0.N, _)

theorem V0 : V m c main_v0 = cosines (m ((c.tc : Thread nD τ).loc main_arg3)) (m ((c.tc : Thread nD τ).loc main_arg5)) := by
  unfold V; simp only [hostOps0]; after_results; try rfl
theorem V3 : V m c main_v3 = sines (m ((c.tc : Thread nD τ).loc main_arg4)) (m ((c.tc : Thread nD τ).loc main_arg6)) := by
  unfold V; simp only [hostOps0]; after_results; try rfl
theorem V4 : V m c main_v4 = broadcastInDim S1x5120 ![] bcast_S_S1x5120 (constant (F := Ideal) S_ .f32 0x3F800000#32) := by
  unfold V; simp only [hostOps0]; after_results; try rfl
theorem V5 : V m c main_v5 = shapeCast S16384x2048 (m ((c.tc : Thread nD τ).loc main_arg0)) shapeCasts_S8x2048x2048_S16384x2048 := by
  unfold V; simp only [hostOps0]; after_results; try rfl
theorem V6 : V m c main_v6 = shapeCast S16x1x12288 (m ((c.tc : Thread nD τ).loc main_arg1)) shapeCasts_S16x12288_S16x1x12288 := by
  unfold V; simp only [hostOps0]; after_results; try rfl
theorem V7 : V m c main_v7 = truncf (F := Ideal) .bf16 (m ((c.tc : Thread nD τ).loc main_arg2)) bitsLt_bf16_f32 := by
  unfold V; simp only [hostOps0]; after_results; try rfl

/-- A point's batch, its row `r`'s number in the batch, and its column `k`'s number. -/
def bOf (t : Fin cfg0.N) : Fin 8 := ⟨t.val / 10, by have := lt_N t; omega⟩
def qOf (t : Fin cfg0.N) (r : Fin 1024) : Fin 2048 := ⟨t.val / 5 % 2 * 1024 + r.val, by omega⟩
def kOf (t : Fin cfg0.N) (k : Fin 1024) : Fin 5120 := ⟨t.val % 5 * 1024 + k.val, by omega⟩

theorem blk0 (t : Fin cfg0.N) (r : Fin 1024) (k : Fin 2048) : iblk m c 0 t (ix2 r k) = Mix.hrow (m ((c.tc : Thread nD τ).loc main_arg0)) (bOf t) (qOf t r) k := by
  have := lt_N t
  blk_simp [iblk]
  refine (congrFun (V5 m c) _).trans (Eq.trans (congrArg _ ?_) (Mix.rows_in _ _ (bOf t) (qOf t r) k ⟨t.val / 5 * 1024 + r.val, by omega⟩ (by simp only [bOf, qOf]; omega)))
  blk_ext [idx t]
theorem blk1 (t : Fin cfg0.N) (k : Fin 2048) : iblk m c 1 t (ix3 0 0 k) = Mix.shrow (m ((c.tc : Thread nD τ).loc main_arg1)) (bOf t) k := by
  have := lt_N t
  blk_simp [iblk]
  refine (congrFun (V6 m c) _).trans (Eq.trans (congrArg _ ?_) (Mix.chunks_in _ _ ⟨(bOf t).val, by omega⟩ ⟨k.val, by omega⟩))
  blk_ext [idx t, bOf]
theorem blk2 (t : Fin cfg0.N) (k : Fin 2048) : iblk m c 2 t (ix3 0 0 k) = Mix.scrow (m ((c.tc : Thread nD τ).loc main_arg1)) (bOf t) k := by
  have := lt_N t
  blk_simp [iblk]
  refine (congrFun (V6 m c) _).trans (Eq.trans (congrArg _ ?_) (Mix.chunks_in _ _ ⟨(bOf t).val, by omega⟩ ⟨2048 + k.val, by omega⟩))
  blk_ext [idx t, bOf]
theorem blk3 (t : Fin cfg0.N) (x : Fin 2048) (k : Fin 1024) : iblk m c 3 t (ix2 x k) = wcol (m ((c.tc : Thread nD τ).loc main_arg2)) (kOf t k) x := by
  have := lt_N t
  blk_simp [iblk]
  refine (congrFun (V7 m c) _).trans (congrArg (m ((c.tc : Thread nD τ).loc main_arg2)) ?_)
  blk_ext [idx t, kOf]
theorem blk4 (t : Fin cfg0.N) (k : Fin 1024) : iblk m c 4 t (ix2 0 k) = (1 : EReal) := by
  blk_simp [iblk]
  refine (congrFun (V4 m c) _).trans ?_
  exact Ideal.ofBits_one_f32
theorem blk5 (t : Fin cfg0.N) (r : Fin 1024) (l : Fin 128) (n : ℕ) (hl : l.val = n % 128) : iblk m c 5 t (ix2 r l)
    = entry (m ((c.tc : Thread nD τ).loc main_arg3)) (m ((c.tc : Thread nD τ).loc main_arg5)) (qOf t r) n := by
  have := lt_N t
  blk_simp [iblk]
  refine (congrFun (V0 m c) _).trans (Eq.trans (congrArg _ ?_) (cosines_at _ _ (qOf t r) l n hl))
  blk_ext [idx t, qOf]
theorem blk6 (t : Fin cfg0.N) (r : Fin 1024) (l : Fin 128) (n : ℕ) (hl : l.val = n % 128) : iblk m c 6 t (ix2 r l)
    = if 16 ≤ n % 32 then entry (m ((c.tc : Thread nD τ).loc main_arg4)) (m ((c.tc : Thread nD τ).loc main_arg6)) (qOf t r) n
      else -entry (m ((c.tc : Thread nD τ).loc main_arg4)) (m ((c.tc : Thread nD τ).loc main_arg6)) (qOf t r) n := by
  have := lt_N t
  blk_simp [iblk]
  refine (congrFun (V3 m c) _).trans (Eq.trans (congrArg _ ?_) (sines_at _ _ (qOf t r) l n hl))
  blk_ext [idx t, qOf]

theorem emb7 (t : Fin cfg0.N) (r : Fin 1024) (k : Fin 1024) : ((cfg0.win 7).blk t).view.emb (ix2 r k)
    = ix2 ⟨t.val / 5 * 1024 + r.val, by have := lt_N t; omega⟩ (kOf t k) := by
  have := lt_N t
  blk_ext [idx t, kOf]

end Cert.Proof.In

end
-- ==== Proof.InValue.lean ====
/- The input projection's launch leaves what its reference computes. -/
module

public import proofs.«01_k».proof.Proof.InWin

@[expose] public section

set_option maxRecDepth 16384

noncomputable section

namespace Cert.Proof.In

open Cert.KernelInIdeal Cert.KernelInIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves -/

theorem after_A (t : Fin cfg0.N) (h0 : t.val % 5 = 0) : outsAt0 m c t.val t.isLt
    = (heads (k0_pay1 (iblk m c 0 t) (iblk m c 2 t) (iblk m c 1 t)) (iblk m c 3 t) (iblk m c 4 t) (iblk m c 5 t) (iblk m c 6 t), (k0_pay1 (iblk m c 0 t) (iblk m c 2 t) (iblk m c 1 t))) := by
  rw [outsAt0_A m c t h0 (by omega) (by omega)]
  refine Prod.ext ?_ ?_
  · frame_out
    try rfl
  · frame_out

theorem after_B (t : Fin cfg0.N) (h0 : ¬ t.val % 5 = 0) (h1 : t.val % 5 ≤ 2) : outsAt0 m c t.val t.isLt
    = (heads (outsAt0 m c (t.val - 1) (by omega)).2 (iblk m c 3 t) (iblk m c 4 t) (iblk m c 5 t) (iblk m c 6 t), (outsAt0 m c (t.val - 1) (by omega)).2) := by
  rw [outsAt0_B m c t h0 h1 (by omega)]
  refine Prod.ext ?_ ?_
  · frame_out
    simp only [read_unread_whole]
    try rfl
  · frame_out
    try rfl

theorem after_C (t : Fin cfg0.N) (h1 : ¬ t.val % 5 ≤ 2) : outsAt0 m c t.val t.isLt
    = (plain (outsAt0 m c (t.val - 1) (by omega)).2 (iblk m c 3 t) (iblk m c 4 t), (outsAt0 m c (t.val - 1) (by omega)).2) := by
  rw [outsAt0_C m c t (by omega) h1 (by omega)]
  refine Prod.ext ?_ ?_
  · frame_out
    simp only [read_unread_whole]
    try rfl
  · frame_out
    try rfl

/-! ## The rows kept between points -/

/-- The rows a point holds are its tile's, whatever its column coordinate. -/
def Kept (t : Fin cfg0.N) (u : Vec Ideal S1024x2048 .bf16) : Prop :=
  ∀ r k, u (ix2 r k) = Mix.urow (m ((c.tc : Thread nD τ).loc main_arg0)) (m ((c.tc : Thread nD τ).loc main_arg1)) (bOf t) (qOf t r) k

theorem kept_A (t : Fin cfg0.N) : Kept m c t (k0_pay1 (iblk m c 0 t) (iblk m c 2 t) (iblk m c 1 t)) := by
  intro r k
  rw [rows_at, funext (blk0 m c t r), funext (blk1 m c t), funext (blk2 m c t)]
  rfl

/-- The same, of what the launch leaves after a point. -/
theorem kept_of {t : Fin cfg0.N} {s : Vec Ideal S1024x1024 .bf16 × Vec Ideal S1024x2048 .bf16} {a : Vec Ideal S1024x1024 .bf16} {b : Vec Ideal S1024x2048 .bf16}
    (e : s = (a, b)) (K : Kept m c t b) : Kept m c t s.2 := by
  subst e
  exact K

/-- Within a row tile a point keeps what the one before it kept. -/
theorem kept_step (t s : Fin cfg0.N) (h : ¬ t.val % 5 = 0) (hs : s.val = t.val - 1) (u : Vec Ideal S1024x2048 .bf16)
    (K : Kept m c s u) : Kept m c t u := by
  have hb : bOf t = bOf s := Fin.ext (by show t.val / 10 = s.val / 10; omega)
  have hq : ∀ r, qOf t r = qOf s r := fun r => Fin.ext (by show t.val / 5 % 2 * 1024 + r.val = s.val / 5 % 2 * 1024 + r.val; omega)
  intro r k
  rw [hb, hq]
  exact K r k

theorem kept : ∀ (n : ℕ) (hn : n < cfg0.N), Kept m c ⟨n, hn⟩ (outsAt0 m c n hn).2 := by
  intro n
  induction n with
  | zero =>
    intro hn
    exact kept_of m c (after_A m c ⟨0, hn⟩ rfl) (kept_A m c ⟨0, hn⟩)
  | succ n ih =>
    intro hn
    by_cases h : (n + 1) % 5 = 0
    · exact kept_of m c (after_A m c ⟨n + 1, hn⟩ h) (kept_A m c ⟨n + 1, hn⟩)
    · by_cases h1 : (n + 1) % 5 ≤ 2
      · exact kept_of m c (after_B m c ⟨n + 1, hn⟩ h h1) (kept_step m c ⟨n + 1, hn⟩ ⟨n, by omega⟩ h rfl _ (ih (by omega)))
      · exact kept_of m c (after_C m c ⟨n + 1, hn⟩ h1) (kept_step m c ⟨n + 1, hn⟩ ⟨n, by omega⟩ h rfl _ (ih (by omega)))

/-! ## The block -/

/-- The reference's result, from the launch's arguments. -/
abbrev want : Vec Ideal S16384x5120 .bf16 := Cert.ReferenceInIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem want_at (t : Fin cfg0.N) (r : Fin 1024) (k : Fin 1024) : want m c (ix2 ⟨t.val / 5 * 1024 + r.val, by have := lt_N t; omega⟩ (kOf t k))
    = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (bOf t) (qOf t r) (kOf t k) :=
  r121 _ _ _ _ _ _ _ (bOf t) (qOf t r) (kOf t k) _ (by simp only [bOf, qOf]; omega)

theorem product_eq (t : Fin cfg0.N) (u : Vec Ideal S1024x2048 .bf16) (K : Kept m c t u) (r : Fin 1024) (k : Fin 1024) :
    Up.dot (fun x => u (ix2 r x)) (fun x => iblk m c 3 t (ix2 x k)) = yrow (m ((c.tc : Thread nD τ).loc main_arg0)) (m ((c.tc : Thread nD τ).loc main_arg1)) (m ((c.tc : Thread nD τ).loc main_arg2)) (bOf t) (qOf t r) (kOf t k) := by
  rw [funext (K r), funext fun x => blk3 m c t x k]
  rfl

theorem heads_eq (t : Fin cfg0.N) (h1 : t.val % 5 ≤ 2) (u : Vec Ideal S1024x2048 .bf16) (K : Kept m c t u) (r : Fin 1024) (k : Fin 1024) :
    heads u (iblk m c 3 t) (iblk m c 4 t) (iblk m c 5 t) (iblk m c 6 t) (ix2 r k)
      = want m c (ix2 ⟨t.val / 5 * 1024 + r.val, by have := lt_N t; omega⟩ (kOf t k)) := by
  have hm : mate k.val < 1024 := by unfold mate; split <;> omega
  have hl : k.val % 128 = (kOf t k).val % 128 := by simp only [kOf]; omega
  have hk : (kOf t k).val < 3072 := by simp only [kOf]; omega
  refine (heads_at u _ _ _ _ r k ⟨mate k.val, hm⟩ ⟨k.val % 128, Nat.mod_lt _ (by omega)⟩ rfl rfl).trans ?_
  rw [product_eq m c t u K r k, product_eq m c t u K r ⟨mate k.val, hm⟩, blk4, mul_one,
    blk5 m c t r ⟨k.val % 128, Nat.mod_lt _ (by omega)⟩ (kOf t k).val hl, blk6 m c t r ⟨k.val % 128, Nat.mod_lt _ (by omega)⟩ (kOf t k).val hl,
    turned_eq, want_at]
  unfold res
  rw [dif_pos hk]
  refine congrArg (fun p => turned _ _ p _ _) (at_eq _ _ _ ?_)
  unfold mate kOf
  dsimp only
  split <;> split <;> omega

theorem plain_eq (t : Fin cfg0.N) (h1 : ¬ t.val % 5 ≤ 2) (u : Vec Ideal S1024x2048 .bf16) (K : Kept m c t u) (r : Fin 1024) (k : Fin 1024) :
    plain u (iblk m c 3 t) (iblk m c 4 t) (ix2 r k)
      = want m c (ix2 ⟨t.val / 5 * 1024 + r.val, by have := lt_N t; omega⟩ (kOf t k)) := by
  have hk : ¬ (kOf t k).val < 3072 := by simp only [kOf]; omega
  refine (plain_at u _ _ r k).trans ?_
  rw [product_eq m c t u K r k, blk4, mul_one, want_at]
  unfold res
  rw [dif_neg hk]

theorem val_of {s : Vec Ideal S1024x1024 .bf16 × Vec Ideal S1024x2048 .bf16} {a : Vec Ideal S1024x1024 .bf16} {b : Vec Ideal S1024x2048 .bf16}
    {y : S1024x1024.Idx} {w : EReal} (e : s = (a, b)) (h : a y = w) : s.1 y = w := by
  subst e
  exact h

theorem at_t (t : Fin cfg0.N) (r : Fin 1024) (k : Fin 1024) : (outsAt0 m c t.val t.isLt).1 (ix2 r k)
    = want m c (ix2 ⟨t.val / 5 * 1024 + r.val, by have := lt_N t; omega⟩ (kOf t k)) := by
  by_cases h : t.val % 5 = 0
  · exact val_of (after_A m c t h) (heads_eq m c t (by omega) _ (kept_A m c t) r k)
  · have K := kept_step m c t ⟨t.val - 1, by omega⟩ h rfl _ (kept m c (t.val - 1) (by omega))
    by_cases h1 : t.val % 5 ≤ 2
    · exact val_of (after_B m c t h h1) (heads_eq m c t h1 _ K r k)
    · exact val_of (after_C m c t h1) (plain_eq m c t h1 _ K r k)

theorem final7 : (dats m 0 c).arrAt 7 (cfgs 0).N = want m c := by
  refine (dats m 0 c).arrAt_eq_of_covers 7 _ (by decide +kernel) fun t _ y => ?_
  blk_simp
  rw [after0_7]
  obtain ⟨r, d, rfl⟩ := Mix.row_ix y
  rw [emb7]
  exact at_t m c t r d

end Cert.Proof.In

end
-- ==== Proof.InClaim.lean ====
/- The claims of the even layer's input projection. -/
module

public import proofs.«01_k».proof.Defs
public import proofs.«01_k».proof.Proof.InValue
public import proofs.«01_k».proof.Proof.Gen.KernelIn
public import proofs.«01_k».proof.Proof.Gen.KernelIn.Launch
public import proofs.«01_k».proof.Proof.Gen.ReferenceInIdeal.Run
public import Idealize.ShloMosaic.Lib.Claim

@[expose] public section

set_option maxRecDepth 16384

noncomputable section

namespace Cert.Proof.In

open Idealize.ShloMosaic Idealize.ShloMosaic.TcCoe Idealize.SL.Sem

theorem defs₀_eq : @KernelIn.defs₀ Bits _ _ = @KernelInIdeal.defs₀ Bits _ _ := by
  unfold KernelIn.defs₀ KernelInIdeal.defs₀
  refine congrArg Defs.onTc ?_
  funext x y
  match x, y with
  | 0, (t, s) => rfl
theorem defs_eq : @KernelIn.defs Bits _ _ = @KernelInIdeal.defs Bits _ _ :=
  congrArg (Pipeline.defs (KernelIn.pcfgs (F := Bits))) defs₀_eq

/-- The kernel's frame: its text is the ideal kernel's. -/
theorem frame_kernel : Cert.quiescent_KernelIn (hKernelIn := Cert.KernelIn.Gen.facts) := by
  intro m ρ _
  rw [defs_eq]
  exact Cert.KernelInIdeal.Gen.frame (F := Bits) m ρ

theorem frame_ideal : Cert.quiescent_KernelInIdeal (hKernelInIdeal := Cert.KernelInIdeal.Gen.facts) :=
  fun m ρ _ => Cert.KernelInIdeal.Gen.frame (F := Ideal) m ρ

theorem frame_ref : Cert.quiescent_ReferenceInIdeal (hReferenceInIdeal := Cert.ReferenceInIdeal.Gen.facts) := fun m ρ _ =>
  (θ_run Cert.ReferenceInIdeal.defs _ _).mono (fun r h => ⟨fun c => (h c).2, sem_eq_zero_of_no_sems (by decide) r.2⟩)
    (Cert.ReferenceInIdeal.Value.run (F := Ideal) m ρ)

theorem preserves : Cert.preserves_KernelIn_KernelInIdeal := trivial

open Cert.KernelInIdeal Cert.KernelInIdeal.Gen in
theorem algebraic : Cert.algebraic_KernelInIdeal_ReferenceInIdeal (hKernelInIdeal := Cert.KernelInIdeal.Gen.facts)
    (hReferenceInIdeal := Cert.ReferenceInIdeal.Gen.facts) := by
  intro m g m' g' _ hag
  have run : θ_run defs (onTc (τ := τ) (main (F := Ideal))) ⟨m, fun _ => 0, g⟩ (fun r => ∀ c : Dev nD,
      r.2.mem ((c.tc : Thread nD τ).loc main_v8) = want m c) :=
    (θ_run defs _ _).mono (fun r h c => ((h c).1 7).trans (final7 m c)) (run_main m g)
  refine ⟨want m, (θ_run defs _ _).mono (fun r h c => ⟨h.1 c, h.2.1 c⟩) (θ_run_and run (frame m g)), ?_⟩
  refine (θ_run Cert.ReferenceInIdeal.defs _ _).mono (fun r h c => ?_) (Cert.ReferenceInIdeal.Value.run m' g')
  obtain ⟨a, rest⟩ := h c
  obtain ⟨g0, g1, g2, g3, g4, g5, g6⟩ := hag c
  refine ⟨a.trans ?_, rest⟩
  rw [Cert.ReferenceInIdeal.Read.val_main_v121_eq, g0, g1, g2, g3, g4, g5, g6]

end Cert.Proof.In

end
-- ==== Proof.lean ====
/- The claim: the frames of the programs, the named scale, and the values of the layer's calls. -/
module

public import proofs.«01_k».proof.Defs
public import proofs.«01_k».proof.Proof.AttnFrames
public import proofs.«01_k».proof.Proof.AttnClaim
public import proofs.«01_k».proof.Proof.UpClaim
public import proofs.«01_k».proof.Proof.DownClaim
public import proofs.«01_k».proof.Proof.ActClaim
public import proofs.«01_k».proof.Proof.GateClaim
public import proofs.«01_k».proof.Proof.OutClaim
public import proofs.«01_k».proof.Proof.MergeClaim
public import proofs.«01_k».proof.Proof.InClaim

@[expose] public section

noncomputable section

namespace Cert.Proof

/-- Every claim about the differential attention, the feed-forward's two launches and the mixers' projections. -/
theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelAct.Gen.facts, Cert.KernelActIdeal.Gen.facts, Cert.ReferenceActIdeal.Gen.facts,
    Cert.KernelGate.Gen.facts, Cert.KernelGateIdeal.Gen.facts, Cert.ReferenceGateIdeal.Gen.facts,
    Cert.KernelOut.Gen.facts, Cert.KernelOutIdeal.Gen.facts, Cert.ReferenceOutIdeal.Gen.facts,
    Cert.KernelMerge.Gen.facts, Cert.KernelMergeIdeal.Gen.facts, Cert.ReferenceMergeIdeal.Gen.facts,
    Cert.KernelIn.Gen.facts, Cert.KernelInIdeal.Gen.facts, Cert.ReferenceInIdeal.Gen.facts,
    Attn.preFacts,
    Attn.frame_kernel, Attn.frame_ideal, Attn.frame_ideal_pre, Attn.frame_ref, Attn.frame_ref_pre,
    Up.frame_kernel, Up.frame_ideal, Up.frame_ref,
    Down.frame_kernel, Down.frame_ideal, Down.frame_ref,
    Act.frame_kernel, Act.frame_ideal, Act.frame_ref,
    Gate.frame_kernel, Gate.frame_ideal, Gate.frame_ref,
    Out.frame_kernel, Out.frame_ideal, Out.frame_ref,
    Merge.frame_kernel, Merge.frame_ideal, Merge.frame_ref,
    In.frame_kernel, In.frame_ideal, In.frame_ref,
    Attn.preserves, Attn.algebraic, Up.preserves, Up.algebraic, Down.preserves, Down.algebraic, Act.preserves,
    Act.algebraic, Gate.preserves, Gate.algebraic, Out.preserves, Out.algebraic, Merge.preserves, Merge.algebraic,
    In.preserves, In.algebraic⟩

end Cert.Proof

end
